-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x1024 .f32) (main_arg2 : FVec F S1x2048x64x128 .f32) (main_arg3 : FVec F S1x2048x64x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_inputs_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) (main_arg4 : FVec F S8192x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S256x1024 : Shape := ⟨2, ![256, 1024]⟩
abbrev S2048x1024 : Shape := ⟨2, ![2048, 1024]⟩
abbrev S7x256x1024 : Shape := ⟨3, ![7, 256, 1024]⟩
abbrev S8x256x1024 : Shape := ⟨3, ![8, 256, 1024]⟩
abbrev S2x2x8x512x128 : Shape := ⟨5, ![2, 2, 8, 512, 128]⟩
abbrev S14 : Shape := ⟨1, ![14]⟩
abbrev S2x2x8 : Shape := ⟨3, ![2, 2, 8]⟩
abbrev S_ : Shape := ⟨0, ![]⟩
abbrev S1x1x1 : Shape := ⟨3, ![1, 1, 1]⟩
abbrev S1x1x1x512x128 : Shape := ⟨5, ![1, 1, 1, 512, 128]⟩
abbrev S512x128 : Shape := ⟨2, ![512, 128]⟩
abbrev S1x512x1x128 : Shape := ⟨4, ![1, 512, 1, 128]⟩
abbrev S1x256x1024 : Shape := ⟨3, ![1, 256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x64x128, .f32⟩
  | .hbm, ⟨3, _⟩ => ⟨S1x2048x64x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S256x1024, .bf16⟩
  | .local _ .vmem, ⟨5, _⟩ => ⟨S2048x1024, .bf16⟩
  | .local _ .vmem, ⟨6, _⟩ => ⟨S7x256x1024, .bf16⟩
  | .local _ .vmem, ⟨7, _⟩ => ⟨S8x256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2x2x8x512x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let v44 : BitVec 32 := Scalar.subi v2 c0_i32_26
  let c8_i32_27 : BitVec 32 := 8#32
  let c0_i32_28 : BitVec 32 := 0#32
  let v45 : BitVec 1 := Scalar.cmpi .eq c8_i32_27 c0_i32_28
  let c1_i32_29 : BitVec 32 := 1#32
  let v46 : BitVec 32 := Scalar.select v45 c1_i32_29 c8_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c256_i32 : BitVec 32 := 256#32
  let v55 : BitVec 32 := Scalar.muli v54 c256_i32
  v55
def k0_mult2 (d0 : Dev nD) : BitVec 32 :=
  let c1536_i32 : BitVec 32 := 1536#32
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let v44 : BitVec 32 := Scalar.subi v2 c0_i32_26
  let c8_i32_27 : BitVec 32 := 8#32
  let c0_i32_28 : BitVec 32 := 0#32
  let v45 : BitVec 1 := Scalar.cmpi .eq c8_i32_27 c0_i32_28
  let c1_i32_29 : BitVec 32 := 1#32
  let v46 : BitVec 32 := Scalar.select v45 c1_i32_29 c8_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c256_i32 : BitVec 32 := 256#32
  let v55 : BitVec 32 := Scalar.muli v54 c256_i32
  let v56 : BitVec 32 := v55
  let c128_i32 : BitVec 32 := 128#32
  let v57 : BitVec 32 := Scalar.subi v56 c128_i32
  let v58 : BitVec 32 := Scalar.maxsi c0_i32_33 v57
  let v59 : BitVec 32 := Scalar.minsi c1536_i32 v58
  v59
def k0_off1 (d0 : Dev nD) (c0_i32_26 : BitVec 32) (c0_i32_35 : BitVec 32) : Fin 4 → Nat :=
  let c0_i32_36 : BitVec 32 := 0#32
  let c1536_i32 : BitVec 32 := 1536#32
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.subi v2 c0_i32_26
  let c8_i32_27 : BitVec 32 := 8#32
  let c0_i32_28 : BitVec 32 := 0#32
  let v45 : BitVec 1 := Scalar.cmpi .eq c8_i32_27 c0_i32_28
  let c1_i32_29 : BitVec 32 := 1#32
  let v46 : BitVec 32 := Scalar.select v45 c1_i32_29 c8_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c256_i32 : BitVec 32 := 256#32
  let v55 : BitVec 32 := Scalar.muli v54 c256_i32
  let v56 : BitVec 32 := v55
  let c128_i32 : BitVec 32 := 128#32
  let v57 : BitVec 32 := Scalar.subi v56 c128_i32
  let v58 : BitVec 32 := Scalar.maxsi c0_i32_33 v57
  let v59 : BitVec 32 := Scalar.minsi c1536_i32 v58
  let v60 : BitVec 32 := v59
  let c8_i32_34 : BitVec 32 := 8#32
  let v61 : BitVec 32 := Scalar.muli v2 c8_i32_34
  let v62 : BitVec 32 := Scalar.addi v61 c0_i32_35
  let c0_i32_45 : BitVec 32 := 0#32
  ![0, v60.toNat, v62.toNat, 0]
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_221 : BitVec 32 := 0#32
  let v189 : BitVec 32 := Scalar.subi v2 c0_i32_221
  let c8_i32_222 : BitVec 32 := 8#32
  let c0_i32_223 : BitVec 32 := 0#32
  let v190 : BitVec 1 := Scalar.cmpi .eq c8_i32_222 c0_i32_223
  let c1_i32_224 : BitVec 32 := 1#32
  let v191 : BitVec 32 := Scalar.select v190 c1_i32_224 c8_i32_222
  let v192 : BitVec 32 := Scalar.remsi v189 v191
  let c0_i32_226 : BitVec 32 := 0#32
  let v194 : BitVec 1 := Scalar.cmpi .slt v192 c0_i32_226
  let c0_i32_227 : BitVec 32 := 0#32
  let v195 : BitVec 1 := Scalar.cmpi .slt v191 c0_i32_227
  let v196 : BitVec 1 := Scalar.xori v194 v195
  let c0_i32_225 : BitVec 32 := 0#32
  let v193 : BitVec 1 := Scalar.cmpi .ne v192 c0_i32_225
  let v197 : BitVec 1 := Scalar.andi v196 v193
  let v198 : BitVec 32 := Scalar.addi v192 v191
  let v199 : BitVec 32 := Scalar.select v197 v198 v192
  let c256_i32_228 : BitVec 32 := 256#32
  let v200 : BitVec 32 := Scalar.muli v199 c256_i32_228
  v200
def k0_mult4 (d0 : Dev nD) : BitVec 32 :=
  let c1536_i32_231 : BitVec 32 := 1536#32
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_221 : BitVec 32 := 0#32
  let v189 : BitVec 32 := Scalar.subi v2 c0_i32_221
  let c8_i32_222 : BitVec 32 := 8#32
  let c0_i32_223 : BitVec 32 := 0#32
  let v190 : BitVec 1 := Scalar.cmpi .eq c8_i32_222 c0_i32_223
  let c1_i32_224 : BitVec 32 := 1#32
  let v191 : BitVec 32 := Scalar.select v190 c1_i32_224 c8_i32_222
  let v192 : BitVec 32 := Scalar.remsi v189 v191
  let c0_i32_226 : BitVec 32 := 0#32
  let v194 : BitVec 1 := Scalar.cmpi .slt v192 c0_i32_226
  let c0_i32_227 : BitVec 32 := 0#32
  let v195 : BitVec 1 := Scalar.cmpi .slt v191 c0_i32_227
  let v196 : BitVec 1 := Scalar.xori v194 v195
  let c0_i32_225 : BitVec 32 := 0#32
  let v193 : BitVec 1 := Scalar.cmpi .ne v192 c0_i32_225
  let v197 : BitVec 1 := Scalar.andi v196 v193
  let v198 : BitVec 32 := Scalar.addi v192 v191
  let v199 : BitVec 32 := Scalar.select v197 v198 v192
  let c256_i32_228 : BitVec 32 := 256#32
  let v200 : BitVec 32 := Scalar.muli v199 c256_i32_228
  let v201 : BitVec 32 := v200
  let c128_i32_229 : BitVec 32 := 128#32
  let v202 : BitVec 32 := Scalar.subi v201 c128_i32_229
  let v203 : BitVec 32 := Scalar.maxsi c0_i32_230 v202
  let v204 : BitVec 32 := Scalar.minsi c1536_i32_231 v203
  v204
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_232 : BitVec 32 := 1#32
  let v206 : BitVec 32 := Scalar.subi v2 c1_i32_232
  let c8_i32_233 : BitVec 32 := 8#32
  let c0_i32_234 : BitVec 32 := 0#32
  let v207 : BitVec 1 := Scalar.cmpi .eq c8_i32_233 c0_i32_234
  let c1_i32_235 : BitVec 32 := 1#32
  let v208 : BitVec 32 := Scalar.select v207 c1_i32_235 c8_i32_233
  let v209 : BitVec 32 := Scalar.remsi v206 v208
  let c0_i32_237 : BitVec 32 := 0#32
  let v211 : BitVec 1 := Scalar.cmpi .slt v209 c0_i32_237
  let c0_i32_238 : BitVec 32 := 0#32
  let v212 : BitVec 1 := Scalar.cmpi .slt v208 c0_i32_238
  let v213 : BitVec 1 := Scalar.xori v211 v212
  let c0_i32_236 : BitVec 32 := 0#32
  let v210 : BitVec 1 := Scalar.cmpi .ne v209 c0_i32_236
  let v214 : BitVec 1 := Scalar.andi v213 v210
  let v215 : BitVec 32 := Scalar.addi v209 v208
  let v216 : BitVec 32 := Scalar.select v214 v215 v209
  let c256_i32_239 : BitVec 32 := 256#32
  let v217 : BitVec 32 := Scalar.muli v216 c256_i32_239
  v217
def k0_mult6 (d0 : Dev nD) : BitVec 32 :=
  let c1536_i32_242 : BitVec 32 := 1536#32
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_232 : BitVec 32 := 1#32
  let v206 : BitVec 32 := Scalar.subi v2 c1_i32_232
  let c8_i32_233 : BitVec 32 := 8#32
  let c0_i32_234 : BitVec 32 := 0#32
  let v207 : BitVec 1 := Scalar.cmpi .eq c8_i32_233 c0_i32_234
  let c1_i32_235 : BitVec 32 := 1#32
  let v208 : BitVec 32 := Scalar.select v207 c1_i32_235 c8_i32_233
  let v209 : BitVec 32 := Scalar.remsi v206 v208
  let c0_i32_237 : BitVec 32 := 0#32
  let v211 : BitVec 1 := Scalar.cmpi .slt v209 c0_i32_237
  let c0_i32_238 : BitVec 32 := 0#32
  let v212 : BitVec 1 := Scalar.cmpi .slt v208 c0_i32_238
  let v213 : BitVec 1 := Scalar.xori v211 v212
  let c0_i32_236 : BitVec 32 := 0#32
  let v210 : BitVec 1 := Scalar.cmpi .ne v209 c0_i32_236
  let v214 : BitVec 1 := Scalar.andi v213 v210
  let v215 : BitVec 32 := Scalar.addi v209 v208
  let v216 : BitVec 32 := Scalar.select v214 v215 v209
  let c256_i32_239 : BitVec 32 := 256#32
  let v217 : BitVec 32 := Scalar.muli v216 c256_i32_239
  let v218 : BitVec 32 := v217
  let c128_i32_240 : BitVec 32 := 128#32
  let v219 : BitVec 32 := Scalar.subi v218 c128_i32_240
  let v220 : BitVec 32 := Scalar.maxsi c0_i32_241 v219
  let v221 : BitVec 32 := Scalar.minsi c1536_i32_242 v220
  v221
def k0_off2 (d0 : Dev nD) (c0_i32_221 : BitVec 32) : Fin 3 → Nat :=
  let c0_435 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v189 : BitVec 32 := Scalar.subi v2 c0_i32_221
  let c8_i32_222 : BitVec 32 := 8#32
  let c0_i32_223 : BitVec 32 := 0#32
  let v190 : BitVec 1 := Scalar.cmpi .eq c8_i32_222 c0_i32_223
  let c1_i32_224 : BitVec 32 := 1#32
  let v191 : BitVec 32 := Scalar.select v190 c1_i32_224 c8_i32_222
  let v192 : BitVec 32 := Scalar.remsi v189 v191
  let c0_i32_226 : BitVec 32 := 0#32
  let v194 : BitVec 1 := Scalar.cmpi .slt v192 c0_i32_226
  let c0_i32_227 : BitVec 32 := 0#32
  let v195 : BitVec 1 := Scalar.cmpi .slt v191 c0_i32_227
  let v196 : BitVec 1 := Scalar.xori v194 v195
  let c0_i32_225 : BitVec 32 := 0#32
  let v193 : BitVec 1 := Scalar.cmpi .ne v192 c0_i32_225
  let v197 : BitVec 1 := Scalar.andi v196 v193
  let v198 : BitVec 32 := Scalar.addi v192 v191
  let v199 : BitVec 32 := Scalar.select v197 v198 v192
  let c256_i32_228 : BitVec 32 := 256#32
  let v200 : BitVec 32 := Scalar.muli v199 c256_i32_228
  let v201 : BitVec 32 := v200
  let v351 : Index := Scalar.indexCast v201
  let c0_436 : Index := 0#32
  ![0, v351.toNat, 0]
def k0_off3 (d0 : Dev nD) (c0_i32_221 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v189 : BitVec 32 := Scalar.subi v2 c0_i32_221
  let c8_i32_222 : BitVec 32 := 8#32
  let c0_i32_223 : BitVec 32 := 0#32
  let v190 : BitVec 1 := Scalar.cmpi .eq c8_i32_222 c0_i32_223
  let c1_i32_224 : BitVec 32 := 1#32
  let v191 : BitVec 32 := Scalar.select v190 c1_i32_224 c8_i32_222
  let v192 : BitVec 32 := Scalar.remsi v189 v191
  let c0_i32_226 : BitVec 32 := 0#32
  let v194 : BitVec 1 := Scalar.cmpi .slt v192 c0_i32_226
  let c0_i32_227 : BitVec 32 := 0#32
  let v195 : BitVec 1 := Scalar.cmpi .slt v191 c0_i32_227
  let v196 : BitVec 1 := Scalar.xori v194 v195
  let c0_i32_225 : BitVec 32 := 0#32
  let v193 : BitVec 1 := Scalar.cmpi .ne v192 c0_i32_225
  let v197 : BitVec 1 := Scalar.andi v196 v193
  let v198 : BitVec 32 := Scalar.addi v192 v191
  let v199 : BitVec 32 := Scalar.select v197 v198 v192
  let c256_i32_228 : BitVec 32 := 256#32
  let v200 : BitVec 32 := Scalar.muli v199 c256_i32_228
  let v201 : BitVec 32 := v200
  let v647 : Index := Scalar.indexCast v201
  let c0_722 : Index := 0#32
  ![v647.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_723 : BitVec 32 := 256#32
  let v651 : BitVec 32 := Scalar.muli v2 c256_i32_723
  let c0_i32_731 : BitVec 32 := 0#32
  ![v651.toNat, 0]
def k0_dev3 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_727 : BitVec 32 := 1#32
  let v652 : BitVec 32 := Scalar.muli v24 c1_i32_727
  let v653 : BitVec 32 := Scalar.addi c0_i32_728 v652
  v653.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_740 : BitVec 32 := 1#32
  let v673 : BitVec 32 := Scalar.subi v2 c1_i32_740
  let c8_i32_741 : BitVec 32 := 8#32
  let c0_i32_742 : BitVec 32 := 0#32
  let v674 : BitVec 1 := Scalar.cmpi .eq c8_i32_741 c0_i32_742
  let c1_i32_743 : BitVec 32 := 1#32
  let v675 : BitVec 32 := Scalar.select v674 c1_i32_743 c8_i32_741
  let v676 : BitVec 32 := Scalar.remsi v673 v675
  let c0_i32_745 : BitVec 32 := 0#32
  let v678 : BitVec 1 := Scalar.cmpi .slt v676 c0_i32_745
  let c0_i32_746 : BitVec 32 := 0#32
  let v679 : BitVec 1 := Scalar.cmpi .slt v675 c0_i32_746
  let v680 : BitVec 1 := Scalar.xori v678 v679
  let c0_i32_744 : BitVec 32 := 0#32
  let v677 : BitVec 1 := Scalar.cmpi .ne v676 c0_i32_744
  let v681 : BitVec 1 := Scalar.andi v680 v677
  let v682 : BitVec 32 := Scalar.addi v676 v675
  let v683 : BitVec 32 := Scalar.select v681 v682 v676
  let c256_i32_747 : BitVec 32 := 256#32
  let v684 : BitVec 32 := Scalar.muli v683 c256_i32_747
  v684
def k0_mult8 (d0 : Dev nD) : BitVec 32 :=
  let c1536_i32_750 : BitVec 32 := 1536#32
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_740 : BitVec 32 := 1#32
  let v673 : BitVec 32 := Scalar.subi v2 c1_i32_740
  let c8_i32_741 : BitVec 32 := 8#32
  let c0_i32_742 : BitVec 32 := 0#32
  let v674 : BitVec 1 := Scalar.cmpi .eq c8_i32_741 c0_i32_742
  let c1_i32_743 : BitVec 32 := 1#32
  let v675 : BitVec 32 := Scalar.select v674 c1_i32_743 c8_i32_741
  let v676 : BitVec 32 := Scalar.remsi v673 v675
  let c0_i32_745 : BitVec 32 := 0#32
  let v678 : BitVec 1 := Scalar.cmpi .slt v676 c0_i32_745
  let c0_i32_746 : BitVec 32 := 0#32
  let v679 : BitVec 1 := Scalar.cmpi .slt v675 c0_i32_746
  let v680 : BitVec 1 := Scalar.xori v678 v679
  let c0_i32_744 : BitVec 32 := 0#32
  let v677 : BitVec 1 := Scalar.cmpi .ne v676 c0_i32_744
  let v681 : BitVec 1 := Scalar.andi v680 v677
  let v682 : BitVec 32 := Scalar.addi v676 v675
  let v683 : BitVec 32 := Scalar.select v681 v682 v676
  let c256_i32_747 : BitVec 32 := 256#32
  let v684 : BitVec 32 := Scalar.muli v683 c256_i32_747
  let v685 : BitVec 32 := v684
  let c128_i32_748 : BitVec 32 := 128#32
  let v686 : BitVec 32 := Scalar.subi v685 c128_i32_748
  let v687 : BitVec 32 := Scalar.maxsi c0_i32_749 v686
  let v688 : BitVec 32 := Scalar.minsi c1536_i32_750 v687
  v688
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_751 : BitVec 32 := 2#32
  let v690 : BitVec 32 := Scalar.subi v2 c2_i32_751
  let c8_i32_752 : BitVec 32 := 8#32
  let c0_i32_753 : BitVec 32 := 0#32
  let v691 : BitVec 1 := Scalar.cmpi .eq c8_i32_752 c0_i32_753
  let c1_i32_754 : BitVec 32 := 1#32
  let v692 : BitVec 32 := Scalar.select v691 c1_i32_754 c8_i32_752
  let v693 : BitVec 32 := Scalar.remsi v690 v692
  let c0_i32_756 : BitVec 32 := 0#32
  let v695 : BitVec 1 := Scalar.cmpi .slt v693 c0_i32_756
  let c0_i32_757 : BitVec 32 := 0#32
  let v696 : BitVec 1 := Scalar.cmpi .slt v692 c0_i32_757
  let v697 : BitVec 1 := Scalar.xori v695 v696
  let c0_i32_755 : BitVec 32 := 0#32
  let v694 : BitVec 1 := Scalar.cmpi .ne v693 c0_i32_755
  let v698 : BitVec 1 := Scalar.andi v697 v694
  let v699 : BitVec 32 := Scalar.addi v693 v692
  let v700 : BitVec 32 := Scalar.select v698 v699 v693
  let c256_i32_758 : BitVec 32 := 256#32
  let v701 : BitVec 32 := Scalar.muli v700 c256_i32_758
  v701
def k0_mult10 (d0 : Dev nD) : BitVec 32 :=
  let c1536_i32_761 : BitVec 32 := 1536#32
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_751 : BitVec 32 := 2#32
  let v690 : BitVec 32 := Scalar.subi v2 c2_i32_751
  let c8_i32_752 : BitVec 32 := 8#32
  let c0_i32_753 : BitVec 32 := 0#32
  let v691 : BitVec 1 := Scalar.cmpi .eq c8_i32_752 c0_i32_753
  let c1_i32_754 : BitVec 32 := 1#32
  let v692 : BitVec 32 := Scalar.select v691 c1_i32_754 c8_i32_752
  let v693 : BitVec 32 := Scalar.remsi v690 v692
  let c0_i32_756 : BitVec 32 := 0#32
  let v695 : BitVec 1 := Scalar.cmpi .slt v693 c0_i32_756
  let c0_i32_757 : BitVec 32 := 0#32
  let v696 : BitVec 1 := Scalar.cmpi .slt v692 c0_i32_757
  let v697 : BitVec 1 := Scalar.xori v695 v696
  let c0_i32_755 : BitVec 32 := 0#32
  let v694 : BitVec 1 := Scalar.cmpi .ne v693 c0_i32_755
  let v698 : BitVec 1 := Scalar.andi v697 v694
  let v699 : BitVec 32 := Scalar.addi v693 v692
  let v700 : BitVec 32 := Scalar.select v698 v699 v693
  let c256_i32_758 : BitVec 32 := 256#32
  let v701 : BitVec 32 := Scalar.muli v700 c256_i32_758
  let v702 : BitVec 32 := v701
  let c128_i32_759 : BitVec 32 := 128#32
  let v703 : BitVec 32 := Scalar.subi v702 c128_i32_759
  let v704 : BitVec 32 := Scalar.maxsi c0_i32_760 v703
  let v705 : BitVec 32 := Scalar.minsi c1536_i32_761 v704
  v705
def k0_off5 (d0 : Dev nD) (c0_i32_733 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_732 : BitVec 32 := 1#32
  let v661 : BitVec 32 := Scalar.subi v2 c1_i32_732
  let v662 : BitVec 32 := Scalar.subi v661 c0_i32_733
  let c8_i32_734 : BitVec 32 := 8#32
  let c0_i32_735 : BitVec 32 := 0#32
  let v663 : BitVec 1 := Scalar.cmpi .eq c8_i32_734 c0_i32_735
  let c1_i32_736 : BitVec 32 := 1#32
  let v664 : BitVec 32 := Scalar.select v663 c1_i32_736 c8_i32_734
  let v665 : BitVec 32 := Scalar.remsi v662 v664
  let c0_i32_738 : BitVec 32 := 0#32
  let v667 : BitVec 1 := Scalar.cmpi .slt v665 c0_i32_738
  let c0_i32_739 : BitVec 32 := 0#32
  let v668 : BitVec 1 := Scalar.cmpi .slt v664 c0_i32_739
  let v669 : BitVec 1 := Scalar.xori v667 v668
  let c0_i32_737 : BitVec 32 := 0#32
  let v666 : BitVec 1 := Scalar.cmpi .ne v665 c0_i32_737
  let v670 : BitVec 1 := Scalar.andi v669 v666
  let v671 : BitVec 32 := Scalar.addi v665 v664
  let v672 : BitVec 32 := Scalar.select v670 v671 v665
  let c256_i32_1274 : BitVec 32 := 256#32
  let v1149 : BitVec 32 := Scalar.muli v672 c256_i32_1274
  let v1150 : Index := Scalar.indexCast v1149
  let c0_1275 : Index := 0#32
  ![v1150.toNat, 0]
def k0_dev4 (d0 : Dev nD) : Nat :=
  let c0_i32_1284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1283 : BitVec 32 := 1#32
  let v1156 : BitVec 32 := Scalar.muli v24 c1_i32_1283
  let v1157 : BitVec 32 := Scalar.addi c0_i32_1284 v1156
  v1157.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1297 : BitVec 32 := 2#32
  let v1178 : BitVec 32 := Scalar.subi v2 c2_i32_1297
  let c8_i32_1298 : BitVec 32 := 8#32
  let c0_i32_1299 : BitVec 32 := 0#32
  let v1179 : BitVec 1 := Scalar.cmpi .eq c8_i32_1298 c0_i32_1299
  let c1_i32_1300 : BitVec 32 := 1#32
  let v1180 : BitVec 32 := Scalar.select v1179 c1_i32_1300 c8_i32_1298
  let v1181 : BitVec 32 := Scalar.remsi v1178 v1180
  let c0_i32_1302 : BitVec 32 := 0#32
  let v1183 : BitVec 1 := Scalar.cmpi .slt v1181 c0_i32_1302
  let c0_i32_1303 : BitVec 32 := 0#32
  let v1184 : BitVec 1 := Scalar.cmpi .slt v1180 c0_i32_1303
  let v1185 : BitVec 1 := Scalar.xori v1183 v1184
  let c0_i32_1301 : BitVec 32 := 0#32
  let v1182 : BitVec 1 := Scalar.cmpi .ne v1181 c0_i32_1301
  let v1186 : BitVec 1 := Scalar.andi v1185 v1182
  let v1187 : BitVec 32 := Scalar.addi v1181 v1180
  let v1188 : BitVec 32 := Scalar.select v1186 v1187 v1181
  let c256_i32_1304 : BitVec 32 := 256#32
  let v1189 : BitVec 32 := Scalar.muli v1188 c256_i32_1304
  v1189
def k0_mult12 (d0 : Dev nD) : BitVec 32 :=
  let c1536_i32_1307 : BitVec 32 := 1536#32
  let c0_i32_1306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1297 : BitVec 32 := 2#32
  let v1178 : BitVec 32 := Scalar.subi v2 c2_i32_1297
  let c8_i32_1298 : BitVec 32 := 8#32
  let c0_i32_1299 : BitVec 32 := 0#32
  let v1179 : BitVec 1 := Scalar.cmpi .eq c8_i32_1298 c0_i32_1299
  let c1_i32_1300 : BitVec 32 := 1#32
  let v1180 : BitVec 32 := Scalar.select v1179 c1_i32_1300 c8_i32_1298
  let v1181 : BitVec 32 := Scalar.remsi v1178 v1180
  let c0_i32_1302 : BitVec 32 := 0#32
  let v1183 : BitVec 1 := Scalar.cmpi .slt v1181 c0_i32_1302
  let c0_i32_1303 : BitVec 32 := 0#32
  let v1184 : BitVec 1 := Scalar.cmpi .slt v1180 c0_i32_1303
  let v1185 : BitVec 1 := Scalar.xori v1183 v1184
  let c0_i32_1301 : BitVec 32 := 0#32
  let v1182 : BitVec 1 := Scalar.cmpi .ne v1181 c0_i32_1301
  let v1186 : BitVec 1 := Scalar.andi v1185 v1182
  let v1187 : BitVec 32 := Scalar.addi v1181 v1180
  let v1188 : BitVec 32 := Scalar.select v1186 v1187 v1181
  let c256_i32_1304 : BitVec 32 := 256#32
  let v1189 : BitVec 32 := Scalar.muli v1188 c256_i32_1304
  let v1190 : BitVec 32 := v1189
  let c128_i32_1305 : BitVec 32 := 128#32
  let v1191 : BitVec 32 := Scalar.subi v1190 c128_i32_1305
  let v1192 : BitVec 32 := Scalar.maxsi c0_i32_1306 v1191
  let v1193 : BitVec 32 := Scalar.minsi c1536_i32_1307 v1192
  v1193
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1308 : BitVec 32 := 3#32
  let v1195 : BitVec 32 := Scalar.subi v2 c3_i32_1308
  let c8_i32_1309 : BitVec 32 := 8#32
  let c0_i32_1310 : BitVec 32 := 0#32
  let v1196 : BitVec 1 := Scalar.cmpi .eq c8_i32_1309 c0_i32_1310
  let c1_i32_1311 : BitVec 32 := 1#32
  let v1197 : BitVec 32 := Scalar.select v1196 c1_i32_1311 c8_i32_1309
  let v1198 : BitVec 32 := Scalar.remsi v1195 v1197
  let c0_i32_1313 : BitVec 32 := 0#32
  let v1200 : BitVec 1 := Scalar.cmpi .slt v1198 c0_i32_1313
  let c0_i32_1314 : BitVec 32 := 0#32
  let v1201 : BitVec 1 := Scalar.cmpi .slt v1197 c0_i32_1314
  let v1202 : BitVec 1 := Scalar.xori v1200 v1201
  let c0_i32_1312 : BitVec 32 := 0#32
  let v1199 : BitVec 1 := Scalar.cmpi .ne v1198 c0_i32_1312
  let v1203 : BitVec 1 := Scalar.andi v1202 v1199
  let v1204 : BitVec 32 := Scalar.addi v1198 v1197
  let v1205 : BitVec 32 := Scalar.select v1203 v1204 v1198
  let c256_i32_1315 : BitVec 32 := 256#32
  let v1206 : BitVec 32 := Scalar.muli v1205 c256_i32_1315
  v1206
def k0_mult14 (d0 : Dev nD) : BitVec 32 :=
  let c1536_i32_1318 : BitVec 32 := 1536#32
  let c0_i32_1317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1308 : BitVec 32 := 3#32
  let v1195 : BitVec 32 := Scalar.subi v2 c3_i32_1308
  let c8_i32_1309 : BitVec 32 := 8#32
  let c0_i32_1310 : BitVec 32 := 0#32
  let v1196 : BitVec 1 := Scalar.cmpi .eq c8_i32_1309 c0_i32_1310
  let c1_i32_1311 : BitVec 32 := 1#32
  let v1197 : BitVec 32 := Scalar.select v1196 c1_i32_1311 c8_i32_1309
  let v1198 : BitVec 32 := Scalar.remsi v1195 v1197
  let c0_i32_1313 : BitVec 32 := 0#32
  let v1200 : BitVec 1 := Scalar.cmpi .slt v1198 c0_i32_1313
  let c0_i32_1314 : BitVec 32 := 0#32
  let v1201 : BitVec 1 := Scalar.cmpi .slt v1197 c0_i32_1314
  let v1202 : BitVec 1 := Scalar.xori v1200 v1201
  let c0_i32_1312 : BitVec 32 := 0#32
  let v1199 : BitVec 1 := Scalar.cmpi .ne v1198 c0_i32_1312
  let v1203 : BitVec 1 := Scalar.andi v1202 v1199
  let v1204 : BitVec 32 := Scalar.addi v1198 v1197
  let v1205 : BitVec 32 := Scalar.select v1203 v1204 v1198
  let c256_i32_1315 : BitVec 32 := 256#32
  let v1206 : BitVec 32 := Scalar.muli v1205 c256_i32_1315
  let v1207 : BitVec 32 := v1206
  let c128_i32_1316 : BitVec 32 := 128#32
  let v1208 : BitVec 32 := Scalar.subi v1207 c128_i32_1316
  let v1209 : BitVec 32 := Scalar.maxsi c0_i32_1317 v1208
  let v1210 : BitVec 32 := Scalar.minsi c1536_i32_1318 v1209
  v1210
def k0_dev5 (d0 : Dev nD) : Nat :=
  let c0_i32_1845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1844 : BitVec 32 := 1#32
  let v1663 : BitVec 32 := Scalar.muli v24 c1_i32_1844
  let v1664 : BitVec 32 := Scalar.addi c0_i32_1845 v1663
  v1664.toNat
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1858 : BitVec 32 := 3#32
  let v1685 : BitVec 32 := Scalar.subi v2 c3_i32_1858
  let c8_i32_1859 : BitVec 32 := 8#32
  let c0_i32_1860 : BitVec 32 := 0#32
  let v1686 : BitVec 1 := Scalar.cmpi .eq c8_i32_1859 c0_i32_1860
  let c1_i32_1861 : BitVec 32 := 1#32
  let v1687 : BitVec 32 := Scalar.select v1686 c1_i32_1861 c8_i32_1859
  let v1688 : BitVec 32 := Scalar.remsi v1685 v1687
  let c0_i32_1863 : BitVec 32 := 0#32
  let v1690 : BitVec 1 := Scalar.cmpi .slt v1688 c0_i32_1863
  let c0_i32_1864 : BitVec 32 := 0#32
  let v1691 : BitVec 1 := Scalar.cmpi .slt v1687 c0_i32_1864
  let v1692 : BitVec 1 := Scalar.xori v1690 v1691
  let c0_i32_1862 : BitVec 32 := 0#32
  let v1689 : BitVec 1 := Scalar.cmpi .ne v1688 c0_i32_1862
  let v1693 : BitVec 1 := Scalar.andi v1692 v1689
  let v1694 : BitVec 32 := Scalar.addi v1688 v1687
  let v1695 : BitVec 32 := Scalar.select v1693 v1694 v1688
  let c256_i32_1865 : BitVec 32 := 256#32
  let v1696 : BitVec 32 := Scalar.muli v1695 c256_i32_1865
  v1696
def k0_mult16 (d0 : Dev nD) : BitVec 32 :=
  let c1536_i32_1868 : BitVec 32 := 1536#32
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1858 : BitVec 32 := 3#32
  let v1685 : BitVec 32 := Scalar.subi v2 c3_i32_1858
  let c8_i32_1859 : BitVec 32 := 8#32
  let c0_i32_1860 : BitVec 32 := 0#32
  let v1686 : BitVec 1 := Scalar.cmpi .eq c8_i32_1859 c0_i32_1860
  let c1_i32_1861 : BitVec 32 := 1#32
  let v1687 : BitVec 32 := Scalar.select v1686 c1_i32_1861 c8_i32_1859
  let v1688 : BitVec 32 := Scalar.remsi v1685 v1687
  let c0_i32_1863 : BitVec 32 := 0#32
  let v1690 : BitVec 1 := Scalar.cmpi .slt v1688 c0_i32_1863
  let c0_i32_1864 : BitVec 32 := 0#32
  let v1691 : BitVec 1 := Scalar.cmpi .slt v1687 c0_i32_1864
  let v1692 : BitVec 1 := Scalar.xori v1690 v1691
  let c0_i32_1862 : BitVec 32 := 0#32
  let v1689 : BitVec 1 := Scalar.cmpi .ne v1688 c0_i32_1862
  let v1693 : BitVec 1 := Scalar.andi v1692 v1689
  let v1694 : BitVec 32 := Scalar.addi v1688 v1687
  let v1695 : BitVec 32 := Scalar.select v1693 v1694 v1688
  let c256_i32_1865 : BitVec 32 := 256#32
  let v1696 : BitVec 32 := Scalar.muli v1695 c256_i32_1865
  let v1697 : BitVec 32 := v1696
  let c128_i32_1866 : BitVec 32 := 128#32
  let v1698 : BitVec 32 := Scalar.subi v1697 c128_i32_1866
  let v1699 : BitVec 32 := Scalar.maxsi c0_i32_1867 v1698
  let v1700 : BitVec 32 := Scalar.minsi c1536_i32_1868 v1699
  v1700
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1869 : BitVec 32 := 4#32
  let v1702 : BitVec 32 := Scalar.subi v2 c4_i32_1869
  let c8_i32_1870 : BitVec 32 := 8#32
  let c0_i32_1871 : BitVec 32 := 0#32
  let v1703 : BitVec 1 := Scalar.cmpi .eq c8_i32_1870 c0_i32_1871
  let c1_i32_1872 : BitVec 32 := 1#32
  let v1704 : BitVec 32 := Scalar.select v1703 c1_i32_1872 c8_i32_1870
  let v1705 : BitVec 32 := Scalar.remsi v1702 v1704
  let c0_i32_1874 : BitVec 32 := 0#32
  let v1707 : BitVec 1 := Scalar.cmpi .slt v1705 c0_i32_1874
  let c0_i32_1875 : BitVec 32 := 0#32
  let v1708 : BitVec 1 := Scalar.cmpi .slt v1704 c0_i32_1875
  let v1709 : BitVec 1 := Scalar.xori v1707 v1708
  let c0_i32_1873 : BitVec 32 := 0#32
  let v1706 : BitVec 1 := Scalar.cmpi .ne v1705 c0_i32_1873
  let v1710 : BitVec 1 := Scalar.andi v1709 v1706
  let v1711 : BitVec 32 := Scalar.addi v1705 v1704
  let v1712 : BitVec 32 := Scalar.select v1710 v1711 v1705
  let c256_i32_1876 : BitVec 32 := 256#32
  let v1713 : BitVec 32 := Scalar.muli v1712 c256_i32_1876
  v1713
def k0_mult18 (d0 : Dev nD) : BitVec 32 :=
  let c1536_i32_1879 : BitVec 32 := 1536#32
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1869 : BitVec 32 := 4#32
  let v1702 : BitVec 32 := Scalar.subi v2 c4_i32_1869
  let c8_i32_1870 : BitVec 32 := 8#32
  let c0_i32_1871 : BitVec 32 := 0#32
  let v1703 : BitVec 1 := Scalar.cmpi .eq c8_i32_1870 c0_i32_1871
  let c1_i32_1872 : BitVec 32 := 1#32
  let v1704 : BitVec 32 := Scalar.select v1703 c1_i32_1872 c8_i32_1870
  let v1705 : BitVec 32 := Scalar.remsi v1702 v1704
  let c0_i32_1874 : BitVec 32 := 0#32
  let v1707 : BitVec 1 := Scalar.cmpi .slt v1705 c0_i32_1874
  let c0_i32_1875 : BitVec 32 := 0#32
  let v1708 : BitVec 1 := Scalar.cmpi .slt v1704 c0_i32_1875
  let v1709 : BitVec 1 := Scalar.xori v1707 v1708
  let c0_i32_1873 : BitVec 32 := 0#32
  let v1706 : BitVec 1 := Scalar.cmpi .ne v1705 c0_i32_1873
  let v1710 : BitVec 1 := Scalar.andi v1709 v1706
  let v1711 : BitVec 32 := Scalar.addi v1705 v1704
  let v1712 : BitVec 32 := Scalar.select v1710 v1711 v1705
  let c256_i32_1876 : BitVec 32 := 256#32
  let v1713 : BitVec 32 := Scalar.muli v1712 c256_i32_1876
  let v1714 : BitVec 32 := v1713
  let c128_i32_1877 : BitVec 32 := 128#32
  let v1715 : BitVec 32 := Scalar.subi v1714 c128_i32_1877
  let v1716 : BitVec 32 := Scalar.maxsi c0_i32_1878 v1715
  let v1717 : BitVec 32 := Scalar.minsi c1536_i32_1879 v1716
  v1717
def k0_dev6 (d0 : Dev nD) : Nat :=
  let c0_i32_2406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2405 : BitVec 32 := 1#32
  let v2170 : BitVec 32 := Scalar.muli v24 c1_i32_2405
  let v2171 : BitVec 32 := Scalar.addi c0_i32_2406 v2170
  v2171.toNat
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2419 : BitVec 32 := 4#32
  let v2192 : BitVec 32 := Scalar.subi v2 c4_i32_2419
  let c8_i32_2420 : BitVec 32 := 8#32
  let c0_i32_2421 : BitVec 32 := 0#32
  let v2193 : BitVec 1 := Scalar.cmpi .eq c8_i32_2420 c0_i32_2421
  let c1_i32_2422 : BitVec 32 := 1#32
  let v2194 : BitVec 32 := Scalar.select v2193 c1_i32_2422 c8_i32_2420
  let v2195 : BitVec 32 := Scalar.remsi v2192 v2194
  let c0_i32_2424 : BitVec 32 := 0#32
  let v2197 : BitVec 1 := Scalar.cmpi .slt v2195 c0_i32_2424
  let c0_i32_2425 : BitVec 32 := 0#32
  let v2198 : BitVec 1 := Scalar.cmpi .slt v2194 c0_i32_2425
  let v2199 : BitVec 1 := Scalar.xori v2197 v2198
  let c0_i32_2423 : BitVec 32 := 0#32
  let v2196 : BitVec 1 := Scalar.cmpi .ne v2195 c0_i32_2423
  let v2200 : BitVec 1 := Scalar.andi v2199 v2196
  let v2201 : BitVec 32 := Scalar.addi v2195 v2194
  let v2202 : BitVec 32 := Scalar.select v2200 v2201 v2195
  let c256_i32_2426 : BitVec 32 := 256#32
  let v2203 : BitVec 32 := Scalar.muli v2202 c256_i32_2426
  v2203
def k0_mult20 (d0 : Dev nD) : BitVec 32 :=
  let c1536_i32_2429 : BitVec 32 := 1536#32
  let c0_i32_2428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2419 : BitVec 32 := 4#32
  let v2192 : BitVec 32 := Scalar.subi v2 c4_i32_2419
  let c8_i32_2420 : BitVec 32 := 8#32
  let c0_i32_2421 : BitVec 32 := 0#32
  let v2193 : BitVec 1 := Scalar.cmpi .eq c8_i32_2420 c0_i32_2421
  let c1_i32_2422 : BitVec 32 := 1#32
  let v2194 : BitVec 32 := Scalar.select v2193 c1_i32_2422 c8_i32_2420
  let v2195 : BitVec 32 := Scalar.remsi v2192 v2194
  let c0_i32_2424 : BitVec 32 := 0#32
  let v2197 : BitVec 1 := Scalar.cmpi .slt v2195 c0_i32_2424
  let c0_i32_2425 : BitVec 32 := 0#32
  let v2198 : BitVec 1 := Scalar.cmpi .slt v2194 c0_i32_2425
  let v2199 : BitVec 1 := Scalar.xori v2197 v2198
  let c0_i32_2423 : BitVec 32 := 0#32
  let v2196 : BitVec 1 := Scalar.cmpi .ne v2195 c0_i32_2423
  let v2200 : BitVec 1 := Scalar.andi v2199 v2196
  let v2201 : BitVec 32 := Scalar.addi v2195 v2194
  let v2202 : BitVec 32 := Scalar.select v2200 v2201 v2195
  let c256_i32_2426 : BitVec 32 := 256#32
  let v2203 : BitVec 32 := Scalar.muli v2202 c256_i32_2426
  let v2204 : BitVec 32 := v2203
  let c128_i32_2427 : BitVec 32 := 128#32
  let v2205 : BitVec 32 := Scalar.subi v2204 c128_i32_2427
  let v2206 : BitVec 32 := Scalar.maxsi c0_i32_2428 v2205
  let v2207 : BitVec 32 := Scalar.minsi c1536_i32_2429 v2206
  v2207
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2430 : BitVec 32 := 5#32
  let v2209 : BitVec 32 := Scalar.subi v2 c5_i32_2430
  let c8_i32_2431 : BitVec 32 := 8#32
  let c0_i32_2432 : BitVec 32 := 0#32
  let v2210 : BitVec 1 := Scalar.cmpi .eq c8_i32_2431 c0_i32_2432
  let c1_i32_2433 : BitVec 32 := 1#32
  let v2211 : BitVec 32 := Scalar.select v2210 c1_i32_2433 c8_i32_2431
  let v2212 : BitVec 32 := Scalar.remsi v2209 v2211
  let c0_i32_2435 : BitVec 32 := 0#32
  let v2214 : BitVec 1 := Scalar.cmpi .slt v2212 c0_i32_2435
  let c0_i32_2436 : BitVec 32 := 0#32
  let v2215 : BitVec 1 := Scalar.cmpi .slt v2211 c0_i32_2436
  let v2216 : BitVec 1 := Scalar.xori v2214 v2215
  let c0_i32_2434 : BitVec 32 := 0#32
  let v2213 : BitVec 1 := Scalar.cmpi .ne v2212 c0_i32_2434
  let v2217 : BitVec 1 := Scalar.andi v2216 v2213
  let v2218 : BitVec 32 := Scalar.addi v2212 v2211
  let v2219 : BitVec 32 := Scalar.select v2217 v2218 v2212
  let c256_i32_2437 : BitVec 32 := 256#32
  let v2220 : BitVec 32 := Scalar.muli v2219 c256_i32_2437
  v2220
def k0_mult22 (d0 : Dev nD) : BitVec 32 :=
  let c1536_i32_2440 : BitVec 32 := 1536#32
  let c0_i32_2439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2430 : BitVec 32 := 5#32
  let v2209 : BitVec 32 := Scalar.subi v2 c5_i32_2430
  let c8_i32_2431 : BitVec 32 := 8#32
  let c0_i32_2432 : BitVec 32 := 0#32
  let v2210 : BitVec 1 := Scalar.cmpi .eq c8_i32_2431 c0_i32_2432
  let c1_i32_2433 : BitVec 32 := 1#32
  let v2211 : BitVec 32 := Scalar.select v2210 c1_i32_2433 c8_i32_2431
  let v2212 : BitVec 32 := Scalar.remsi v2209 v2211
  let c0_i32_2435 : BitVec 32 := 0#32
  let v2214 : BitVec 1 := Scalar.cmpi .slt v2212 c0_i32_2435
  let c0_i32_2436 : BitVec 32 := 0#32
  let v2215 : BitVec 1 := Scalar.cmpi .slt v2211 c0_i32_2436
  let v2216 : BitVec 1 := Scalar.xori v2214 v2215
  let c0_i32_2434 : BitVec 32 := 0#32
  let v2213 : BitVec 1 := Scalar.cmpi .ne v2212 c0_i32_2434
  let v2217 : BitVec 1 := Scalar.andi v2216 v2213
  let v2218 : BitVec 32 := Scalar.addi v2212 v2211
  let v2219 : BitVec 32 := Scalar.select v2217 v2218 v2212
  let c256_i32_2437 : BitVec 32 := 256#32
  let v2220 : BitVec 32 := Scalar.muli v2219 c256_i32_2437
  let v2221 : BitVec 32 := v2220
  let c128_i32_2438 : BitVec 32 := 128#32
  let v2222 : BitVec 32 := Scalar.subi v2221 c128_i32_2438
  let v2223 : BitVec 32 := Scalar.maxsi c0_i32_2439 v2222
  let v2224 : BitVec 32 := Scalar.minsi c1536_i32_2440 v2223
  v2224
def k0_dev7 (d0 : Dev nD) : Nat :=
  let c0_i32_2967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2966 : BitVec 32 := 1#32
  let v2677 : BitVec 32 := Scalar.muli v24 c1_i32_2966
  let v2678 : BitVec 32 := Scalar.addi c0_i32_2967 v2677
  v2678.toNat
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2980 : BitVec 32 := 5#32
  let v2699 : BitVec 32 := Scalar.subi v2 c5_i32_2980
  let c8_i32_2981 : BitVec 32 := 8#32
  let c0_i32_2982 : BitVec 32 := 0#32
  let v2700 : BitVec 1 := Scalar.cmpi .eq c8_i32_2981 c0_i32_2982
  let c1_i32_2983 : BitVec 32 := 1#32
  let v2701 : BitVec 32 := Scalar.select v2700 c1_i32_2983 c8_i32_2981
  let v2702 : BitVec 32 := Scalar.remsi v2699 v2701
  let c0_i32_2985 : BitVec 32 := 0#32
  let v2704 : BitVec 1 := Scalar.cmpi .slt v2702 c0_i32_2985
  let c0_i32_2986 : BitVec 32 := 0#32
  let v2705 : BitVec 1 := Scalar.cmpi .slt v2701 c0_i32_2986
  let v2706 : BitVec 1 := Scalar.xori v2704 v2705
  let c0_i32_2984 : BitVec 32 := 0#32
  let v2703 : BitVec 1 := Scalar.cmpi .ne v2702 c0_i32_2984
  let v2707 : BitVec 1 := Scalar.andi v2706 v2703
  let v2708 : BitVec 32 := Scalar.addi v2702 v2701
  let v2709 : BitVec 32 := Scalar.select v2707 v2708 v2702
  let c256_i32_2987 : BitVec 32 := 256#32
  let v2710 : BitVec 32 := Scalar.muli v2709 c256_i32_2987
  v2710
def k0_mult24 (d0 : Dev nD) : BitVec 32 :=
  let c1536_i32_2990 : BitVec 32 := 1536#32
  let c0_i32_2989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2980 : BitVec 32 := 5#32
  let v2699 : BitVec 32 := Scalar.subi v2 c5_i32_2980
  let c8_i32_2981 : BitVec 32 := 8#32
  let c0_i32_2982 : BitVec 32 := 0#32
  let v2700 : BitVec 1 := Scalar.cmpi .eq c8_i32_2981 c0_i32_2982
  let c1_i32_2983 : BitVec 32 := 1#32
  let v2701 : BitVec 32 := Scalar.select v2700 c1_i32_2983 c8_i32_2981
  let v2702 : BitVec 32 := Scalar.remsi v2699 v2701
  let c0_i32_2985 : BitVec 32 := 0#32
  let v2704 : BitVec 1 := Scalar.cmpi .slt v2702 c0_i32_2985
  let c0_i32_2986 : BitVec 32 := 0#32
  let v2705 : BitVec 1 := Scalar.cmpi .slt v2701 c0_i32_2986
  let v2706 : BitVec 1 := Scalar.xori v2704 v2705
  let c0_i32_2984 : BitVec 32 := 0#32
  let v2703 : BitVec 1 := Scalar.cmpi .ne v2702 c0_i32_2984
  let v2707 : BitVec 1 := Scalar.andi v2706 v2703
  let v2708 : BitVec 32 := Scalar.addi v2702 v2701
  let v2709 : BitVec 32 := Scalar.select v2707 v2708 v2702
  let c256_i32_2987 : BitVec 32 := 256#32
  let v2710 : BitVec 32 := Scalar.muli v2709 c256_i32_2987
  let v2711 : BitVec 32 := v2710
  let c128_i32_2988 : BitVec 32 := 128#32
  let v2712 : BitVec 32 := Scalar.subi v2711 c128_i32_2988
  let v2713 : BitVec 32 := Scalar.maxsi c0_i32_2989 v2712
  let v2714 : BitVec 32 := Scalar.minsi c1536_i32_2990 v2713
  v2714
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2991 : BitVec 32 := 6#32
  let v2716 : BitVec 32 := Scalar.subi v2 c6_i32_2991
  let c8_i32_2992 : BitVec 32 := 8#32
  let c0_i32_2993 : BitVec 32 := 0#32
  let v2717 : BitVec 1 := Scalar.cmpi .eq c8_i32_2992 c0_i32_2993
  let c1_i32_2994 : BitVec 32 := 1#32
  let v2718 : BitVec 32 := Scalar.select v2717 c1_i32_2994 c8_i32_2992
  let v2719 : BitVec 32 := Scalar.remsi v2716 v2718
  let c0_i32_2996 : BitVec 32 := 0#32
  let v2721 : BitVec 1 := Scalar.cmpi .slt v2719 c0_i32_2996
  let c0_i32_2997 : BitVec 32 := 0#32
  let v2722 : BitVec 1 := Scalar.cmpi .slt v2718 c0_i32_2997
  let v2723 : BitVec 1 := Scalar.xori v2721 v2722
  let c0_i32_2995 : BitVec 32 := 0#32
  let v2720 : BitVec 1 := Scalar.cmpi .ne v2719 c0_i32_2995
  let v2724 : BitVec 1 := Scalar.andi v2723 v2720
  let v2725 : BitVec 32 := Scalar.addi v2719 v2718
  let v2726 : BitVec 32 := Scalar.select v2724 v2725 v2719
  let c256_i32_2998 : BitVec 32 := 256#32
  let v2727 : BitVec 32 := Scalar.muli v2726 c256_i32_2998
  v2727
def k0_mult26 (d0 : Dev nD) : BitVec 32 :=
  let c1536_i32_3001 : BitVec 32 := 1536#32
  let c0_i32_3000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2991 : BitVec 32 := 6#32
  let v2716 : BitVec 32 := Scalar.subi v2 c6_i32_2991
  let c8_i32_2992 : BitVec 32 := 8#32
  let c0_i32_2993 : BitVec 32 := 0#32
  let v2717 : BitVec 1 := Scalar.cmpi .eq c8_i32_2992 c0_i32_2993
  let c1_i32_2994 : BitVec 32 := 1#32
  let v2718 : BitVec 32 := Scalar.select v2717 c1_i32_2994 c8_i32_2992
  let v2719 : BitVec 32 := Scalar.remsi v2716 v2718
  let c0_i32_2996 : BitVec 32 := 0#32
  let v2721 : BitVec 1 := Scalar.cmpi .slt v2719 c0_i32_2996
  let c0_i32_2997 : BitVec 32 := 0#32
  let v2722 : BitVec 1 := Scalar.cmpi .slt v2718 c0_i32_2997
  let v2723 : BitVec 1 := Scalar.xori v2721 v2722
  let c0_i32_2995 : BitVec 32 := 0#32
  let v2720 : BitVec 1 := Scalar.cmpi .ne v2719 c0_i32_2995
  let v2724 : BitVec 1 := Scalar.andi v2723 v2720
  let v2725 : BitVec 32 := Scalar.addi v2719 v2718
  let v2726 : BitVec 32 := Scalar.select v2724 v2725 v2719
  let c256_i32_2998 : BitVec 32 := 256#32
  let v2727 : BitVec 32 := Scalar.muli v2726 c256_i32_2998
  let v2728 : BitVec 32 := v2727
  let c128_i32_2999 : BitVec 32 := 128#32
  let v2729 : BitVec 32 := Scalar.subi v2728 c128_i32_2999
  let v2730 : BitVec 32 := Scalar.maxsi c0_i32_3000 v2729
  let v2731 : BitVec 32 := Scalar.minsi c1536_i32_3001 v2730
  v2731
def k0_dev8 (d0 : Dev nD) : Nat :=
  let c0_i32_3528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3527 : BitVec 32 := 1#32
  let v3184 : BitVec 32 := Scalar.muli v24 c1_i32_3527
  let v3185 : BitVec 32 := Scalar.addi c0_i32_3528 v3184
  v3185.toNat
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3541 : BitVec 32 := 6#32
  let v3206 : BitVec 32 := Scalar.subi v2 c6_i32_3541
  let c8_i32_3542 : BitVec 32 := 8#32
  let c0_i32_3543 : BitVec 32 := 0#32
  let v3207 : BitVec 1 := Scalar.cmpi .eq c8_i32_3542 c0_i32_3543
  let c1_i32_3544 : BitVec 32 := 1#32
  let v3208 : BitVec 32 := Scalar.select v3207 c1_i32_3544 c8_i32_3542
  let v3209 : BitVec 32 := Scalar.remsi v3206 v3208
  let c0_i32_3546 : BitVec 32 := 0#32
  let v3211 : BitVec 1 := Scalar.cmpi .slt v3209 c0_i32_3546
  let c0_i32_3547 : BitVec 32 := 0#32
  let v3212 : BitVec 1 := Scalar.cmpi .slt v3208 c0_i32_3547
  let v3213 : BitVec 1 := Scalar.xori v3211 v3212
  let c0_i32_3545 : BitVec 32 := 0#32
  let v3210 : BitVec 1 := Scalar.cmpi .ne v3209 c0_i32_3545
  let v3214 : BitVec 1 := Scalar.andi v3213 v3210
  let v3215 : BitVec 32 := Scalar.addi v3209 v3208
  let v3216 : BitVec 32 := Scalar.select v3214 v3215 v3209
  let c256_i32_3548 : BitVec 32 := 256#32
  let v3217 : BitVec 32 := Scalar.muli v3216 c256_i32_3548
  v3217
def k0_mult28 (d0 : Dev nD) : BitVec 32 :=
  let c1536_i32_3551 : BitVec 32 := 1536#32
  let c0_i32_3550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3541 : BitVec 32 := 6#32
  let v3206 : BitVec 32 := Scalar.subi v2 c6_i32_3541
  let c8_i32_3542 : BitVec 32 := 8#32
  let c0_i32_3543 : BitVec 32 := 0#32
  let v3207 : BitVec 1 := Scalar.cmpi .eq c8_i32_3542 c0_i32_3543
  let c1_i32_3544 : BitVec 32 := 1#32
  let v3208 : BitVec 32 := Scalar.select v3207 c1_i32_3544 c8_i32_3542
  let v3209 : BitVec 32 := Scalar.remsi v3206 v3208
  let c0_i32_3546 : BitVec 32 := 0#32
  let v3211 : BitVec 1 := Scalar.cmpi .slt v3209 c0_i32_3546
  let c0_i32_3547 : BitVec 32 := 0#32
  let v3212 : BitVec 1 := Scalar.cmpi .slt v3208 c0_i32_3547
  let v3213 : BitVec 1 := Scalar.xori v3211 v3212
  let c0_i32_3545 : BitVec 32 := 0#32
  let v3210 : BitVec 1 := Scalar.cmpi .ne v3209 c0_i32_3545
  let v3214 : BitVec 1 := Scalar.andi v3213 v3210
  let v3215 : BitVec 32 := Scalar.addi v3209 v3208
  let v3216 : BitVec 32 := Scalar.select v3214 v3215 v3209
  let c256_i32_3548 : BitVec 32 := 256#32
  let v3217 : BitVec 32 := Scalar.muli v3216 c256_i32_3548
  let v3218 : BitVec 32 := v3217
  let c128_i32_3549 : BitVec 32 := 128#32
  let v3219 : BitVec 32 := Scalar.subi v3218 c128_i32_3549
  let v3220 : BitVec 32 := Scalar.maxsi c0_i32_3550 v3219
  let v3221 : BitVec 32 := Scalar.minsi c1536_i32_3551 v3220
  v3221
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3552 : BitVec 32 := 7#32
  let v3223 : BitVec 32 := Scalar.subi v2 c7_i32_3552
  let c8_i32_3553 : BitVec 32 := 8#32
  let c0_i32_3554 : BitVec 32 := 0#32
  let v3224 : BitVec 1 := Scalar.cmpi .eq c8_i32_3553 c0_i32_3554
  let c1_i32_3555 : BitVec 32 := 1#32
  let v3225 : BitVec 32 := Scalar.select v3224 c1_i32_3555 c8_i32_3553
  let v3226 : BitVec 32 := Scalar.remsi v3223 v3225
  let c0_i32_3557 : BitVec 32 := 0#32
  let v3228 : BitVec 1 := Scalar.cmpi .slt v3226 c0_i32_3557
  let c0_i32_3558 : BitVec 32 := 0#32
  let v3229 : BitVec 1 := Scalar.cmpi .slt v3225 c0_i32_3558
  let v3230 : BitVec 1 := Scalar.xori v3228 v3229
  let c0_i32_3556 : BitVec 32 := 0#32
  let v3227 : BitVec 1 := Scalar.cmpi .ne v3226 c0_i32_3556
  let v3231 : BitVec 1 := Scalar.andi v3230 v3227
  let v3232 : BitVec 32 := Scalar.addi v3226 v3225
  let v3233 : BitVec 32 := Scalar.select v3231 v3232 v3226
  let c256_i32_3559 : BitVec 32 := 256#32
  let v3234 : BitVec 32 := Scalar.muli v3233 c256_i32_3559
  v3234
def k0_mult30 (d0 : Dev nD) : BitVec 32 :=
  let c1536_i32_3562 : BitVec 32 := 1536#32
  let c0_i32_3561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3552 : BitVec 32 := 7#32
  let v3223 : BitVec 32 := Scalar.subi v2 c7_i32_3552
  let c8_i32_3553 : BitVec 32 := 8#32
  let c0_i32_3554 : BitVec 32 := 0#32
  let v3224 : BitVec 1 := Scalar.cmpi .eq c8_i32_3553 c0_i32_3554
  let c1_i32_3555 : BitVec 32 := 1#32
  let v3225 : BitVec 32 := Scalar.select v3224 c1_i32_3555 c8_i32_3553
  let v3226 : BitVec 32 := Scalar.remsi v3223 v3225
  let c0_i32_3557 : BitVec 32 := 0#32
  let v3228 : BitVec 1 := Scalar.cmpi .slt v3226 c0_i32_3557
  let c0_i32_3558 : BitVec 32 := 0#32
  let v3229 : BitVec 1 := Scalar.cmpi .slt v3225 c0_i32_3558
  let v3230 : BitVec 1 := Scalar.xori v3228 v3229
  let c0_i32_3556 : BitVec 32 := 0#32
  let v3227 : BitVec 1 := Scalar.cmpi .ne v3226 c0_i32_3556
  let v3231 : BitVec 1 := Scalar.andi v3230 v3227
  let v3232 : BitVec 32 := Scalar.addi v3226 v3225
  let v3233 : BitVec 32 := Scalar.select v3231 v3232 v3226
  let c256_i32_3559 : BitVec 32 := 256#32
  let v3234 : BitVec 32 := Scalar.muli v3233 c256_i32_3559
  let v3235 : BitVec 32 := v3234
  let c128_i32_3560 : BitVec 32 := 128#32
  let v3236 : BitVec 32 := Scalar.subi v3235 c128_i32_3560
  let v3237 : BitVec 32 := Scalar.maxsi c0_i32_3561 v3236
  let v3238 : BitVec 32 := Scalar.minsi c1536_i32_3562 v3237
  v3238
def k0_dev9 (d0 : Dev nD) : Nat :=
  let c0_i32_4089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4088 : BitVec 32 := 1#32
  let v3691 : BitVec 32 := Scalar.muli v24 c1_i32_4088
  let v3692 : BitVec 32 := Scalar.addi c0_i32_4089 v3691
  v3692.toNat
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4102 : BitVec 32 := 7#32
  let v3713 : BitVec 32 := Scalar.subi v2 c7_i32_4102
  let c8_i32_4103 : BitVec 32 := 8#32
  let c0_i32_4104 : BitVec 32 := 0#32
  let v3714 : BitVec 1 := Scalar.cmpi .eq c8_i32_4103 c0_i32_4104
  let c1_i32_4105 : BitVec 32 := 1#32
  let v3715 : BitVec 32 := Scalar.select v3714 c1_i32_4105 c8_i32_4103
  let v3716 : BitVec 32 := Scalar.remsi v3713 v3715
  let c0_i32_4107 : BitVec 32 := 0#32
  let v3718 : BitVec 1 := Scalar.cmpi .slt v3716 c0_i32_4107
  let c0_i32_4108 : BitVec 32 := 0#32
  let v3719 : BitVec 1 := Scalar.cmpi .slt v3715 c0_i32_4108
  let v3720 : BitVec 1 := Scalar.xori v3718 v3719
  let c0_i32_4106 : BitVec 32 := 0#32
  let v3717 : BitVec 1 := Scalar.cmpi .ne v3716 c0_i32_4106
  let v3721 : BitVec 1 := Scalar.andi v3720 v3717
  let v3722 : BitVec 32 := Scalar.addi v3716 v3715
  let v3723 : BitVec 32 := Scalar.select v3721 v3722 v3716
  let c256_i32_4109 : BitVec 32 := 256#32
  let v3724 : BitVec 32 := Scalar.muli v3723 c256_i32_4109
  v3724
def k0_mult32 (d0 : Dev nD) : BitVec 32 :=
  let c1536_i32_4112 : BitVec 32 := 1536#32
  let c0_i32_4111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4102 : BitVec 32 := 7#32
  let v3713 : BitVec 32 := Scalar.subi v2 c7_i32_4102
  let c8_i32_4103 : BitVec 32 := 8#32
  let c0_i32_4104 : BitVec 32 := 0#32
  let v3714 : BitVec 1 := Scalar.cmpi .eq c8_i32_4103 c0_i32_4104
  let c1_i32_4105 : BitVec 32 := 1#32
  let v3715 : BitVec 32 := Scalar.select v3714 c1_i32_4105 c8_i32_4103
  let v3716 : BitVec 32 := Scalar.remsi v3713 v3715
  let c0_i32_4107 : BitVec 32 := 0#32
  let v3718 : BitVec 1 := Scalar.cmpi .slt v3716 c0_i32_4107
  let c0_i32_4108 : BitVec 32 := 0#32
  let v3719 : BitVec 1 := Scalar.cmpi .slt v3715 c0_i32_4108
  let v3720 : BitVec 1 := Scalar.xori v3718 v3719
  let c0_i32_4106 : BitVec 32 := 0#32
  let v3717 : BitVec 1 := Scalar.cmpi .ne v3716 c0_i32_4106
  let v3721 : BitVec 1 := Scalar.andi v3720 v3717
  let v3722 : BitVec 32 := Scalar.addi v3716 v3715
  let v3723 : BitVec 32 := Scalar.select v3721 v3722 v3716
  let c256_i32_4109 : BitVec 32 := 256#32
  let v3724 : BitVec 32 := Scalar.muli v3723 c256_i32_4109
  let v3725 : BitVec 32 := v3724
  let c128_i32_4110 : BitVec 32 := 128#32
  let v3726 : BitVec 32 := Scalar.subi v3725 c128_i32_4110
  let v3727 : BitVec 32 := Scalar.maxsi c0_i32_4111 v3726
  let v3728 : BitVec 32 := Scalar.minsi c1536_i32_4112 v3727
  v3728
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4442 : BitVec 32 := 1#32
  let v4053 : BitVec 32 := Scalar.addi v2 c1_i32_4442
  let c8_i32_4443 : BitVec 32 := 8#32
  let c0_i32_4444 : BitVec 32 := 0#32
  let v4054 : BitVec 1 := Scalar.cmpi .eq c8_i32_4443 c0_i32_4444
  let c1_i32_4445 : BitVec 32 := 1#32
  let v4055 : BitVec 32 := Scalar.select v4054 c1_i32_4445 c8_i32_4443
  let v4056 : BitVec 32 := Scalar.remsi v4053 v4055
  let c0_i32_4447 : BitVec 32 := 0#32
  let v4058 : BitVec 1 := Scalar.cmpi .slt v4056 c0_i32_4447
  let c0_i32_4448 : BitVec 32 := 0#32
  let v4059 : BitVec 1 := Scalar.cmpi .slt v4055 c0_i32_4448
  let v4060 : BitVec 1 := Scalar.xori v4058 v4059
  let c0_i32_4446 : BitVec 32 := 0#32
  let v4057 : BitVec 1 := Scalar.cmpi .ne v4056 c0_i32_4446
  let v4061 : BitVec 1 := Scalar.andi v4060 v4057
  let v4062 : BitVec 32 := Scalar.addi v4056 v4055
  let v4063 : BitVec 32 := Scalar.select v4061 v4062 v4056
  let v4066 : Index := Scalar.indexCast v4063
  let c0_4452 : Index := 0#32
  let c0_4453 : Index := 0#32
  ![v4066.toNat, 0, 0]
def k0_off7 (d0 : Dev nD) (c0_i32_4455 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4454 : BitVec 32 := 1#32
  let v4070 : BitVec 32 := Scalar.addi v2 c1_i32_4454
  let v4071 : BitVec 32 := Scalar.subi v4070 c0_i32_4455
  let c8_i32_4456 : BitVec 32 := 8#32
  let c0_i32_4457 : BitVec 32 := 0#32
  let v4072 : BitVec 1 := Scalar.cmpi .eq c8_i32_4456 c0_i32_4457
  let c1_i32_4458 : BitVec 32 := 1#32
  let v4073 : BitVec 32 := Scalar.select v4072 c1_i32_4458 c8_i32_4456
  let v4074 : BitVec 32 := Scalar.remsi v4071 v4073
  let c0_i32_4460 : BitVec 32 := 0#32
  let v4076 : BitVec 1 := Scalar.cmpi .slt v4074 c0_i32_4460
  let c0_i32_4461 : BitVec 32 := 0#32
  let v4077 : BitVec 1 := Scalar.cmpi .slt v4073 c0_i32_4461
  let v4078 : BitVec 1 := Scalar.xori v4076 v4077
  let c0_i32_4459 : BitVec 32 := 0#32
  let v4075 : BitVec 1 := Scalar.cmpi .ne v4074 c0_i32_4459
  let v4079 : BitVec 1 := Scalar.andi v4078 v4075
  let v4080 : BitVec 32 := Scalar.addi v4074 v4073
  let v4081 : BitVec 32 := Scalar.select v4079 v4080 v4074
  let c0_i32_4466 : BitVec 32 := 0#32
  let c0_i32_4467 : BitVec 32 := 0#32
  ![v4081.toNat, 0, 0]
def k0_dev10 (d0 : Dev nD) : Nat :=
  let c0_i32_4465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4464 : BitVec 32 := 1#32
  let v4082 : BitVec 32 := Scalar.muli v24 c1_i32_4464
  let v4083 : BitVec 32 := Scalar.addi c0_i32_4465 v4082
  v4083.toNat
def k0_off8 (d0 : Dev nD) (c0_i32_4471 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4470 : BitVec 32 := 1#32
  let v4092 : BitVec 32 := Scalar.addi v2 c1_i32_4470
  let v4093 : BitVec 32 := Scalar.addi v4092 c0_i32_4471
  let c8_i32_4472 : BitVec 32 := 8#32
  let c0_i32_4473 : BitVec 32 := 0#32
  let v4094 : BitVec 1 := Scalar.cmpi .eq c8_i32_4472 c0_i32_4473
  let c1_i32_4474 : BitVec 32 := 1#32
  let v4095 : BitVec 32 := Scalar.select v4094 c1_i32_4474 c8_i32_4472
  let v4096 : BitVec 32 := Scalar.remsi v4093 v4095
  let c0_i32_4476 : BitVec 32 := 0#32
  let v4098 : BitVec 1 := Scalar.cmpi .slt v4096 c0_i32_4476
  let c0_i32_4477 : BitVec 32 := 0#32
  let v4099 : BitVec 1 := Scalar.cmpi .slt v4095 c0_i32_4477
  let v4100 : BitVec 1 := Scalar.xori v4098 v4099
  let c0_i32_4475 : BitVec 32 := 0#32
  let v4097 : BitVec 1 := Scalar.cmpi .ne v4096 c0_i32_4475
  let v4101 : BitVec 1 := Scalar.andi v4100 v4097
  let v4102 : BitVec 32 := Scalar.addi v4096 v4095
  let v4103 : BitVec 32 := Scalar.select v4101 v4102 v4096
  let c0_i32_4481 : BitVec 32 := 0#32
  let c0_i32_4482 : BitVec 32 := 0#32
  ![v4103.toNat, 0, 0]
def k0_dev11 (d0 : Dev nD) : Nat :=
  let c0_i32_4480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4479 : BitVec 32 := 1#32
  let v4104 : BitVec 32 := Scalar.muli v13 c1_i32_4479
  let v4105 : BitVec 32 := Scalar.addi c0_i32_4480 v4104
  v4105.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4442 : BitVec 32 := 1#32
  let v4053 : BitVec 32 := Scalar.addi v2 c1_i32_4442
  let c8_i32_4443 : BitVec 32 := 8#32
  let c0_i32_4444 : BitVec 32 := 0#32
  let v4054 : BitVec 1 := Scalar.cmpi .eq c8_i32_4443 c0_i32_4444
  let c1_i32_4445 : BitVec 32 := 1#32
  let v4055 : BitVec 32 := Scalar.select v4054 c1_i32_4445 c8_i32_4443
  let v4056 : BitVec 32 := Scalar.remsi v4053 v4055
  let c0_i32_4447 : BitVec 32 := 0#32
  let v4058 : BitVec 1 := Scalar.cmpi .slt v4056 c0_i32_4447
  let c0_i32_4448 : BitVec 32 := 0#32
  let v4059 : BitVec 1 := Scalar.cmpi .slt v4055 c0_i32_4448
  let v4060 : BitVec 1 := Scalar.xori v4058 v4059
  let c0_i32_4446 : BitVec 32 := 0#32
  let v4057 : BitVec 1 := Scalar.cmpi .ne v4056 c0_i32_4446
  let v4061 : BitVec 1 := Scalar.andi v4060 v4057
  let v4062 : BitVec 32 := Scalar.addi v4056 v4055
  let v4063 : BitVec 32 := Scalar.select v4061 v4062 v4056
  let c8_i32_4485 : BitVec 32 := 8#32
  let c0_i32_4486 : BitVec 32 := 0#32
  let v4114 : BitVec 1 := Scalar.cmpi .eq c8_i32_4485 c0_i32_4486
  let c1_i32_4487 : BitVec 32 := 1#32
  let v4115 : BitVec 32 := Scalar.select v4114 c1_i32_4487 c8_i32_4485
  let v4116 : BitVec 32 := Scalar.remsi v4063 v4115
  let c0_i32_4489 : BitVec 32 := 0#32
  let v4118 : BitVec 1 := Scalar.cmpi .slt v4116 c0_i32_4489
  let c0_i32_4490 : BitVec 32 := 0#32
  let v4119 : BitVec 1 := Scalar.cmpi .slt v4115 c0_i32_4490
  let v4120 : BitVec 1 := Scalar.xori v4118 v4119
  let c0_i32_4488 : BitVec 32 := 0#32
  let v4117 : BitVec 1 := Scalar.cmpi .ne v4116 c0_i32_4488
  let v4121 : BitVec 1 := Scalar.andi v4120 v4117
  let v4122 : BitVec 32 := Scalar.addi v4116 v4115
  let v4123 : BitVec 32 := Scalar.select v4121 v4122 v4116
  let v4124 : Index := Scalar.indexCast v4123
  let c0_4491 : Index := 0#32
  let c0_4492 : Index := 0#32
  ![v4124.toNat, 0, 0]
def k0_off10 (d0 : Dev nD) : Fin 3 → Nat :=
  let c0_4494 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4442 : BitVec 32 := 1#32
  let v4053 : BitVec 32 := Scalar.addi v2 c1_i32_4442
  let c8_i32_4443 : BitVec 32 := 8#32
  let c0_i32_4444 : BitVec 32 := 0#32
  let v4054 : BitVec 1 := Scalar.cmpi .eq c8_i32_4443 c0_i32_4444
  let c1_i32_4445 : BitVec 32 := 1#32
  let v4055 : BitVec 32 := Scalar.select v4054 c1_i32_4445 c8_i32_4443
  let v4056 : BitVec 32 := Scalar.remsi v4053 v4055
  let c0_i32_4447 : BitVec 32 := 0#32
  let v4058 : BitVec 1 := Scalar.cmpi .slt v4056 c0_i32_4447
  let c0_i32_4448 : BitVec 32 := 0#32
  let v4059 : BitVec 1 := Scalar.cmpi .slt v4055 c0_i32_4448
  let v4060 : BitVec 1 := Scalar.xori v4058 v4059
  let c0_i32_4446 : BitVec 32 := 0#32
  let v4057 : BitVec 1 := Scalar.cmpi .ne v4056 c0_i32_4446
  let v4061 : BitVec 1 := Scalar.andi v4060 v4057
  let v4062 : BitVec 32 := Scalar.addi v4056 v4055
  let v4063 : BitVec 32 := Scalar.select v4061 v4062 v4056
  let c8_i32_4485 : BitVec 32 := 8#32
  let c0_i32_4486 : BitVec 32 := 0#32
  let v4114 : BitVec 1 := Scalar.cmpi .eq c8_i32_4485 c0_i32_4486
  let c1_i32_4487 : BitVec 32 := 1#32
  let v4115 : BitVec 32 := Scalar.select v4114 c1_i32_4487 c8_i32_4485
  let v4116 : BitVec 32 := Scalar.remsi v4063 v4115
  let c0_i32_4489 : BitVec 32 := 0#32
  let v4118 : BitVec 1 := Scalar.cmpi .slt v4116 c0_i32_4489
  let c0_i32_4490 : BitVec 32 := 0#32
  let v4119 : BitVec 1 := Scalar.cmpi .slt v4115 c0_i32_4490
  let v4120 : BitVec 1 := Scalar.xori v4118 v4119
  let c0_i32_4488 : BitVec 32 := 0#32
  let v4117 : BitVec 1 := Scalar.cmpi .ne v4116 c0_i32_4488
  let v4121 : BitVec 1 := Scalar.andi v4120 v4117
  let v4122 : BitVec 32 := Scalar.addi v4116 v4115
  let v4123 : BitVec 32 := Scalar.select v4121 v4122 v4116
  let c256_i32_4493 : BitVec 32 := 256#32
  let v4128 : BitVec 32 := Scalar.muli v4123 c256_i32_4493
  let v4129 : Index := Scalar.indexCast v4128
  let c0_4495 : Index := 0#32
  ![0, v4129.toNat, 0]
def k0_dev12 (d0 : Dev nD) : Nat :=
  let c0_i32_4540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4539 : BitVec 32 := 1#32
  let v4176 : BitVec 32 := Scalar.muli v24 c1_i32_4539
  let v4177 : BitVec 32 := Scalar.addi c0_i32_4540 v4176
  v4177.toNat
def k0_dev13 (d0 : Dev nD) : Nat :=
  let c0_i32_4555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4554 : BitVec 32 := 1#32
  let v4198 : BitVec 32 := Scalar.muli v13 c1_i32_4554
  let v4199 : BitVec 32 := Scalar.addi c0_i32_4555 v4198
  v4199.toNat
def k0_off11 (d0 : Dev nD) (c0_i32_4511 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4147 : BitVec 32 := Scalar.subi v2 c0_i32_4511
  let c8_i32_4560 : BitVec 32 := 8#32
  let c0_i32_4561 : BitVec 32 := 0#32
  let v4208 : BitVec 1 := Scalar.cmpi .eq c8_i32_4560 c0_i32_4561
  let c1_i32_4562 : BitVec 32 := 1#32
  let v4209 : BitVec 32 := Scalar.select v4208 c1_i32_4562 c8_i32_4560
  let v4210 : BitVec 32 := Scalar.remsi v4147 v4209
  let c0_i32_4564 : BitVec 32 := 0#32
  let v4212 : BitVec 1 := Scalar.cmpi .slt v4210 c0_i32_4564
  let c0_i32_4565 : BitVec 32 := 0#32
  let v4213 : BitVec 1 := Scalar.cmpi .slt v4209 c0_i32_4565
  let v4214 : BitVec 1 := Scalar.xori v4212 v4213
  let c0_i32_4563 : BitVec 32 := 0#32
  let v4211 : BitVec 1 := Scalar.cmpi .ne v4210 c0_i32_4563
  let v4215 : BitVec 1 := Scalar.andi v4214 v4211
  let v4216 : BitVec 32 := Scalar.addi v4210 v4209
  let v4217 : BitVec 32 := Scalar.select v4215 v4216 v4210
  let v4218 : Index := Scalar.indexCast v4217
  let c0_4566 : Index := 0#32
  let c0_4567 : Index := 0#32
  ![v4218.toNat, 0, 0]
def k0_off12 (d0 : Dev nD) (c0_i32_4511 : BitVec 32) : Fin 3 → Nat :=
  let c0_4569 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4147 : BitVec 32 := Scalar.subi v2 c0_i32_4511
  let c8_i32_4560 : BitVec 32 := 8#32
  let c0_i32_4561 : BitVec 32 := 0#32
  let v4208 : BitVec 1 := Scalar.cmpi .eq c8_i32_4560 c0_i32_4561
  let c1_i32_4562 : BitVec 32 := 1#32
  let v4209 : BitVec 32 := Scalar.select v4208 c1_i32_4562 c8_i32_4560
  let v4210 : BitVec 32 := Scalar.remsi v4147 v4209
  let c0_i32_4564 : BitVec 32 := 0#32
  let v4212 : BitVec 1 := Scalar.cmpi .slt v4210 c0_i32_4564
  let c0_i32_4565 : BitVec 32 := 0#32
  let v4213 : BitVec 1 := Scalar.cmpi .slt v4209 c0_i32_4565
  let v4214 : BitVec 1 := Scalar.xori v4212 v4213
  let c0_i32_4563 : BitVec 32 := 0#32
  let v4211 : BitVec 1 := Scalar.cmpi .ne v4210 c0_i32_4563
  let v4215 : BitVec 1 := Scalar.andi v4214 v4211
  let v4216 : BitVec 32 := Scalar.addi v4210 v4209
  let v4217 : BitVec 32 := Scalar.select v4215 v4216 v4210
  let c256_i32_4568 : BitVec 32 := 256#32
  let v4222 : BitVec 32 := Scalar.muli v4217 c256_i32_4568
  let v4223 : Index := Scalar.indexCast v4222
  let c0_4570 : Index := 0#32
  ![0, v4223.toNat, 0]
def k0_off13 (d0 : Dev nD) (c0_i32_4528 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4527 : BitVec 32 := 2#32
  let v4162 : BitVec 32 := Scalar.addi v2 c2_i32_4527
  let v4163 : BitVec 32 := Scalar.addi v4162 c0_i32_4528
  let c8_i32_4571 : BitVec 32 := 8#32
  let c0_i32_4572 : BitVec 32 := 0#32
  let v4227 : BitVec 1 := Scalar.cmpi .eq c8_i32_4571 c0_i32_4572
  let c1_i32_4573 : BitVec 32 := 1#32
  let v4228 : BitVec 32 := Scalar.select v4227 c1_i32_4573 c8_i32_4571
  let v4229 : BitVec 32 := Scalar.remsi v4163 v4228
  let c0_i32_4575 : BitVec 32 := 0#32
  let v4231 : BitVec 1 := Scalar.cmpi .slt v4229 c0_i32_4575
  let c0_i32_4576 : BitVec 32 := 0#32
  let v4232 : BitVec 1 := Scalar.cmpi .slt v4228 c0_i32_4576
  let v4233 : BitVec 1 := Scalar.xori v4231 v4232
  let c0_i32_4574 : BitVec 32 := 0#32
  let v4230 : BitVec 1 := Scalar.cmpi .ne v4229 c0_i32_4574
  let v4234 : BitVec 1 := Scalar.andi v4233 v4230
  let v4235 : BitVec 32 := Scalar.addi v4229 v4228
  let v4236 : BitVec 32 := Scalar.select v4234 v4235 v4229
  let v4237 : Index := Scalar.indexCast v4236
  let c0_4577 : Index := 0#32
  let c0_4578 : Index := 0#32
  ![v4237.toNat, 0, 0]
def k0_off14 (d0 : Dev nD) (c0_i32_4528 : BitVec 32) : Fin 3 → Nat :=
  let c0_4580 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4527 : BitVec 32 := 2#32
  let v4162 : BitVec 32 := Scalar.addi v2 c2_i32_4527
  let v4163 : BitVec 32 := Scalar.addi v4162 c0_i32_4528
  let c8_i32_4571 : BitVec 32 := 8#32
  let c0_i32_4572 : BitVec 32 := 0#32
  let v4227 : BitVec 1 := Scalar.cmpi .eq c8_i32_4571 c0_i32_4572
  let c1_i32_4573 : BitVec 32 := 1#32
  let v4228 : BitVec 32 := Scalar.select v4227 c1_i32_4573 c8_i32_4571
  let v4229 : BitVec 32 := Scalar.remsi v4163 v4228
  let c0_i32_4575 : BitVec 32 := 0#32
  let v4231 : BitVec 1 := Scalar.cmpi .slt v4229 c0_i32_4575
  let c0_i32_4576 : BitVec 32 := 0#32
  let v4232 : BitVec 1 := Scalar.cmpi .slt v4228 c0_i32_4576
  let v4233 : BitVec 1 := Scalar.xori v4231 v4232
  let c0_i32_4574 : BitVec 32 := 0#32
  let v4230 : BitVec 1 := Scalar.cmpi .ne v4229 c0_i32_4574
  let v4234 : BitVec 1 := Scalar.andi v4233 v4230
  let v4235 : BitVec 32 := Scalar.addi v4229 v4228
  let v4236 : BitVec 32 := Scalar.select v4234 v4235 v4229
  let c256_i32_4579 : BitVec 32 := 256#32
  let v4241 : BitVec 32 := Scalar.muli v4236 c256_i32_4579
  let v4242 : Index := Scalar.indexCast v4241
  let c0_4581 : Index := 0#32
  ![0, v4242.toNat, 0]
def k0_dev14 (d0 : Dev nD) : Nat :=
  let c0_i32_4625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4624 : BitVec 32 := 1#32
  let v4289 : BitVec 32 := Scalar.muli v24 c1_i32_4624
  let v4290 : BitVec 32 := Scalar.addi c0_i32_4625 v4289
  v4290.toNat
def k0_dev15 (d0 : Dev nD) : Nat :=
  let c0_i32_4640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4639 : BitVec 32 := 1#32
  let v4311 : BitVec 32 := Scalar.muli v13 c1_i32_4639
  let v4312 : BitVec 32 := Scalar.addi c0_i32_4640 v4311
  v4312.toNat
def k0_dev16 (d0 : Dev nD) : Nat :=
  let c0_i32_4710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4709 : BitVec 32 := 1#32
  let v4402 : BitVec 32 := Scalar.muli v24 c1_i32_4709
  let v4403 : BitVec 32 := Scalar.addi c0_i32_4710 v4402
  v4403.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x64x128, .f32⟩
  | .hbm, ⟨3, _⟩ => ⟨S1x2048x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S1x64x2048x2048, .f32⟩
  | .hbm, ⟨19, _⟩ => ⟨S_, .f32⟩
  | .hbm, ⟨20, _⟩ => ⟨S1x64x2048x2048, .f32⟩
  | .hbm, ⟨21, _⟩ => ⟨S1x64x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S1x64x2048x2048, .i1⟩
  | .hbm, ⟨26, _⟩ => ⟨S1x64x2048x2048, .f32⟩
  | .hbm, ⟨27, _⟩ => ⟨S1x64x2048x2048, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x2048, .f32⟩
  | .hbm, ⟨32, _⟩ => ⟨S1x64x2048x2048, .f32⟩
  | .hbm, ⟨33, _⟩ => ⟨S1x64x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x64x2048, .f32⟩
  | .hbm, ⟨39, _⟩ => ⟨S1x64x2048x1, .f32⟩
  | .hbm, ⟨40, _⟩ => ⟨S_, .f32⟩
  | .hbm, ⟨41, _⟩ => ⟨S_, .f32⟩
  | .hbm, ⟨42, _⟩ => ⟨S1x64x2048x1, .i1⟩
  | .hbm, ⟨43, _⟩ => ⟨S1x64x2048x1, .f32⟩
  | .hbm, ⟨44, _⟩ => ⟨S1x64x2048x1, .f32⟩
  | .hbm, ⟨45, _⟩ => ⟨S1x64x2048x2048, .f32⟩
  | .hbm, ⟨46, _⟩ => ⟨S1x64x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x64x2048x2048, .i1⟩
  | .hbm, ⟨51, _⟩ => ⟨S1x64x2048x2048, .f32⟩
  | .hbm, ⟨52, _⟩ => ⟨S1x64x2048x2048, .f32⟩
  | .hbm, ⟨53, _⟩ => ⟨S1x64x128x2048, .f32⟩
  | .hbm, ⟨54, _⟩ => ⟨S1x2048x64x128, .f32⟩
  | .hbm, ⟨55, _⟩ => ⟨S1x2048x8192, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Same.lean ====
/-
  At the machine's floats the idealized program, with its named constant read as the literal it stands for, is the
  printed kernel itself.
-/
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.Same

open Idealize.ShloMosaic Idealize.ShloMosaic.TcCoe Idealize.SL.Sem

/-- The named constant read as its literal. -/
@[reducible] def lit : Named Bits := ⟨fun _ _ {φ} b => FloatOps.ofBits φ b⟩

/-- What a run of the idealized program at the machine's floats has to satisfy. -/
def Quiet [inst : Cert.KernelIdeal.Facts] : Prop :=
  letI := lit
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem quiet_eq : Cert.quiescent_Kernel (hKernel := Cert.Kernel.Gen.facts) = Quiet (inst := Cert.KernelIdeal.Gen.facts) := by
  chain_rfl

end Cert.Same

end
-- ==== Proof.Struct.lean ====
/-
  The kernel's body written once by its own structure: a copy of one key or value window, one head's attention on a
  chunk of queries, a chunk, a hop of the ring that sums the partial products, a step of the all-gather, each a
  definition over the chunk's number, the head or the step. `body_eq` says the printed body is the composition of them;
  the proofs about the body are one lemma per definition here.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Ring

open Cert.KernelIdeal.Gen
open Idealize.ShloMosaic Idealize.ShloMosaic.TcCoe Idealize.SL.Sem

variable {F : FTy → Type} [FloatOps F] [Named F]

/-! ## The buffers -/

abbrev xB : Memref sig .tc .vmem S1x2048x1024 .f32 := Memref.whole cc0_stg0_0
abbrev wqB : Memref sig .tc .vmem S1024x1024 .f32 := Memref.whole cc0_stg1_0
abbrev kB : Memref sig .tc .hbm S1x2048x64x128 .f32 := Memref.whole main_arg2
abbrev vB : Memref sig .tc .hbm S1x2048x64x128 .f32 := Memref.whole main_arg3
abbrev woB : Memref sig .tc .vmem S1024x1024 .f32 := Memref.whole cc0_stg2_0
abbrev outB : Memref sig .tc .vmem S1x2048x1024 .f32 := Memref.whole cc0_stg3_0
abbrev ctxB : Memref sig .tc .vmem S256x1024 .bf16 := Memref.whole cc0_scratch0
abbrev partB : Memref sig .tc .vmem S2048x1024 .bf16 := Memref.whole cc0_scratch1
abbrev commB : Memref sig .tc .vmem S7x256x1024 .bf16 := Memref.whole cc0_scratch2
abbrev agB : Memref sig .tc .vmem S8x256x1024 .bf16 := Memref.whole cc0_scratch3
abbrev wqbB : Memref sig .tc .vmem S1024x1024 .bf16 := Memref.whole cc0_scratch4
abbrev wobB : Memref sig .tc .vmem S1024x1024 .bf16 := Memref.whole cc0_scratch5
abbrev kvB : Memref sig .tc .vmem S2x2x8x512x128 .f32 := Memref.whole cc0_scratch6

/-! ## The rectangles -/

abbrev W (n : ℕ) : BitVec 32 := BitVec.ofNat 32 n

theorem kv_inb (d e : Fin 2) (h : Fin 8) : ∀ a, (![d.val, e.val, h.val, 0, 0] : Fin 5 → ℕ) a + S1x1x1x512x128.size a ≤ S2x2x8x512x128.size a := by
  revert d e h; decide
theorem kvs_inb (d e : Fin 2) (h : Fin 8) : ∀ a, (![d.val, e.val, h.val] : Fin 3 → ℕ) a + S1x1x1.size a ≤ S2x2x8.size a := by
  revert d e h; decide
theorem s14_inb (i : Fin 14) : ∀ a, (![i.val] : Fin 1 → ℕ) a + S1.size a ≤ S14.size a := by
  revert i; decide
theorem ctx_inb (h : Fin 8) : ∀ a, (![0, 128 * h.val] : Fin 2 → ℕ) a + S256x128.size a ≤ S256x1024.size a := by
  revert h; decide
theorem comm_inb (s : Fin 7) : ∀ a, (![s.val, 0, 0] : Fin 3 → ℕ) a + S1x256x1024.size a ≤ S7x256x1024.size a := by
  revert s; decide
theorem ctx_packed (h : Fin 8) : (Rect.unit (s := S256x1024) ![0, 128 * h.val] S256x128.size (ctx_inb h)).PackedRows (EltTy.packing .bf16) := by
  revert h; decide +kernel
theorem comm_packed (s : Fin 7) : (Rect.unit (s := S7x256x1024) ![s.val, 0, 0] S1x256x1024.size (comm_inb s)).PackedRows (EltTy.packing .bf16) := by
  revert s; decide +kernel
theorem comm_words (s : Fin 7) : (Rect.unit (s := S7x256x1024) ![s.val, 0, 0] S1x256x1024.size (comm_inb s)).WholeWords (EltTy.packing .bf16) := by
  revert s; decide +kernel
theorem slices_head (h : Fin 8) : S256x1024.Slices ![0, 128 * h.val] S256x128 := by revert h; decide

/-- Window `(e, h)` of buffer `d`: keys (`e = 0`) or values of head `h`. -/
abbrev kvR (d e : Fin 2) (h : Fin 8) : Rect S2x2x8x512x128 := Rect.unit ![d.val, e.val, h.val, 0, 0] S1x1x1x512x128.size (kv_inb d e h)
abbrev kvV (d e : Fin 2) (h : Fin 8) : Memref sig .tc .vmem S512x128 .f32 :=
  (kvB.slice (kvR d e h) (fun _ => rfl)).squeeze S512x128 squeezes_S1x1x1x512x128_S512x128
abbrev kvS (d e : Fin 2) (h : Fin 8) : DmaSem sig :=
  (((cc0_scratch9 : DmaSems sig S2x2x8).slice (Rect.unit ![d.val, e.val, h.val] S1x1x1.size (kvs_inb d e h))).squeeze S_ squeezes_S1x1x1_S_).sem
abbrev sendS (i : Fin 14) : DmaSem sig :=
  (((cc0_scratch7 : DmaSems sig S14).slice (Rect.unit ![i.val] S1.size (s14_inb i))).squeeze S_ squeezes_S1_S_).sem
abbrev recvS (i : Fin 14) : DmaSem sig :=
  (((cc0_scratch8 : DmaSems sig S14).slice (Rect.unit ![i.val] S1.size (s14_inb i))).squeeze S_ squeezes_S1_S_).sem
abbrev barS : Sem sig := (SemArray.scalar (sig.barrier 0 rfl) : Sems sig S_).sem

/-- The source window of chunk `j`'s keys or values of head `h` on device `c`. -/
abbrev srcR (c : Dev nD) (j h : Fin 8) : Rect S1x2048x64x128 :=
  Rect.unit (k0_off1 c (W j.val) (W h.val)) S1x512x1x128.size (k0_off1_inb c j h)
abbrev srcB (e : Fin 2) : Memref sig .tc .hbm S1x2048x64x128 .f32 := if e = 0 then kB else vB
abbrev srcV (e : Fin 2) (c : Dev nD) (j h : Fin 8) : Memref sig .tc .hbm S512x128 .f32 :=
  ((srcB e).slice (srcR c j h) (fun _ => rfl)).squeeze S512x128 squeezes_S1x512x1x128_S512x128
abbrev commR (s : Fin 7) : Rect S7x256x1024 := Rect.unit ![s.val, 0, 0] S1x256x1024.size (comm_inb s)
abbrev commV (s : Fin 7) : Memref sig .tc .vmem S256x1024 .bf16 :=
  (commB.slice (commR s) (fun _ => rfl)).squeeze S256x1024 squeezes_S1x256x1024_S256x1024

/-! ## A chunk -/

/-- The chunk number `c - j` around the ring, times 256, as the kernel computes it. -/
def qW (c : Dev nD) (j : BitVec 32) : BitVec 32 :=
  let v44 : BitVec 32 := Scalar.subi (Scalar.remsi (Scalar.divsi (Dev.word c) 1#32) 8#32) j
  let v46 : BitVec 32 := Scalar.select (Scalar.cmpi .eq 8#32 0#32) 1#32 8#32
  let v47 : BitVec 32 := Scalar.remsi v44 v46
  Scalar.muli (Scalar.select (Scalar.andi (Scalar.xori (Scalar.cmpi .slt v47 0#32) (Scalar.cmpi .slt v46 0#32)) (Scalar.cmpi .ne v47 0#32)) (Scalar.addi v47 v46) v47) 256#32
/-- The first key of the chunk's window. -/
def kW (c : Dev nD) (j : BitVec 32) : BitVec 32 := Scalar.minsi 1536#32 (Scalar.maxsi 0#32 (Scalar.subi (qW c j) 128#32))

/-- The mask as a summand: zero within 128 positions of the query, the named constant outside. -/
def bias (q k : BitVec 32) : FVec F S256x512 .f32 :=
  select (cmpi .sle (absi (subi (addi (broadcast S256x512 q) (iota .tc S256x512 32 [0] iota_S256x512_d0_w32))
      (addi (broadcast S256x512 k) (iota .tc S256x512 32 [1] iota_S256x512_d1_w32)))) (broadcast S256x512 128#32))
    (broadcast S256x512 (Scalar.ofBits .f32 0x00000000#32)) (broadcast S256x512 (Named.named κ "mask" 0xCE6E6B28#32))

/-- The chunk's queries. -/
def qOf (x : Vec F S1x256x1024 .f32) (wq : Vec F S1024x1024 .bf16) : FVec F S256x1024 .bf16 :=
  truncf .bf16 (matmul dot_S256x1024_S1024x1024_S256x1024_1_0_0_1_n_n none
    (truncf .bf16 (shapeCast S256x1024 x shapeCasts_S1x256x1024_S256x1024) bitsLt_bf16_f32) wq (constant S256x1024 .f32 0x00000000#32)) bitsLt_bf16_f32

/-- The weights before normalisation: the exponentials of the masked scores against the window's keys. -/
def wOf (h : Fin 8) (q : FVec F S256x1024 .bf16) (b : FVec F S256x512 .f32) (k : Vec F S512x128 .f32) : FVec F S256x512 .f32 :=
  exp (addf (matmul dot_S256x128_S512x128_S256x512_1_1_0_0_n_n none
    (extractStridedSlice S256x128 ![0, 128 * h.val] q (slices_head h))
    (truncf .bf16 k bitsLt_bf16_f32) (constant S256x512 .f32 0x00000000#32)) b)

/-- One head's context: the weighted values, normalised. -/
def hdOf (h : Fin 8) (q : FVec F S256x1024 .bf16) (b : FVec F S256x512 .f32) (k v : Vec F S512x128 .f32) : FVec F S256x128 .bf16 :=
  shapeCast S256x128 (truncf .bf16 (mulf
    (matmul dot_S256x512_S512x128_S256x128_1_0_0_1_n_n none (truncf .bf16 (wOf h q b k) bitsLt_bf16_f32)
      (truncf .bf16 v bitsLt_bf16_f32) (constant S256x128 .f32 0x00000000#32))
    (broadcastTo S256x128 (divf (broadcast S256x1 (Scalar.ofBits .f32 0x3F800000#32))
      (shapeCast S256x1 (multiReduction .add [1] S256 (wOf h q b k) 0x00000000#32 reduces_S256x512_S256 (.inl rfl) rfl) shapeCasts_S256_S256x1)) broadcasts_S256x1_S256x128)) bitsLt_bf16_f32)
    shapeCasts_S256x128_S256x128

/-- The same of the windows as the loads deliver them. -/
def headOf (h : Fin 8) (q : FVec F S256x1024 .bf16) (b : FVec F S256x512 .f32) (k v : Vec F S1x1x1x512x128 .f32) : FVec F S256x128 .bf16 :=
  hdOf h q b (shapeCast S512x128 k shapeCasts_S1x1x1x512x128_S512x128) (shapeCast S512x128 v shapeCasts_S1x1x1x512x128_S512x128)

/-- The chunk's partial product of the output. -/
def partOf (x : Vec F S256x1024 .bf16) (wo : Vec F S1024x1024 .bf16) : FVec F S256x1024 .bf16 :=
  shapeCast S256x1024 (truncf .bf16 (matmul dot_S256x1024_S1024x1024_S256x1024_1_0_0_1_n_n none x wo (constant S256x1024 .f32 0x00000000#32)) bitsLt_bf16_f32) shapeCasts_S256x1024_S256x1024

/-- Start the copy of one window. -/
def issue1 (c : Dev nD) (j h : Fin 8) (d e : Fin 2) : Prog (TpuEff nD τ sig (Elt F) Λ₀ .tc) PUnit :=
  Prog.lift (.enqueueDma (srcV e c j h) (.here (kvV d e h)) (.dma (kvS d e h)) ((View.wordExact_bits rfl).reshape _ _) ((View.wordExact_bits rfl).reshape _ _) ⟨Or.inl rfl, trivial⟩)
/-- Wait for it. -/
def await1 (c : Dev nD) (j h : Fin 8) (d e : Fin 2) : Prog (TpuEff nD τ sig (Elt F) Λ₀ .tc) PUnit :=
  Prog.lift (.waitDma2 (kvS d e h) (srcV e c j h) (kvV d e h) ((View.wordExact_bits rfl).reshape _ _) ((View.wordExact_bits rfl).reshape _ _))

/-- Start the sixteen copies of chunk `j`'s windows, into buffer `d`. -/
def issue (c : Dev nD) (j : Fin 8) (d : Fin 2) : ℕ → Prog (TpuEff nD τ sig (Elt F) Λ₀ .tc) PUnit
  | 0 => pure ⟨⟩
  | n + 1 => do
    issue c j d n
    issue1 c j (Fin.ofNat 8 n) d 0
    issue1 c j (Fin.ofNat 8 n) d 1

/-- Head `h` of chunk `j`. -/
def head (c : Dev nD) (j h : Fin 8) (d : Fin 2) (q : FVec F S256x1024 .bf16) (b : FVec F S256x512 .f32) : Prog (TpuEff nD τ sig (Elt F) Λ₀ .tc) PUnit := do
  await1 c j h d 0
  await1 c j h d 1
  let k : Vec F S1x1x1x512x128 .f32 ← Prog.lift (.load kvB (kvR d 0 h).toLoadRect (View.loadsAt_vmem h_S1x1x1x512x128))
  let v : Vec F S1x1x1x512x128 .f32 ← Prog.lift (.load kvB (kvR d 1 h).toLoadRect (View.loadsAt_vmem h_S1x1x1x512x128))
  let _ : Vec F S256x128 .bf16 ← Prog.lift (.load ctxB (Rect.unit (s := S256x1024) ![0, 128 * h.val] S256x128.size (ctx_inb h)).toLoadRect (View.loadsAt_vmem h_S256x128))
  Prog.lift (.store ctxB (Rect.unit (s := S256x1024) ![0, 128 * h.val] S256x128.size (ctx_inb h)) (headOf h q b k v) Finset.univ
    (View.stores_vmem h_S256x128 ((Memref.isWhole_whole cc0_scratch0).storeExact_slice rfl _ (ctx_packed h)) (fun _ => rfl)) (.inl rfl))

/-- The first `n` heads of chunk `j`. -/
def heads (c : Dev nD) (j : Fin 8) (d : Fin 2) (q : FVec F S256x1024 .bf16) (b : FVec F S256x512 .f32) : ℕ → Prog (TpuEff nD τ sig (Elt F) Λ₀ .tc) PUnit
  | 0 => pure ⟨⟩
  | n + 1 => do
    heads c j d q b n
    head c j (Fin.ofNat 8 n) d q b

/-- The chunk's rows of the partial product's buffer. -/
abbrev rowR (c : Dev nD) (j : Fin 8) : Rect S2048x1024 := Rect.unit (k0_off3 c (W j.val)) S256x1024.size (k0_off3_inb c j)

/-- Chunk `j`: its queries, its eight heads, its rows of the partial product. -/
def chunk (c : Dev nD) (j : Fin 8) (d : Fin 2) : Prog (TpuEff nD τ sig (Elt F) Λ₀ .tc) PUnit := do
  let x : Vec F S1x256x1024 .f32 ← Prog.lift (.load xB (Rect.unit (s := S1x2048x1024) (k0_off2 c (W j.val)) S1x256x1024.size (k0_off2_inb c j)).toLoadRect (View.loadsAt_vmem h_S1x256x1024))
  let w : Vec F S1024x1024 .bf16 ← Prog.lift (.load wqbB (Rect.unit (s := S1024x1024) ![0, 0] S1024x1024.size inb_S1024x1024_S1024x1024_0_0).toLoadRect (View.loadsAt_vmem h_S1024x1024))
  heads c j d (qOf x w) (bias (qW c (W j.val)) (kW c (W j.val))) 8
  let y : Vec F S256x1024 .bf16 ← Prog.lift (.load ctxB (Rect.unit (s := S256x1024) ![0, 0] S256x1024.size inb_S256x1024_S256x1024_0_0).toLoadRect (View.loadsAt_vmem h_S256x1024))
  let wo : Vec F S1024x1024 .bf16 ← Prog.lift (.load wobB (Rect.unit (s := S1024x1024) ![0, 0] S1024x1024.size inb_S1024x1024_S1024x1024_0_0).toLoadRect (View.loadsAt_vmem h_S1024x1024))
  let _ : Vec F S256x1024 .bf16 ← Prog.lift (.load partB (rowR c j).toLoadRect (View.loadsAt_vmem h_S256x1024))
  Prog.lift (.store partB (rowR c j) (partOf y wo) Finset.univ
    (View.stores_vmem h_S256x1024 ((Memref.isWhole_whole cc0_scratch1).storeExact_slice rfl _ (k0_off3_packedbf16 c j)) (fun _ => rfl)) (.inl rfl))

/-! ## A hop of the ring -/

abbrev mineV (c : Dev nD) : Memref sig .tc .vmem S256x1024 .bf16 :=
  partB.slice (Rect.unit (s := S2048x1024) (k0_off4 c) S256x1024.size (k0_off4_inb c)) (fun _ => rfl)
abbrev addR (c : Dev nD) (s : Fin 7) : Rect S2048x1024 := Rect.unit (k0_off5 c (W s.val)) S256x1024.size (k0_off5_inb c s)

/-- What a landed sum becomes: the device's own rows added. -/
def addOf (r : Vec F S1x256x1024 .bf16) (p : Vec F S256x1024 .bf16) : FVec F S1x256x1024 .bf16 :=
  shapeCast S1x256x1024 (addf (shapeCast S256x1024 r shapeCasts_S1x256x1024_S256x1024) p) shapeCasts_S256x1024_S1x256x1024

/-- The addition after hop `s`. -/
def addHop (c : Dev nD) (s : Fin 7) : Prog (TpuEff nD τ sig (Elt F) Λ₀ .tc) PUnit := do
  let r : Vec F S1x256x1024 .bf16 ← Prog.lift (.load commB (commR s).toLoadRect (View.loadsAt_vmem h_S1x256x1024))
  let p : Vec F S256x1024 .bf16 ← Prog.lift (.load partB (addR c s).toLoadRect (View.loadsAt_vmem h_S256x1024))
  let _ : Vec F S1x256x1024 .bf16 ← Prog.lift (.load commB (commR s).toLoadRect (View.loadsAt_vmem h_S1x256x1024))
  Prog.lift (.store commB (commR s) (addOf r p) Finset.univ
    (View.stores_vmem h_S1x256x1024 ((Memref.isWhole_whole cc0_scratch2).storeExact_slice rfl _ (comm_packed s)) (fun _ => rfl)) (.inl rfl))

theorem commV_exact (s : Fin 7) : (commV s).view.WordExact :=
  ((Memref.isWhole_whole cc0_scratch2).wordExact_slice rfl _ (comm_words s)).reshape _ _
theorem mineV_exact (c : Dev nD) : (mineV c).view.WordExact :=
  (Memref.isWhole_whole cc0_scratch1).wordExact_slice rfl _ (k0_off4_wordsbf16 c)

/-- The devices the ring's seven hops name. -/
def hopDev (c : Dev nD) : Fin 7 → Dev nD
  | 0 => ⟨k0_dev3 c, k0_dev3_lt c⟩ | 1 => ⟨k0_dev4 c, k0_dev4_lt c⟩ | 2 => ⟨k0_dev5 c, k0_dev5_lt c⟩ | 3 => ⟨k0_dev6 c, k0_dev6_lt c⟩
  | 4 => ⟨k0_dev7 c, k0_dev7_lt c⟩ | 5 => ⟨k0_dev8 c, k0_dev8_lt c⟩ | 6 => ⟨k0_dev9 c, k0_dev9_lt c⟩

/-- The first hop's transfer and the two waits of it. -/
def send0 (c : Dev nD) : Prog (TpuEff nD τ sig (Elt F) Λ₀ .tc) PUnit :=
  Prog.lift (.enqueueDma (mineV c) (.remote (Dev.tc (hopDev c 0)) (commV 0) (.dma (sendS 0))) (.dma (recvS 0)) (mineV_exact c) (commV_exact 0) ⟨⟨rfl, Or.inl rfl⟩, trivial⟩)
def wait0 (c : Dev nD) : Prog (TpuEff nD τ sig (Elt F) Λ₀ .tc) PUnit := do
  Prog.lift (.waitDma2 (sendS 0) (commV 0) (mineV c) (commV_exact 0) (mineV_exact c))
  Prog.lift (.waitDma2 (recvS 0) (mineV c) (commV 0) (mineV_exact c) (commV_exact 0))

/-- A later hop's: from slot `s` to slot `s + 1`. -/
def sendS' (c : Dev nD) (s : Fin 6) : Prog (TpuEff nD τ sig (Elt F) Λ₀ .tc) PUnit :=
  Prog.lift (.enqueueDma (commV s.castSucc) (.remote (Dev.tc (hopDev c s.succ)) (commV s.succ) (.dma (sendS (s.succ.castLE (by decide))))) (.dma (recvS (s.succ.castLE (by decide))))
    (commV_exact _) (commV_exact _) ⟨⟨rfl, Or.inl rfl⟩, trivial⟩)
def waitS' (s : Fin 6) : Prog (TpuEff nD τ sig (Elt F) Λ₀ .tc) PUnit := do
  Prog.lift (.waitDma2 (sendS (s.succ.castLE (by decide))) (commV s.succ) (commV s.castSucc) (commV_exact _) (commV_exact _))
  Prog.lift (.waitDma2 (recvS (s.succ.castLE (by decide))) (commV s.castSucc) (commV s.succ) (commV_exact _) (commV_exact _))

/-! ## The all-gather -/

abbrev cwR (c : Dev nD) (t : Fin 4) : Rect S8x256x1024 := Rect.unit (k0_off7 c (W t.val)) S1x256x1024.size (k0_off7_inb c t)
abbrev ccwR (c : Dev nD) (t : Fin 3) : Rect S8x256x1024 := Rect.unit (k0_off8 c (W t.val)) S1x256x1024.size (k0_off8_inb c t)
abbrev cwV (c : Dev nD) (t : Fin 4) : Memref sig .tc .vmem S256x1024 .bf16 :=
  (agB.slice (cwR c t) (fun _ => rfl)).squeeze S256x1024 squeezes_S1x256x1024_S256x1024
abbrev ccwV (c : Dev nD) (t : Fin 3) : Memref sig .tc .vmem S256x1024 .bf16 :=
  (agB.slice (ccwR c t) (fun _ => rfl)).squeeze S256x1024 squeezes_S1x256x1024_S256x1024
theorem cwV_exact (c : Dev nD) (t : Fin 4) : (cwV c t).view.WordExact :=
  ((Memref.isWhole_whole cc0_scratch3).wordExact_slice rfl _ (k0_off7_wordsbf16 c t)).reshape _ _
theorem ccwV_exact (c : Dev nD) (t : Fin 3) : (ccwV c t).view.WordExact :=
  ((Memref.isWhole_whole cc0_scratch3).wordExact_slice rfl _ (k0_off8_wordsbf16 c t)).reshape _ _

def cwDev (c : Dev nD) : Fin 4 → Dev nD
  | 0 => ⟨k0_dev10 c, k0_dev10_lt c⟩ | 1 => ⟨k0_dev12 c, k0_dev12_lt c⟩ | 2 => ⟨k0_dev14 c, k0_dev14_lt c⟩ | 3 => ⟨k0_dev16 c, k0_dev16_lt c⟩
def ccwDev (c : Dev nD) : Fin 3 → Dev nD
  | 0 => ⟨k0_dev11 c, k0_dev11_lt c⟩ | 1 => ⟨k0_dev13 c, k0_dev13_lt c⟩ | 2 => ⟨k0_dev15 c, k0_dev15_lt c⟩

abbrev cwI (t : Fin 4) : Fin 14 := ⟨7 + t.val, by omega⟩
abbrev ccwI (t : Fin 3) : Fin 14 := ⟨11 + t.val, by omega⟩

def sendCw (c : Dev nD) (t : Fin 4) : Prog (TpuEff nD τ sig (Elt F) Λ₀ .tc) PUnit :=
  Prog.lift (.enqueueDma (cwV c t) (.remote (Dev.tc (cwDev c t)) (cwV c t) (.dma (sendS (cwI t)))) (.dma (recvS (cwI t))) (cwV_exact c t) (cwV_exact c t) ⟨⟨rfl, Or.inl rfl⟩, trivial⟩)
def sendCcw (c : Dev nD) (t : Fin 3) : Prog (TpuEff nD τ sig (Elt F) Λ₀ .tc) PUnit :=
  Prog.lift (.enqueueDma (ccwV c t) (.remote (Dev.tc (ccwDev c t)) (ccwV c t) (.dma (sendS (ccwI t)))) (.dma (recvS (ccwI t))) (ccwV_exact c t) (ccwV_exact c t) ⟨⟨rfl, Or.inl rfl⟩, trivial⟩)
def waitCw (c : Dev nD) (t : Fin 4) : Prog (TpuEff nD τ sig (Elt F) Λ₀ .tc) PUnit := do
  Prog.lift (.waitDma2 (sendS (cwI t)) (cwV c t) (cwV c t) (cwV_exact c t) (cwV_exact c t))
  Prog.lift (.waitDma2 (recvS (cwI t)) (cwV c t) (cwV c t) (cwV_exact c t) (cwV_exact c t))
def waitCcw (c : Dev nD) (t : Fin 3) : Prog (TpuEff nD τ sig (Elt F) Λ₀ .tc) PUnit := do
  Prog.lift (.waitDma2 (sendS (ccwI t)) (ccwV c t) (ccwV c t) (ccwV_exact c t) (ccwV_exact c t))
  Prog.lift (.waitDma2 (recvS (ccwI t)) (ccwV c t) (ccwV c t) (ccwV_exact c t) (ccwV_exact c t))

/-- A chunk of the result from the gathered one. -/
def outOf (v : Vec F S1x256x1024 .bf16) : FVec F S1x256x1024 .f32 :=
  shapeCast S1x256x1024 (extf .f32 (shapeCast S256x1024 v shapeCasts_S1x256x1024_S256x1024) bitsLt_bf16_f32) shapeCasts_S256x1024_S1x256x1024

/-- Copy a gathered chunk into the result, at the given rectangles. -/
def toOut (o : Fin 3 → ℕ) (ho : ∀ a, o a + S1x256x1024.size a ≤ S8x256x1024.size a)
    (o' : Fin 3 → ℕ) (ho' : ∀ a, o' a + S1x256x1024.size a ≤ S1x2048x1024.size a) : Prog (TpuEff nD τ sig (Elt F) Λ₀ .tc) PUnit := do
  let v : Vec F S1x256x1024 .bf16 ← Prog.lift (.load agB (Rect.unit (s := S8x256x1024) o S1x256x1024.size ho).toLoadRect (View.loadsAt_vmem h_S1x256x1024))
  let _ : Vec F S1x256x1024 .f32 ← Prog.lift (.load outB (Rect.unit (s := S1x2048x1024) o' S1x256x1024.size ho').toLoadRect (View.loadsAt_vmem h_S1x256x1024))
  Prog.lift (.store outB (Rect.unit (s := S1x2048x1024) o' S1x256x1024.size ho') (outOf v) Finset.univ (View.stores_vmem_bits_univ h_S1x256x1024 rfl) (.inl rfl))

abbrev outCw (c : Dev nD) (t : Fin 4) : Prog (TpuEff nD τ sig (Elt F) Λ₀ .tc) PUnit :=
  toOut (k0_off11 c (W t.val)) (k0_off11_inb c t) (k0_off12 c (W t.val)) (k0_off12_inb c t)
abbrev outCcw (c : Dev nD) (t : Fin 3) : Prog (TpuEff nD τ sig (Elt F) Λ₀ .tc) PUnit :=
  toOut (k0_off13 c (W t.val)) (k0_off13_inb c t) (k0_off14 c (W t.val)) (k0_off14_inb c t)

/-- The device's own summed chunk into its slot. -/
def ownSlot (c : Dev nD) : Prog (TpuEff nD τ sig (Elt F) Λ₀ .tc) PUnit := do
  let v : Vec F S1x256x1024 .bf16 ← Prog.lift (.load commB (commR 6).toLoadRect (View.loadsAt_vmem h_S1x256x1024))
  let _ : Vec F S1x256x1024 .bf16 ← Prog.lift (.load agB (Rect.unit (s := S8x256x1024) (k0_off6 c) S1x256x1024.size (k0_off6_inb c)).toLoadRect (View.loadsAt_vmem h_S1x256x1024))
  Prog.lift (.store agB (Rect.unit (s := S8x256x1024) (k0_off6 c) S1x256x1024.size (k0_off6_inb c))
    (shapeCast S1x256x1024 (shapeCast S256x1024 v shapeCasts_S1x256x1024_S256x1024) shapeCasts_S256x1024_S1x256x1024) Finset.univ
    (View.stores_vmem h_S1x256x1024 ((Memref.isWhole_whole cc0_scratch3).storeExact_slice rfl _ (k0_off6_packedbf16 c)) (fun _ => rfl)) (.inl rfl))

/-! ## The body -/

def wqbOf (w : Vec F S1024x1024 .f32) : FVec F S1024x1024 .bf16 :=
  shapeCast S1024x1024 (truncf .bf16 (mulf (shapeCast S1024x1024 w shapeCasts_S1024x1024_S1024x1024) (broadcast S1024x1024 (Scalar.ofBits .f32 0x3DB504F3#32))) bitsLt_bf16_f32) shapeCasts_S1024x1024_S1024x1024
def wobOf (w : Vec F S1024x1024 .f32) : FVec F S1024x1024 .bf16 :=
  shapeCast S1024x1024 (truncf .bf16 (shapeCast S1024x1024 w shapeCasts_S1024x1024_S1024x1024) bitsLt_bf16_f32) shapeCasts_S1024x1024_S1024x1024

def prep1 : Prog (TpuEff nD τ sig (Elt F) Λ₀ .tc) PUnit := do
  let w : Vec F S1024x1024 .f32 ← Prog.lift (.load wqB (Rect.unit (s := S1024x1024) ![0, 0] S1024x1024.size inb_S1024x1024_S1024x1024_0_0).toLoadRect (View.loadsAt_vmem h_S1024x1024))
  let _ : Vec F S1024x1024 .bf16 ← Prog.lift (.load wqbB (Rect.unit (s := S1024x1024) ![0, 0] S1024x1024.size inb_S1024x1024_S1024x1024_0_0).toLoadRect (View.loadsAt_vmem h_S1024x1024))
  Prog.lift (.store wqbB (Rect.unit (s := S1024x1024) ![0, 0] S1024x1024.size inb_S1024x1024_S1024x1024_0_0) (wqbOf w) Finset.univ
    (View.stores_vmem h_S1024x1024 ((Memref.isWhole_whole cc0_scratch4).storeExact_slice rfl _ packedbf16_S1024x1024_S1024x1024_0_0) (fun _ => rfl)) (.inl rfl))
def prep2 : Prog (TpuEff nD τ sig (Elt F) Λ₀ .tc) PUnit := do
  let w : Vec F S1024x1024 .f32 ← Prog.lift (.load woB (Rect.unit (s := S1024x1024) ![0, 0] S1024x1024.size inb_S1024x1024_S1024x1024_0_0).toLoadRect (View.loadsAt_vmem h_S1024x1024))
  let _ : Vec F S1024x1024 .bf16 ← Prog.lift (.load wobB (Rect.unit (s := S1024x1024) ![0, 0] S1024x1024.size inb_S1024x1024_S1024x1024_0_0).toLoadRect (View.loadsAt_vmem h_S1024x1024))
  Prog.lift (.store wobB (Rect.unit (s := S1024x1024) ![0, 0] S1024x1024.size inb_S1024x1024_S1024x1024_0_0) (wobOf w) Finset.univ
    (View.stores_vmem h_S1024x1024 ((Memref.isWhole_whole cc0_scratch5).storeExact_slice rfl _ packedbf16_S1024x1024_S1024x1024_0_0) (fun _ => rfl)) (.inl rfl))

/-- Hops 1 to `n`. -/
def par (n : ℕ) : Fin 2 := Fin.ofNat 2 n
def hop (c : Dev nD) (s : Fin 6) : Prog (TpuEff nD τ sig (Elt F) Λ₀ .tc) PUnit := do
  sendS' c s
  issue c (Fin.ofNat 8 (s.val + 3)) (par (s.val + 3)) (if s.val = 5 then 0 else 8)
  chunk c (Fin.ofNat 8 (s.val + 2)) (par (s.val + 2))
  waitS' s
  addHop c s.succ

/-- Step `t` of the all-gather, in both directions. -/
def both (c : Dev nD) (t : Fin 2) : Prog (TpuEff nD τ sig (Elt F) Λ₀ .tc) PUnit := do
  sendCw c ⟨t.val + 1, by omega⟩
  sendCcw c ⟨t.val + 1, by omega⟩
  outCw c ⟨t.val, by omega⟩
  outCcw c ⟨t.val, by omega⟩
  waitCw c ⟨t.val + 1, by omega⟩
  waitCcw c ⟨t.val + 1, by omega⟩

/-- The neighbours told, the weights rounded, the neighbours waited for. -/
def opening (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  prep1
  prep2
  semWaitWord barS 2#32

/-- The eight chunks and the seven hops of the sum. -/
def rounds (c : Dev nD) : Prog (TpuEff nD τ sig (Elt F) Λ₀ .tc) PUnit := do
  issue c 0 0 8
  issue c 1 1 8
  chunk c 0 0
  send0 c
  issue c 2 0 8
  chunk c 1 1
  wait0 c
  addHop c 0
  hop c 0
  hop c 1
  hop c 2
  hop c 3
  hop c 4
  hop c 5

/-- The all-gather's first step and its last. -/
def first (c : Dev nD) : Prog (TpuEff nD τ sig (Elt F) Λ₀ .tc) PUnit := do
  sendCw c 0
  sendCcw c 0
  toOut (k0_off9 c) (k0_off9_inb c) (k0_off10 c) (k0_off10_inb c)
  waitCw c 0
  waitCcw c 0
def last (c : Dev nD) : Prog (TpuEff nD τ sig (Elt F) Λ₀ .tc) PUnit := do
  sendCw c 3
  outCw c 2
  outCcw c 2
  waitCw c 3
  outCw c 3

def gather (c : Dev nD) : Prog (TpuEff nD τ sig (Elt F) Λ₀ .tc) PUnit := do
  ownSlot c
  first c
  both c 0
  both c 1
  last c

def body : Prog (TpuEff nD τ sig (Elt F) Λ₀ .tc) PUnit := do
  let c : Dev nD ← Prog.lift .deviceId
  opening c
  rounds c
  gather c

set_option maxRecDepth 65536 in
theorem body_eq (t : Fin cfg0.N) : bodyAt0 (F := F) t = body := by
  chain_rfl

end Cert.KernelIdeal.Ring

end
-- ==== Proof.Mesh.lean ====
/-
  The ring of eight devices, the slots a transfer moves, and what each buffer holds: the chunk of queries a device works
  on at step `j`, its head contexts, its partial products, the sums that travel around the ring, and the gathered result.
  Everything is over any float type `F`.
-/
module

public import proofs.«01_k».proof.Proof.Struct
public import Idealize.ShloMosaic.Lib.ValueIdxCore

@[expose] public section

noncomputable section

namespace Cert.KernelIdeal.Ring

open Cert.KernelIdeal.Gen
open Idealize.ShloMosaic Idealize.ShloMosaic.TcCoe Idealize.SL.Sem
open Idealize.ShloMosaic.ValueIdx (ix2 ix3)

variable {F : FTy → Type} [FloatOps F] [Named F]

/-! ## The ring -/

/-- The device `n` places after `c`. -/
def sh (c : Dev nD) (n : ℕ) : Fin 8 := ⟨(c.val + n) % 8, Nat.mod_lt _ (by decide)⟩
def nxt (c : Dev nD) : Dev nD := sh c 1
def prv (c : Dev nD) : Dev nD := sh c 7

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem hopDev_eq (c : Dev nD) (s : Fin 7) : hopDev c s = nxt c := by revert c s; decide +kernel
theorem cwDev_eq (c : Dev nD) (t : Fin 4) : cwDev c t = nxt c := by revert c t; decide +kernel
theorem ccwDev_eq (c : Dev nD) (t : Fin 3) : ccwDev c t = prv c := by revert c t; decide +kernel

/-! ## The offsets in closed form -/

theorem off2_eq : ∀ (c : Dev nD) (j : Fin 8), k0_off2 c (W j.val) = ![0, 256 * (sh c (8 - j.val)).val, 0] := by decide +kernel
theorem off3_eq : ∀ (c : Dev nD) (j : Fin 8), k0_off3 c (W j.val) = ![256 * (sh c (8 - j.val)).val, 0] := by decide +kernel
theorem off4_eq : ∀ (c : Dev nD), k0_off4 c = ![256 * (sh c 0).val, 0] := by decide +kernel
theorem off5_eq : ∀ (c : Dev nD) (s : Fin 7), k0_off5 c (W s.val) = ![256 * (sh c (7 - s.val)).val, 0] := by decide +kernel
theorem off6_eq : ∀ (c : Dev nD), k0_off6 c = ![(sh c 1).val, 0, 0] := by decide +kernel
theorem off7_eq : ∀ (c : Dev nD) (t : Fin 4), k0_off7 c (W t.val) = ![(sh c (9 - t.val)).val, 0, 0] := by decide +kernel
theorem off8_eq : ∀ (c : Dev nD) (t : Fin 3), k0_off8 c (W t.val) = ![(sh c (1 + t.val)).val, 0, 0] := by decide +kernel
theorem off9_eq : ∀ (c : Dev nD), k0_off9 c = ![(sh c 1).val, 0, 0] := by decide +kernel
theorem off10_eq : ∀ (c : Dev nD), k0_off10 c = ![0, 256 * (sh c 1).val, 0] := by decide +kernel
theorem off11_eq : ∀ (c : Dev nD) (t : Fin 4), k0_off11 c (W t.val) = ![(sh c (8 - t.val)).val, 0, 0] := by decide +kernel
theorem off12_eq : ∀ (c : Dev nD) (t : Fin 4), k0_off12 c (W t.val) = ![0, 256 * (sh c (8 - t.val)).val, 0] := by decide +kernel
theorem off13_eq : ∀ (c : Dev nD) (t : Fin 3), k0_off13 c (W t.val) = ![(sh c (2 + t.val)).val, 0, 0] := by decide +kernel
theorem off14_eq : ∀ (c : Dev nD) (t : Fin 3), k0_off14 c (W t.val) = ![0, 256 * (sh c (2 + t.val)).val, 0] := by decide +kernel

/-! ## The slots by chunk number -/

theorem ag_inb (k : Fin 8) : ∀ a, (![k.val, 0, 0] : Fin 3 → ℕ) a + S1x256x1024.size a ≤ S8x256x1024.size a := by
  revert k; decide
theorem row_inb (k : Fin 8) : ∀ a, (![256 * k.val, 0] : Fin 2 → ℕ) a + S256x1024.size a ≤ S2048x1024.size a := by
  revert k; decide
theorem out_inb (k : Fin 8) : ∀ a, (![0, 256 * k.val, 0] : Fin 3 → ℕ) a + S1x256x1024.size a ≤ S1x2048x1024.size a := by
  revert k; decide

abbrev agR (k : Fin 8) : Rect S8x256x1024 := Rect.unit ![k.val, 0, 0] S1x256x1024.size (ag_inb k)
abbrev agV (k : Fin 8) : Memref sig .tc .vmem S256x1024 .bf16 :=
  (agB.slice (agR k) (fun _ => rfl)).squeeze S256x1024 squeezes_S1x256x1024_S256x1024
abbrev rowK (k : Fin 8) : Rect S2048x1024 := Rect.unit ![256 * k.val, 0] S256x1024.size (row_inb k)
abbrev rowV (k : Fin 8) : Memref sig .tc .vmem S256x1024 .bf16 := partB.slice (rowK k) (fun _ => rfl)
abbrev outR (k : Fin 8) : Rect S1x2048x1024 := Rect.unit ![0, 256 * k.val, 0] S1x256x1024.size (out_inb k)

/-- Two rectangles of one size at equal offsets are equal. -/
theorem unit_congr {s : Shape} {o o' : Fin s.rank → ℕ} (n : Fin s.rank → ℕ) (h : o = o') (ho : ∀ a, o a + n a ≤ s.size a) (ho' : ∀ a, o' a + n a ≤ s.size a) :
    Rect.unit o n ho = Rect.unit o' n ho' := by subst h; rfl

theorem agV_of {o : Fin 3 → ℕ} (k : Fin 8) (h : o = ![k.val, 0, 0]) (ho : ∀ a, o a + S1x256x1024.size a ≤ S8x256x1024.size a) :
    ((agB.slice (Rect.unit (s := S8x256x1024) o S1x256x1024.size ho) (fun _ => rfl)).squeeze S256x1024 squeezes_S1x256x1024_S256x1024 : Memref sig .tc .vmem S256x1024 .bf16) = agV k := by
  subst h; rfl
theorem rowV_of {o : Fin 2 → ℕ} (k : Fin 8) (h : o = ![256 * k.val, 0]) (ho : ∀ a, o a + S256x1024.size a ≤ S2048x1024.size a) :
    (partB.slice (Rect.unit (s := S2048x1024) o S256x1024.size ho) (fun _ => rfl) : Memref sig .tc .vmem S256x1024 .bf16) = rowV k := by
  subst h; rfl

theorem cwV_eq (c : Dev nD) (t : Fin 4) : cwV c t = agV (sh c (9 - t.val)) := agV_of _ (off7_eq c t) _
theorem ccwV_eq (c : Dev nD) (t : Fin 3) : ccwV c t = agV (sh c (1 + t.val)) := agV_of _ (off8_eq c t) _
theorem mineV_eq (c : Dev nD) : mineV c = rowV (sh c 0) := rowV_of _ (off4_eq c) _

/-! ## Contents -/

variable (m : (ℓ : Loc nD τ sig) → Buf (Elt F) ℓ)

/-- The staged operands of device `c`. -/
def xC (c : Dev nD) : Vec F S1x2048x1024 .f32 := (win0_0.blk (0 : Fin 1)).view.read (Elt F) (m ((c : Thread nD τ).loc main_arg0))
def wqC (c : Dev nD) : Vec F S1024x1024 .f32 := (win0_1.blk (0 : Fin 1)).view.read (Elt F) (m ((c : Thread nD τ).loc main_arg1))
def woC (c : Dev nD) : Vec F S1024x1024 .f32 := (win0_2.blk (0 : Fin 1)).view.read (Elt F) (m ((c : Thread nD τ).loc main_arg4))
/-- A key (`e = 0`) or value window as its copy delivers it. -/
def winC (e : Fin 2) (c : Dev nD) (j h : Fin 8) : Vec F S512x128 .f32 := (srcV e c j h).view.read (Elt F) (m ((srcV e c j h).view.loc (c : Thread nD τ)))

/-- The chunk's rows of the query operand, as the load delivers them. -/
def xRow (c : Dev nD) (j : Fin 8) : Vec F S1x256x1024 .f32 :=
  xB.view.readAt (Elt F) (Rect.unit (s := S1x2048x1024) (k0_off2 c (W j.val)) S1x256x1024.size (k0_off2_inb c j)).toLoadRect (xC m c)

def qC (c : Dev nD) (j : Fin 8) : FVec F S256x1024 .bf16 := qOf (xRow m c j) (wqbOf (wqC m c))
def biasC (c : Dev nD) (j : Fin 8) : FVec F S256x512 .f32 := bias (qW c (W j.val)) (kW c (W j.val))
/-- One head's context of chunk `j`. -/
def hdC (c : Dev nD) (j h : Fin 8) : FVec F S256x128 .bf16 := hdOf h (qC m c j) (biasC c j) (winC m 0 c j h) (winC m 1 c j h)

/-- The heads' contexts beside each other. -/
def ctxC (c : Dev nD) (j : Fin 8) : Vec F S256x1024 .bf16 := fun i =>
  hdC m c j ⟨(i 1).val / 128, by have : (i 1).val < 1024 := (i 1).isLt; omega⟩ (ix2 (i 0) ⟨(i 1).val % 128, Nat.mod_lt _ (by decide)⟩)

/-- Chunk `j`'s partial product on device `c`. -/
def partC (c : Dev nD) (j : Fin 8) : Vec F S256x1024 .bf16 := partOf (ctxC m c j) (wobOf (woC m c))

/-- The sum device `c` sends on after `s` additions. -/
def acc : ℕ → Dev nD → Vec F S256x1024 .bf16
  | 0, c => partC m c 0
  | s + 1, c => (addf (acc s (prv c) : FVec F S256x1024 .bf16) (partC m c (Fin.ofNat 8 (s + 1)) : FVec F S256x1024 .bf16) : FVec F S256x1024 .bf16)

/-- Chunk `k` of the result: all eight partial products summed, on the device after which the last addition leaves it. -/
def tot (k : Fin 8) : Vec F S256x1024 .bf16 := acc m 7 (prv k)

/-- The result. -/
def outC : Vec F S1x2048x1024 .f32 := fun i =>
  (extf .f32 (tot m ⟨(i 1).val / 256, by have : (i 1).val < 2048 := (i 1).isLt; omega⟩ : FVec F S256x1024 .bf16) bitsLt_bf16_f32 : FVec F S256x1024 .f32)
    (ix2 ⟨(i 1).val % 256, Nat.mod_lt _ (by decide)⟩ (i 2))

/-! ## The fourteen transfers -/

/-- A transfer: one of the seven hops of the sum, of the four steps of the all-gather one way, of the three the other. -/
abbrev Xf : Type := Fin 7 ⊕ (Fin 4 ⊕ Fin 3)

/-- Its number among the semaphores, its place in the order of starts, whether it goes to the device before. -/
def semI : Xf → Fin 14
  | .inl s => s.castLE (by decide)
  | .inr (.inl t) => cwI t
  | .inr (.inr t) => ccwI t
def ord : Xf → ℕ
  | .inl s => s.val
  | .inr (.inl t) => 7 + 2 * t.val
  | .inr (.inr t) => 8 + 2 * t.val
def back : Xf → Bool
  | .inl _ => false
  | .inr (.inl _) => false
  | .inr (.inr _) => true
/-- Whom it goes to. -/
def peer (c : Dev nD) (x : Xf) : Dev nD := if back x then prv c else nxt c
/-- Whom it comes from. -/
def from_ (c : Dev nD) (x : Xf) : Dev nD := if back x then nxt c else prv c

theorem semI_inj : Function.Injective semI := by decide
theorem ord_inj : Function.Injective ord := by decide
theorem ord_lt (x : Xf) : ord x < 14 := by revert x; decide
theorem peer_from (c : Dev nD) (x : Xf) : peer (from_ c x) x = c := by revert c x; decide
theorem from_peer (c : Dev nD) (x : Xf) : from_ (peer c x) x = c := by revert c x; decide

/-- What it reads, where it lands, and the contents. -/
def srcM (c : Dev nD) : Xf → Memref sig .tc .vmem S256x1024 .bf16
  | .inl s => Fin.cases (rowV (sh c 0)) (fun s' : Fin 6 => commV s'.castSucc) s
  | .inr (.inl t) => agV (sh c (9 - t.val))
  | .inr (.inr t) => agV (sh c (1 + t.val))
def slot (c : Dev nD) : Xf → Memref sig .tc .vmem S256x1024 .bf16
  | .inl s => commV s
  | .inr (.inl t) => agV (sh c (8 - t.val))
  | .inr (.inr t) => agV (sh c (2 + t.val))
def srcC (c : Dev nD) : Xf → Vec F S256x1024 .bf16
  | .inl s => acc m s.val c
  | .inr (.inl t) => tot m (sh c (9 - t.val))
  | .inr (.inr t) => tot m (sh c (1 + t.val))
def slotC (c : Dev nD) : Xf → Vec F S256x1024 .bf16
  | .inl s => acc m s.val (prv c)
  | .inr (.inl t) => tot m (sh c (8 - t.val))
  | .inr (.inr t) => tot m (sh c (2 + t.val))

theorem cw_chunk : ∀ (c : Dev nD) (t : Fin 4), sh (nxt c) (8 - t.val) = sh c (9 - t.val) := by decide
theorem ccw_chunk : ∀ (c : Dev nD) (t : Fin 3), sh (prv c) (2 + t.val) = sh c (1 + t.val) := by decide

/-- What is sent is what lands. -/
theorem slotC_peer (c : Dev nD) (x : Xf) : slotC m (peer c x) x = srcC m c x := by
  rcases x with s | t | t
  · show acc m s.val (prv (nxt c)) = acc m s.val c; rw [prv_nxt]
  · show tot m (sh (nxt c) (8 - t.val)) = tot m (sh c (9 - t.val)); rw [cw_chunk]
  · show tot m (sh (prv c) (2 + t.val)) = tot m (sh c (1 + t.val)); rw [ccw_chunk]

/-- For the gathered chunks the two memrefs are one. -/
theorem slot_peer_cw (c : Dev nD) (t : Fin 4) : slot (peer c (.inr (.inl t))) (.inr (.inl t)) = srcM c (.inr (.inl t)) := by
  show agV (sh (nxt c) (8 - t.val)) = agV (sh c (9 - t.val)); rw [cw_chunk]
theorem slot_peer_ccw (c : Dev nD) (t : Fin 3) : slot (peer c (.inr (.inr t))) (.inr (.inr t)) = srcM c (.inr (.inr t)) := by
  show agV (sh (prv c) (2 + t.val)) = agV (sh c (1 + t.val)); rw [ccw_chunk]

end Cert.KernelIdeal.Ring

end
-- ==== Proof.Protocol.lean ====
/-
  What the devices tell each other. A device's barrier cell has two duties of one unit: the device after it hands over the
  slots that the transfers towards it land in, the device before it the slots of the transfers that way. The cells of the
  fourteen transfers have one duty each, of the credit of one block: the sender's cell gives the source share back, the
  receiver's cell the slot with the contents. The transfers are numbered in the order they start; what a device still owes
  is the credits of the transfers it has not started, and every wait is below them.
-/
module

public import proofs.«01_k».proof.Proof.Mesh
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.ShareLeaves
public import Idealize.ShloMosaic.Lib.Transfers
public import Idealize.ShloMosaic.Lib.Ring

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the launch library's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A device's cells: the barrier (`none`), a transfer's sending (`false`) and landing (`true`) cell. -/
abbrev CK : Type := Option (Bool × Xf)

def csem : CK → SemLoc sig
  | none => .reg barS
  | some (false, x) => .dma (sendS (semI x))
  | some (true, x) => .dma (recvS (semI x))

theorem csem_inj : Function.Injective csem := by decide +kernel

abbrev kcell (p : Dev nD × CK) : GSem nD τ sig := ((p.1 : Thread nD τ), csem p.2)
abbrev barCell (c : Dev nD) : GSem nD τ sig := kcell (c, none)
abbrev sndCell (c : Dev nD) (x : Xf) : GSem nD τ sig := kcell (c, some (false, x))
abbrev rcvCell (c : Dev nD) (x : Xf) : GSem nD τ sig := kcell (c, some (true, x))

open Classical in
/-- Which of a device's cells a semaphore is. -/
def cellOfSem (s : SemLoc sig) : Option CK := if h : ∃ k, csem k = s then some h.choose else none

theorem cellOfSem_csem (k : CK) : cellOfSem (csem k) = some k := by
  unfold cellOfSem
  have h : ∃ k', csem k' = csem k := ⟨k, rfl⟩
  rw [dif_pos h, csem_inj h.choose_spec]

theorem cellOfSem_none {s : SemLoc sig} (h : ∀ k, csem k ≠ s) : cellOfSem s = none := by
  unfold cellOfSem
  exact dif_neg fun ⟨k, hk⟩ => h k hk

/-- The credit of one block. -/
abbrev N : ℕ := (commV 0).view.dmaCredit
theorem N_pos : 0 < N := View.dmaCredit_pos _ (by decide)
theorem credit_slot (c : Dev nD) (x : Xf) (c' : Dev nD) (y : Xf) : (slot c x).view.amount (csem (some (true, y))) = N := by
  rcases x with s | t | t <;> rfl
theorem credit_slot' (c : Dev nD) (x : Xf) : (slot c x).view.dmaCredit = N := by
  rcases x with s | t | t <;> rfl
theorem credit_src (c : Dev nD) (x : Xf) : (srcM c x).view.dmaCredit = N := by
  rcases x with s | t | t
  · refine Fin.cases ?_ (fun s => ?_) s <;> rfl
  · rfl
  · rfl

/-! ## The schedule -/

/-- The share a transfer reads its source at: all of a hop's; of a gathered chunk the part the copy into the result leaves. -/
def srcQ : Xf → PosShare TreeShare
  | .inl _ => fullShare
  | .inr (.inl _) => fullShare.left
  | .inr (.inr _) => fullShare.right.left

def sndPay (c : Dev nD) (x : Xf) : sProp 𝕄 := owns (c : Thread nD τ) (srcM c x) (srcQ x) (srcC m c x)
def rcvPay (c : Dev nD) (x : Xf) : sProp 𝕄 := owns (c : Thread nD τ) (slot c x) fullShare (slotC m c x)
/-- A landing slot before its transfer. -/
def free (c : Dev nD) (x : Xf) : sProp 𝕄 := iprop(∃ X, owns (c : Thread nD τ) (slot c x) fullShare X)
/-- The slots that device `c`'s transfers towards one side land in, handed to it by the device there. -/
def barPay (c : Dev nD) (b : Bool) : sProp 𝕄 := bigSep (Finset.univ.filter fun x => back x = b) fun x => free (peer c x) x

instance sndPay_storable (c : Dev nD) (x : Xf) : BI.Storable (upEmb : UEmb _ 𝕄) (sndPay (F := F) m c x) := by unfold sndPay; infer_instance
instance rcvPay_storable (c : Dev nD) (x : Xf) : BI.Storable (upEmb : UEmb _ 𝕄) (rcvPay (F := F) m c x) := by unfold rcvPay; infer_instance
instance free_storable (c : Dev nD) (x : Xf) : BI.Storable (upEmb : UEmb _ 𝕄) (free (F := F) c x) := by unfold free; infer_instance
instance barPay_storable (c : Dev nD) (b : Bool) : BI.Storable (upEmb : UEmb _ 𝕄) (barPay (F := F) c b) := by unfold barPay; infer_instance

def dutiesOf : Option CK → Finset Bool
  | none => ∅
  | some none => Finset.univ
  | some (some _) => {false}
def amountOf : Option CK → ℕ
  | some none => 1
  | _ => N
def payOf (c : Dev nD) (d : Bool) : Option CK → sProp 𝕄
  | none => iprop(emp)
  | some none => barPay c d
  | some (some (false, x)) => sndPay m c x
  | some (some (true, x)) => rcvPay m c x

instance payOf_storable (c : Dev nD) (d : Bool) (k : Option CK) : BI.Storable (upEmb : UEmb _ 𝕄) (payOf (F := F) m c d k) := by
  rcases k with _ | _ | ⟨_ | _, x⟩ <;> unfold payOf <;> infer_instance

/-- One round. -/
def Rd : Rounds.Schedule (GSem nD τ sig) Bool (MT nD τ sig Unit (Elt F) ℕ UU ℕ) where
  duties g r := if r = 0 ∧ g.1.2 = .tc then dutiesOf (cellOfSem g.2) else ∅
  unitless _ := False
  amount g _ _ := amountOf (cellOfSem g.2)
  payload g _ d := payOf m g.1.1 d (cellOfSem g.2)
  amount_pos g _ _ _ := by
    rcases cellOfSem g.2 with _ | _ | _
    · exact N_pos
    · exact Nat.one_pos
    · exact N_pos

instance Rd_payload_storable (g : GSem nD τ sig) (r : ℕ) (d : Bool) : BI.Storable (upEmb : UEmb _ 𝕄) ((Rd (F := F) m).payload g r d) :=
  payOf_storable m g.1.1 d (cellOfSem g.2)

section Sched
variable (c : Dev nD) (x : Xf)

theorem duties_k (k : CK) : (Rd (F := F) m).duties (kcell (c, k)) 0 = dutiesOf (some k) := by
  rw [← cellOfSem_csem k]; dsimp only [Rd]; exact if_pos ⟨rfl, rfl⟩
theorem amount_k (k : CK) (d : Bool) : (Rd (F := F) m).amount (kcell (c, k)) 0 d = amountOf (some k) := by
  rw [← cellOfSem_csem k]; rfl
theorem payload_k (k : CK) (d : Bool) : (Rd (F := F) m).payload (kcell (c, k)) 0 d = payOf m c d (some k) := by
  rw [← cellOfSem_csem k]; rfl
theorem duties_later (g : GSem nD τ sig) : ∀ r, 1 ≤ r → (Rd (F := F) m).duties g r = ∅ :=
  fun r hr => if_neg fun h => by omega

theorem expect_bar : (Rd (F := F) m).expect (barCell c) 0 = 2 := by
  unfold Schedule.expect Schedule.amountOf
  rw [duties_k, Finset.sum_congr rfl fun d _ => amount_k m c none d]; rfl
theorem expect_x (b : Bool) : (Rd (F := F) m).expect (kcell (c, some (b, x))) 0 = N := by
  unfold Schedule.expect Schedule.amountOf
  rw [duties_k]; dsimp only [dutiesOf]; rw [Finset.sum_singleton, amount_k]; rfl

/-- What the barrier wait brings: every slot that the device's own transfers land in. -/
theorem rest_bar : bigSep ((Rd (F := F) m).duties (barCell c) 0 \ ∅) (fun d => (Rd (F := F) m).payload (barCell c) 0 d)
    = bigSep Finset.univ (fun x => free (F := F) (peer c x) x) := by
  rw [Finset.sdiff_empty, duties_k]
  show bigSep Finset.univ _ = _
  rw [bigSep_univ_eq_bigSepL [true, false] (by decide) (by decide), bigSepL_cons_cons, bigSepL_singleton, payload_k, payload_k,
    bigSep_filter_split Finset.univ (fun x : Xf => back x = true)]
  simp only [Bool.not_eq_true]
  rfl
theorem rest_x (b : Bool) : bigSep ((Rd (F := F) m).duties (kcell (c, some (b, x))) 0 \ ∅) (fun d => (Rd (F := F) m).payload (kcell (c, some (b, x))) 0 d)
    = payOf m c false (some (some (b, x))) := by
  rw [Finset.sdiff_empty, duties_k]; dsimp only [dutiesOf]; rw [bigSep_singleton, payload_k]

end Sched

/-! ## Owing and waiting -/

/-- The credits of the transfers from number `n` on. -/
def todo (c : Dev nD) (n : ℕ) : CellTallies nD τ sig Unit := ∑ x ∈ Finset.univ.filter (fun x => n ≤ ord x), tallyAt (rcvCell (peer c x) x) () N
def O₁ (c : Dev nD) : CellTallies nD τ sig Unit := todo c 0 + tallyAt (barCell (nxt c)) () 1
/-- At launch also a unit to each neighbour's barrier. -/
def O₀ (c : Dev nD) : CellTallies nD τ sig Unit := O₁ c + tallyAt (barCell (prv c)) () 1

theorem todo_succ (c : Dev nD) (x : Xf) : todo c (ord x) = todo c (ord x + 1) + tallyAt (rcvCell (peer c x) x) () N := by
  unfold todo
  have h : (Finset.univ.filter fun y : Xf => ord x ≤ ord y) = insert x (Finset.univ.filter fun y : Xf => ord x + 1 ≤ ord y) := by
    ext y; rw [Finset.mem_insert, Finset.mem_filter, Finset.mem_filter]
    constructor
    · rintro ⟨-, h⟩
      rcases Nat.eq_or_lt_of_le h with e | e
      · exact .inl (ord_inj e.symm)
      · exact .inr ⟨Finset.mem_univ _, e⟩
    · rintro (rfl | ⟨-, h⟩)
      · exact ⟨Finset.mem_univ _, le_rfl⟩
      · exact ⟨Finset.mem_univ _, by omega⟩
  rw [h, Finset.sum_insert (by rw [Finset.mem_filter]; omega), add_comm]
theorem todo_end (c : Dev nD) : todo c 14 = 0 := by
  unfold todo; rw [Finset.filter_eq_empty_iff.mpr fun x _ => by have := ord_lt x; omega]; rfl

def L (g : GSem nD τ sig) : Finset Unit := if g.1.2 = .tc then {()} else ∅
def lvOf : Option CK → ℕ
  | some none => 1
  | some (some (true, x)) => 2 + ord x
  | _ => 0
def lv (g : GSem nD τ sig) (_ : Unit) : ℕ := lvOf (cellOfSem g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) : lv (kcell (c, k)) () = lvOf (some k) := congrArg lvOf (cellOfSem_csem k)

theorem todo_pos {c : Dev nD} {n : ℕ} {g : GSem nD τ sig} {u : Unit} (h : 0 < todo c n g u) :
    ∃ x, n ≤ ord x ∧ g = rcvCell (peer c x) x := by
  unfold todo at h
  rw [Finset.sum_apply, Finsupp.finset_sum_apply] at h
  obtain ⟨x, hx, hp⟩ := Finset.exists_ne_zero_of_sum_ne_zero (Nat.pos_iff_ne_zero.mp h)
  rw [tallyAt_apply] at hp
  refine ⟨x, (Finset.mem_filter.mp hx).2, ?_⟩
  by_contra hn
  exact hp (if_neg fun h' => hn h'.1)

theorem O₀_pos {c : Dev nD} {g : GSem nD τ sig} {u : Unit} (h : 0 < O₀ c g u) : ∃ d k, g = kcell (d, k) ∧ 0 < lvOf (some k) := by
  by_contra hn
  have hb : ∀ d, g ≠ barCell d := fun d e => hn ⟨d, none, e, show 0 < 1 from Nat.one_pos⟩
  have h1 : ¬ 0 < todo c 0 g u := fun h' => by
    obtain ⟨x, -, e⟩ := todo_pos h'
    exact hn ⟨peer c x, some (true, x), e, show 0 < 2 + ord x by omega⟩
  unfold O₀ O₁ at h
  rw [Pi.add_apply, Finsupp.add_apply, Pi.add_apply, Finsupp.add_apply, tallyAt_apply, tallyAt_apply,
    if_neg (fun h' => hb _ h'.1), if_neg (fun h' => hb _ h'.1), Nat.add_zero] at h
  exact h1 h

/-- A device owing the transfers from number `n` on may wait on any of its cells below the level of those. -/
theorem mayWait (c : Dev nD) (sm : SemLoc sig) (n : ℕ) (h : lvOf (cellOfSem sm) < 2 + n) :
    (levAts L lv : sProp 𝕄) ⊢ MayWait (c : Thread nD τ) sm () (todo c n) :=
  MayOwe.of_cut (L := L) (lev := lv) (1 + n) (fun p hp => by rw [Finset.mem_singleton.mp hp, L_tc]; exact Finset.mem_singleton_self _)
    (fun g u hg => by obtain ⟨x, -, rfl⟩ := todo_pos hg; exact Finset.mem_singleton_self _)
    (fun p hp => by rw [Finset.mem_singleton.mp hp]; dsimp only [lv]; omega)
    (fun g u hg => by
      obtain ⟨x, hx, rfl⟩ := todo_pos hg
      rw [show lv (rcvCell (peer c x) x) u = 2 + ord x from lv_k _ _]; omega)

/-- A device owing everything, or nothing, may wait on a cell that is no cell of the protocol. -/
theorem mayWait_stage (c : Dev nD) (sm : SemLoc sig) (h : lvOf (cellOfSem sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by rw [Finset.mem_singleton.mp hp]; dsimp only [lv]; omega)
      (fun g u hg => by obtain ⟨d, k, rfl, hk⟩ := O₀_pos hg; rw [show lv (kcell (d, k)) u = _ from lv_k d k]; exact hk)
  · rw [MayWait_zero]; iintro -; iempintro

/-! ## What the body carries about the protocol -/

variable (K : Dev nD × CK → ℕ)

/-- Every cell's invariant and that its round is reached, and the levels: facts, kept throughout. -/
def world : sProp 𝕄 := iprop(bigSep Finset.univ (fun p : Dev nD × CK => iprop(cellInv ER (Rd (F := F) m) (K p) (kcell p) ∗ reached ER (kcell p) 0)) ∗ levAts L lv)
instance world_persistent : BI.Persistent (world (F := F) m K) := by unfold world; infer_instance

theorem world_cell (p : Dev nD × CK) : world (F := F) m K ⊢ iprop(cellInv ER (Rd (F := F) m) (K p) (kcell p) ∗ reached ER (kcell p) 0) := by
  unfold world
  iintro ⟨H, -⟩
  ihave H' := (show bigSep Finset.univ (fun p : Dev nD × CK => iprop(cellInv ER (Rd (F := F) m) (K p) (kcell p) ∗ reached ER (kcell p) 0)) ⊢ _ from bigSep_elim (Finset.mem_univ p)) $$ H
  iexact H'
theorem world_lev : world (F := F) m K ⊢ levAts L lv := by unfold world; iintro ⟨-, H⟩; iexact H

/-- What a device needs to send a transfer (besides the slot it lands in), and to wait for it. -/
def tok (c : Dev nD) (x : Xf) : sProp 𝕄 := iprop(dutyTok ER (sndCell c x) 0 false ∗ dutyTok ER (rcvCell (peer c x) x) 0 false)
def stub (c : Dev nD) (x : Xf) : sProp 𝕄 :=
  iprop(atPos ER (sndCell c x) 0 ∅ 0 ∗ atPos ER (rcvCell c x) 0 ∅ 0 ∗ cred (tallyAt (rcvCell c x) () N))
def ticket (c : Dev nD) (x : Xf) : sProp 𝕄 := iprop(free (F := F) (peer c x) x ∗ tok c x)
def sent (c : Dev nD) (x : Xf) : sProp 𝕄 := cred (tallyAt (sndCell c x) () N)
/-- Both of a transfer's cells closed. -/
def done (c : Dev nD) (x : Xf) : sProp 𝕄 := iprop(semVal (sndCell c x) 0 ∗ semVal (rcvCell c x) 0)
/-- What a device owes, whatever it has waited on. -/
def Ow (c : Dev nD) (n : ℕ) : sProp 𝕄 := iprop(∃ W, owes (c : Thread nD τ) (todo c n) W)

end Cert.KernelIdeal.Ring

end
-- ==== Proof.Rules.lean ====
/-
  The steps of the body as rules: a load and a store through a rectangle owned on its own, a transfer sent and the two
  waits of it. Each rule hands what is left to the rest of the body.
-/
module

public import proofs.«01_k».proof.Proof.Protocol

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a piece of the body on device `c`. -/
abbrev WP (c : Dev nD) {α : Type} (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

variable (m : (ℓ : Loc nD τ sig) → Buf (Elt F) ℓ) (K : Dev nD × CK → ℕ)

section Access

variable {s s' : Shape} {e : EltTy} (c : Dev nD) (M : Memref sig .tc .vmem s e) (r : Rect s) (hr : ∀ a, r.stride a = 1)

/-- A load of a rectangle owned on its own. -/
theorem wp_load_own (q : PosShare TreeShare) (X : Vec F r.shape e) {hl : M.view.LoadsAt r.toLoadRect} (Q : Vec F r.shape e → sProp 𝕄) :
    iprop(owns (c : Thread nD τ) (M.slice r hr) q X ∗ (owns (c : Thread nD τ) (M.slice r hr) q X -∗ Q X))
      ⊢ WP c (Prog.lift (.load M r.toLoadRect hl)) Q := by
  unfold owns WP
  simp only [Prog.lift]
  iintro ⟨⟨%f, %hf, H⟩, Hk⟩
  iapply (wp_load_rect 𝒱₀ (c : Thread nD τ) none Set.univ (m := M) (r := r) (S := (M.slice r hr).view.set) (f := f) (q := q) (Finset.Subset.refl _)) $$ H
  iintro H
  rw [wp_ret]; imodintro
  have hf' : (M.access r).read (Elt F) f = X := hf
  rw [hf']
  iapply Hk
  iexists f
  isplitr
  · ipureintro; exact hf
  iexact H

/-- A store over a rectangle owned on its own. -/
theorem wp_store_own (w : Vec F r.shape e) {hx : (M.access r).Stores Finset.univ} {hm : (Finset.univ : Finset r.shape.Idx) = Finset.univ ∨ ∀ a, r.stride a = 1} (Q : PUnit → sProp 𝕄) :
    iprop((∃ X, owns (c : Thread nD τ) (M.slice r hr) fullShare X) ∗ (owns (c : Thread nD τ) (M.slice r hr) fullShare w -∗ Q ⟨⟩))
      ⊢ WP c (Prog.lift (.store M r w Finset.univ hx hm)) Q := by
  unfold owns WP
  simp only [Prog.lift]
  iintro ⟨⟨%X, %f, %hf, H⟩, Hk⟩
  iapply (wp_store 𝒱₀ (c : Thread nD τ) none Set.univ (m := M) (r := r) (w := w) (Mk := Finset.univ) (S := (M.slice r hr).view.set) (f := f) (Finset.Subset.refl _)) $$ H
  iintro H
  rw [wp_ret]; imodintro
  iapply Hk
  iexists _
  isplitr
  · ipureintro; exact View.read_write_univ (v := M.access r) f w
  iexact H

variable (hq : r.shape.Squeezes s') (hc : r.shape.ShapeCasts s')

/-- The same of a rectangle seen without its axes of length one: what is loaded, reshaped, is what is owned; -/
theorem wp_load_sq (q : PosShare TreeShare) (X : Vec F s' e) {hl : M.view.LoadsAt r.toLoadRect} (Q : Vec F r.shape e → sProp 𝕄) :
    iprop(owns (c : Thread nD τ) ((M.slice r hr).squeeze s' hq) q X
        ∗ (∀ w : Vec F r.shape e, iprop(⌜shapeCast s' w hc = X⌝ -∗ owns (c : Thread nD τ) ((M.slice r hr).squeeze s' hq) q X -∗ Q w)))
      ⊢ WP c (Prog.lift (.load M r.toLoadRect hl)) Q := by
  unfold owns WP
  simp only [Prog.lift]
  iintro ⟨⟨%f, %hf, H⟩, Hk⟩
  have hset : ((M.slice r hr).squeeze s' hq).view.set = (M.access r).set := View.set_reshape _ _
  rw [hset]
  iapply (wp_load_rect 𝒱₀ (c : Thread nD τ) none Set.univ (m := M) (r := r) (S := (M.access r).set) (f := f) (q := q) (Finset.Subset.refl _)) $$ H
  iintro H
  rw [wp_ret]; imodintro
  ispecialize Hk $$ %((M.access r).read (Elt F) f)
  iapply Hk
  · ipureintro; exact hf
  iexists f
  isplitr
  · ipureintro; exact hf
  iexact H

/-- what is owned after a store is what was stored, reshaped. -/
theorem wp_store_sq (w : Vec F r.shape e) {hx : (M.access r).Stores Finset.univ} {hm : (Finset.univ : Finset r.shape.Idx) = Finset.univ ∨ ∀ a, r.stride a = 1} (Q : PUnit → sProp 𝕄) :
    iprop((∃ X, owns (c : Thread nD τ) ((M.slice r hr).squeeze s' hq) fullShare X) ∗ (owns (c : Thread nD τ) ((M.slice r hr).squeeze s' hq) fullShare (shapeCast s' w hc) -∗ Q ⟨⟩))
      ⊢ WP c (Prog.lift (.store M r w Finset.univ hx hm)) Q := by
  unfold owns WP
  simp only [Prog.lift]
  iintro ⟨⟨%X, %f, %hf, H⟩, Hk⟩
  have hset : ((M.slice r hr).squeeze s' hq).view.set = (M.access r).set := View.set_reshape _ _
  rw [hset]
  iapply (wp_store 𝒱₀ (c : Thread nD τ) none Set.univ (m := M) (r := r) (w := w) (Mk := Finset.univ) (S := (M.access r).set) (f := f) (Finset.Subset.refl _)) $$ H
  iintro H
  rw [wp_ret]; imodintro
  iapply Hk
  iexists _
  isplitr
  · ipureintro
    exact (congrArg (fun v => shapeCast s' v hc) (View.read_write_univ (v := M.access r) f w) :)
  iexact H

end Access

/-! ## A transfer -/

/-- Transfer `x` sent: the source and the ticket go, the credit on the device's own cell comes. -/
theorem wp_sendX (c n : Dev nD) (x : Xf) (hn : n = peer c x) (src dst : Memref sig .tc .vmem S256x1024 .bf16) (hs : src = srcM c x) (hd : dst = slot (peer c x) x)
    {hsc : (dst : Memref sig (Dev.tc n : Thread nD τ).2.kind .vmem S256x1024 .bf16).view.ref.isScScratch = false}
    {hsrc : src.view.WordExact} {hdst : dst.view.WordExact}
    {hsem : DmaTarget.Typed .vmem (.dma (recvS (semI x))) (.remote (Dev.tc n : Thread nD τ) (dst : Memref sig .tc .vmem S256x1024 .bf16) (.dma (sendS (semI x))) hsc)}
    (Q : PUnit → sProp 𝕄) :
    iprop(world m K ∗ sndPay m c x ∗ ticket c x ∗ Ow c (ord x) ∗ ((sent c x ∗ Ow c (ord x + 1)) -∗ Q ⟨⟩))
      ⊢ WP c (Prog.lift (.enqueueDma src (.remote (Dev.tc n : Thread nD τ) dst (.dma (sendS (semI x))) hsc) (.dma (recvS (semI x))) hsrc hdst hsem)) Q := by
  subst hn hs hd
  unfold WP sndPay ticket free tok Ow owns sent
  simp only [Prog.lift]
  iintro ⟨#Hw, ⟨%f, %hf, Hs⟩, ⟨⟨%X, %g, %hg, Hd⟩, Ht1, Ht2⟩, ⟨%W, HO⟩, Hk⟩
  ihave H1 := (world_cell m K (c, some (false, x))) $$ Hw
  icases H1 with ⟨#HI1, #HR1⟩
  ihave H2 := (world_cell m K (peer c x, some (true, x))) $$ Hw
  icases H2 with ⟨#HI2, #HR2⟩
  iapply (Rounds.wp_send_pointsTo 𝒱₀ ER (Rd m) (c : Thread nD τ) none (κ₁ := K (c, some (false, x))) (κ₂ := K (peer c x, some (true, x)))
    (c' := (peer c x : Thread nD τ)) (src := srcM c x) (dst := slot (peer c x) x) (sS := csem (some (false, x))) (sem := csem (some (true, x)))
    (r₁ := 0) (r₂ := 0) (d₁ := false) (d₂ := false) (fs := f) (fd := g) (q := srcQ x)
    (by rw [duties_k]; exact Finset.mem_singleton_self _) (by rw [duties_k]; exact Finset.mem_singleton_self _)
    () () N (credit_slot (peer c x) x c x) (amount_k m c (some (false, x)) false) (amount_k m (peer c x) (some (true, x)) false)
    (todo c (ord x + 1)) (todo_succ c x) (W := W)
    (by rw [payload_k]; show _ ⊢ sndPay m c x; unfold sndPay; rw [← hf]; exact owns_intro _ _ _ _)
    (by
      rw [payload_k]; show _ ⊢ rcvPay m (peer c x) x; unfold rcvPay; rw [slotC_peer, ← hf]
      refine (owns_intro _ _ _ _).trans (Entails.of_eq ?_)
      rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [wp_ret]; imodintro
  iapply Hk
  isplitl [Hc]; · iexact Hc
  iexists W; iexact HO

/-- One of the two waits of transfer `x`: its payload, and the cell closed. -/
theorem wp_wait1 (c : Dev nD) (b : Bool) (x : Xf) (n : ℕ) (hx : lvOf (some (some (b, x))) < 2 + n) (sem : DmaSem sig) (hsm : csem (some (b, x)) = .dma sem)
    (A B : Memref sig .tc .vmem S256x1024 .bf16) {hA : A.view.WordExact} {hB : B.view.WordExact} (hN : B.view.dmaCredit = N) (Q : PUnit → sProp 𝕄) :
    iprop(world m K ∗ atPos ER (kcell (c, some (b, x))) 0 ∅ 0 ∗ cred (tallyAt (kcell (c, some (b, x))) () N) ∗ Ow c n
        ∗ ((payOf m c false (some (some (b, x))) ∗ semVal (kcell (c, some (b, x))) 0 ∗ Ow c n) -∗ Q ⟨⟩))
      ⊢ WP c (Prog.lift (.waitDma2 sem A B hA hB)) Q := by
  unfold WP Ow
  simp only [Prog.lift]
  iintro ⟨#Hw, Hat, Hc, ⟨%W, HO⟩, Hk⟩
  ihave H1 := (world_cell m K (c, some (b, x))) $$ Hw
  icases H1 with ⟨#HI1, -⟩
  ihave #Hlev := (world_lev m K) $$ Hw
  iapply (Rounds.wp_wait_rest_token 𝒱₀ ER (Rd m) (c : Thread nD τ) none (κ := K (c, some (b, x))) (sm := csem (some (b, x)))
      (by rw [hsm]; exact wpE_waitDma2_eq 𝒱₀ (c : Thread nD τ) none Set.univ) (Set.mem_univ _) () (O := todo c n) (W := W) (R := 0) (m := 0) (T := ∅)
      (by rw [Nat.zero_add, expect_x])) $$ [Hat Hc HO]
  · isplitr; · iexact HI1
    isplitl [Hc]; · rw [hN]; iexact Hc
    isplitl [HO]; · iexact HO
    isplitr
    · iapply (mayWait c (csem (some (b, x))) n (by rw [cellOfSem_csem]; exact hx)); iexact Hlev
    iexact Hat
  iintro ⟨HO, Hat, -, Hpay⟩
  imod (Rounds.cell_close ER (Rd m) (Set.mem_univ (K (c, some (b, x)))) (fun h => h) (R := 0 + 1) (duties_later m (kcell (c, some (b, x))))) $$ [Hat] with Hz
  · isplitr; · iexact HI1
    iexact Hat
  ihave Hpay := (Entails.of_eq (rest_x m c x b)) $$ Hpay
  rw [wp_ret]; imodintro
  iapply Hk
  isplitl [Hpay]; · iexact Hpay
  isplitl [Hz]; · iexact Hz
  iexists _; iexact HO

/-- Both. -/
theorem wp_waitX (c : Dev nD) (x : Xf) (n : ℕ) (hx : ord x < n) (A B A' B' : Memref sig .tc .vmem S256x1024 .bf16)
    {hA : A.view.WordExact} {hB : B.view.WordExact} {hA' : A'.view.WordExact} {hB' : B'.view.WordExact}
    (hN : B.view.dmaCredit = N) (hN' : B'.view.dmaCredit = N) (Q : PUnit → sProp 𝕄) :
    iprop(world m K ∗ stub c x ∗ sent c x ∗ Ow c n ∗ ((sndPay m c x ∗ rcvPay m c x ∗ done c x ∗ Ow c n) -∗ Q ⟨⟩))
      ⊢ WP c (Prog.lift (.waitDma2 (sendS (semI x)) A B hA hB) >>= fun _ => Prog.lift (.waitDma2 (recvS (semI x)) A' B' hA' hB')) Q := by
  unfold stub sent done WP
  rw [wp_bind]
  iintro ⟨#Hw, ⟨Ha1, Ha2, Hc2⟩, Hc1, HO, Hk⟩
  iapply (wp_wait1 m K c false x n (show 0 < 2 + n by omega) (sendS (semI x)) rfl A B hN)
  isplitr; · iexact Hw
  isplitl [Ha1]; · iexact Ha1
  isplitl [Hc1]; · iexact Hc1
  isplitl [HO]; · iexact HO
  iintro ⟨Hp1, Hz1, HO⟩
  iapply (wp_wait1 m K c true x n (show 2 + ord x < 2 + n by omega) (recvS (semI x)) rfl A' B' hN')
  isplitr; · iexact Hw
  isplitl [Ha2]; · iexact Ha2
  isplitl [Hc2]; · iexact Hc2
  isplitl [HO]; · iexact HO
  iintro ⟨Hp2, Hz2, HO⟩
  iapply Hk
  isplitl [Hp1]; · iapply (show payOf m c false (some (some (false, x))) ⊢ sndPay m c x from BI.Entails.refl _); iexact Hp1
  isplitl [Hp2]; · iapply (show payOf m c false (some (some (true, x))) ⊢ rcvPay m c x from BI.Entails.refl _); iexact Hp2
  isplitr [HO]
  · isplitl [Hz1] <;> iassumption
  iexact HO

end Cert.KernelIdeal.Ring

end
-- ==== Proof.Blocks.lean ====
/-
  A buffer as its blocks: the shared scratch buffers and the result cut along one axis, the copies' buffer along three.
-/
module

public import proofs.«01_k».proof.Proof.Rules
public import Idealize.ShloMosaic.Lib.ValueLayout

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.ShloMosaic.ValueIdx (ix2 ix3 shapeCast_ab_1ab_apply shapeCast_1ab_ab_apply)
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Any buffer -/

section Any

variable (c : Dev nD) {sp : Space} {s s' : Shape} {e : EltTy} (M : Memref sig .tc sp s e) (q : PosShare TreeShare)

/-- Seen with or without axes of length one, a memref owned at some contents is the same. -/
theorem owns_squeeze_ex (hq : s.Squeezes s') :
    iprop(∃ X, owns (c : Thread nD τ) (M.squeeze s' hq) q X) = (iprop(∃ X, owns (c : Thread nD τ) M q X) : sProp 𝕄) := by
  have hset : (M.squeeze s' hq).view.set = M.view.set := View.set_reshape _ _
  unfold owns
  rw [hset]
  have h₁ : iprop(∃ X f, ⌜View.read (Elt F) (M.squeeze s' hq).view f = X⌝ ∗ ((M.squeeze s' hq).view.loc (c : Thread nD τ) ↦[M.view.set]{q} f))
      ⊢ (iprop(∃ X f, ⌜View.read (Elt F) M.view f = X⌝ ∗ (M.view.loc (c : Thread nD τ) ↦[M.view.set]{q} f)) : sProp 𝕄) := by
    iintro ⟨%X, %f, %hf, H⟩; iexists _; iexists f; isplitr
    · ipureintro; rfl
    iexact H
  have h₂ : (iprop(∃ X f, ⌜View.read (Elt F) M.view f = X⌝ ∗ (M.view.loc (c : Thread nD τ) ↦[M.view.set]{q} f)) : sProp 𝕄)
      ⊢ iprop(∃ X f, ⌜View.read (Elt F) (M.squeeze s' hq).view f = X⌝ ∗ ((M.squeeze s' hq).view.loc (c : Thread nD τ) ↦[M.view.set]{q} f)) := by
    iintro ⟨%X, %f, %hf, H⟩; iexists _; iexists f; isplitr
    · ipureintro; rfl
    iexact H
  exact BI.equiv_iff.mp ⟨h₁, h₂⟩

variable {T : Type} [Fintype T] [DecidableEq T] (r : T → Rect s) (hr : ∀ t a, (r t).stride a = 1)
  (hd : ∀ t t', t ≠ t' → Disjoint (r t).set (r t').set) (hc : ∀ i, ∃ t, i ∈ (r t).set)
include hd hc

theorem cover_of : (Finset.univ : Finset T).biUnion (fun t => (r t).set) = Finset.univ := by
  ext i; simp only [Finset.mem_biUnion, Finset.mem_univ, true_and, iff_true]; exact hc i

/-- A memref owned at some contents is its blocks owned at some contents each. -/
theorem blocks_split : iprop(∃ X, owns (c : Thread nD τ) M q X) ⊢ (bigSep Finset.univ fun t => iprop(∃ X, owns (c : Thread nD τ) (M.slice (r t) (hr t)) q X) : sProp 𝕄) := by
  iintro ⟨%X, H⟩
  ihave H := (owns_rects (c : Thread nD τ) M q r hr hd (cover_of r hd hc) X) $$ H
  have h : bigSep Finset.univ (fun t => owns (c : Thread nD τ) (M.slice (r t) (hr t)) q (fun j => X ((r t).emb j)))
      ⊢ (bigSep Finset.univ fun t => iprop(∃ X, owns (c : Thread nD τ) (M.slice (r t) (hr t)) q X) : sProp 𝕄) :=
    bigSep_mono fun t _ => by
      show owns (c : Thread nD τ) (M.slice (r t) (hr t)) q (fun j => X ((r t).emb j)) ⊢ (iprop(∃ X, owns (c : Thread nD τ) (M.slice (r t) (hr t)) q X) : sProp 𝕄)
      iintro H; iexists _; iexact H
  iapply h
  iexact H

theorem blocks_join [∀ e, Nonempty (Elt F e)] :
    (bigSep Finset.univ fun t => iprop(∃ X, owns (c : Thread nD τ) (M.slice (r t) (hr t)) q X)) ⊢ (iprop(∃ X, owns (c : Thread nD τ) M q X) : sProp 𝕄) := by
  refine (bigSep_exists_pi Finset.univ (fun t (X : Vec F (r t).shape e) => (owns (c : Thread nD τ) (M.slice (r t) (hr t)) q X : sProp 𝕄))).trans ?_
  iintro ⟨%Xs, H⟩
  have hex : ∃ X : Vec F s e, ∀ t j, X ((r t).emb j) = Xs t j := by
    have h : ∀ i, ∃ x : Elt F e, ∀ t j, (r t).emb j = i → Xs t j = x := by
      intro i
      obtain ⟨t, ht⟩ := hc i
      rw [← Rect.map_emb_univ, Finset.mem_map] at ht
      obtain ⟨j, -, rfl⟩ := ht
      refine ⟨Xs t j, fun t' j' hj => ?_⟩
      by_cases htt : t' = t
      · subst htt; rw [(r t').emb.injective hj]
      · exfalso
        have h1 : (r t).emb j ∈ (r t').set := by rw [← hj, ← Rect.map_emb_univ]; exact Finset.mem_map_of_mem _ (Finset.mem_univ _)
        have h2 : (r t).emb j ∈ (r t).set := by rw [← Rect.map_emb_univ]; exact Finset.mem_map_of_mem _ (Finset.mem_univ _)
        exact (Finset.disjoint_left.mp (hd t' t htt)) h1 h2
    choose X hX using h
    exact ⟨X, fun t j => (hX _ t j rfl).symm⟩
  obtain ⟨X, hX⟩ := hex
  iexists X
  iapply (owns_of_rects (c : Thread nD τ) M q r hr hd (cover_of r hd hc) X)
  simp only [hX]
  iexact H

omit hd hc in
/-- When every index tells its block, the two are one. -/
theorem blocks_eq [∀ e, Nonempty (Elt F e)] (g : s.Idx → T) (hg : ∀ i t, i ∈ (r t).set ↔ g i = t) :
    iprop(∃ X, owns (c : Thread nD τ) M q X) = (bigSep Finset.univ fun t => iprop(∃ X, owns (c : Thread nD τ) (M.slice (r t) (hr t)) q X) : sProp 𝕄) := by
  have hd : ∀ t t', t ≠ t' → Disjoint (r t).set (r t').set := fun t t' h =>
    Finset.disjoint_left.mpr fun i hi hi' => h (((hg i t).mp hi).symm.trans ((hg i t').mp hi'))
  have hc : ∀ i, ∃ t, i ∈ (r t).set := fun i => ⟨g i, (hg i _).mpr rfl⟩
  exact BI.equiv_iff.mp ⟨blocks_split c M q r hr hd hc, blocks_join c M q r hr hd hc⟩

omit hd hc in
/-- The same at known contents. -/
theorem blocks_at [∀ e, Nonempty (Elt F e)] (g : s.Idx → T) (hg : ∀ i t, i ∈ (r t).set ↔ g i = t) (X : Vec F s e) :
    owns (c : Thread nD τ) M q X = (bigSep Finset.univ fun t => owns (c : Thread nD τ) (M.slice (r t) (hr t)) q (fun j => X ((r t).emb j)) : sProp 𝕄) := by
  have hd : ∀ t t', t ≠ t' → Disjoint (r t).set (r t').set := fun t t' h =>
    Finset.disjoint_left.mpr fun i hi hi' => h (((hg i t).mp hi).symm.trans ((hg i t').mp hi'))
  have hc : ∀ i, ∃ t, i ∈ (r t).set := fun i => ⟨g i, (hg i _).mpr rfl⟩
  exact BI.equiv_iff.mp ⟨owns_rects (c : Thread nD τ) M q r hr hd (cover_of r hd hc) X, owns_of_rects (c : Thread nD τ) M q r hr hd (cover_of r hd hc) X⟩

end Any

/-! ## The rectangles cut their buffers -/

abbrev ctxR (h : Fin 8) : Rect S256x1024 := Rect.unit (s := S256x1024) ![0, 128 * h.val] S256x128.size (ctx_inb h)
abbrev ctxV (h : Fin 8) : Memref sig .tc .vmem S256x128 .bf16 := ctxB.slice (ctxR h) (fun _ => rfl)
abbrev outV (k : Fin 8) : Memref sig .tc .vmem S1x256x1024 .f32 := outB.slice (outR k) (fun _ => rfl)

theorem mem_comm (i : S7x256x1024.Idx) (k : Fin 7) : i ∈ (commR k).set ↔ (⟨(i 0).val, (i 0).isLt⟩ : Fin 7) = k := by
  rw [Rect.mem_set_unit, Fin.forall_fin_succ, Fin.forall_fin_succ, Fin.forall_fin_one, Fin.ext_iff]
  have h1 : (i 1).val < 256 := (i 1).isLt
  have h2 : (i 2).val < 1024 := (i 2).isLt
  simp [Shape.size]
  constructor
  · rintro ⟨h, -⟩; omega
  · intro h; exact ⟨by omega, h1, h2⟩
theorem mem_ag (i : S8x256x1024.Idx) (k : Fin 8) : i ∈ (agR k).set ↔ (⟨(i 0).val, (i 0).isLt⟩ : Fin 8) = k := by
  rw [Rect.mem_set_unit, Fin.forall_fin_succ, Fin.forall_fin_succ, Fin.forall_fin_one, Fin.ext_iff]
  have h1 : (i 1).val < 256 := (i 1).isLt
  have h2 : (i 2).val < 1024 := (i 2).isLt
  simp [Shape.size]
  constructor
  · rintro ⟨h, -⟩; omega
  · intro h; exact ⟨by omega, h1, h2⟩
theorem mem_row (i : S2048x1024.Idx) (k : Fin 8) : i ∈ (rowK k).set ↔ (⟨(i 0).val / 256, by have : (i 0).val < 2048 := (i 0).isLt; omega⟩ : Fin 8) = k := by
  rw [Rect.mem_set_unit, Fin.forall_fin_succ, Fin.forall_fin_one, Fin.ext_iff]
  have h1 : (i 1).val < 1024 := (i 1).isLt
  simp [Shape.size]
  constructor
  · rintro ⟨h, -⟩; omega
  · intro h; exact ⟨by omega, h1⟩
theorem mem_out (i : S1x2048x1024.Idx) (k : Fin 8) : i ∈ (outR k).set ↔ (⟨(i 1).val / 256, by have : (i 1).val < 2048 := (i 1).isLt; omega⟩ : Fin 8) = k := by
  rw [Rect.mem_set_unit, Fin.forall_fin_succ, Fin.forall_fin_succ, Fin.forall_fin_one, Fin.ext_iff]
  have h1 : (i 0).val < 1 := (i 0).isLt
  have h2 : (i 2).val < 1024 := (i 2).isLt
  simp [Shape.size]
  constructor
  · rintro ⟨-, h, -⟩; omega
  · intro h; exact ⟨by omega, by omega, h2⟩
theorem mem_ctx (i : S256x1024.Idx) (k : Fin 8) : i ∈ (ctxR k).set ↔ (⟨(i 1).val / 128, by have : (i 1).val < 1024 := (i 1).isLt; omega⟩ : Fin 8) = k := by
  rw [Rect.mem_set_unit, Fin.forall_fin_succ, Fin.forall_fin_one, Fin.ext_iff]
  have h1 : (i 0).val < 256 := (i 0).isLt
  simp [Shape.size]
  constructor
  · rintro ⟨-, h⟩; omega
  · intro h; exact ⟨h1, by omega⟩
theorem mem_kv (i : S2x2x8x512x128.Idx) (k : Fin 2 × Fin 2 × Fin 8) :
    i ∈ (kvR k.1 k.2.1 k.2.2).set ↔ ((⟨(i 0).val, (i 0).isLt⟩, ⟨(i 1).val, (i 1).isLt⟩, ⟨(i 2).val, (i 2).isLt⟩) : Fin 2 × Fin 2 × Fin 8) = k := by
  rw [Rect.mem_set_unit, Fin.forall_fin_succ, Fin.forall_fin_succ, Fin.forall_fin_succ, Fin.forall_fin_succ, Fin.forall_fin_one, Prod.ext_iff, Prod.ext_iff, Fin.ext_iff, Fin.ext_iff, Fin.ext_iff]
  have h1 : (i 3).val < 512 := (i 3).isLt
  have h2 : (i 4).val < 128 := (i 4).isLt
  simp [Shape.size]
  constructor
  · rintro ⟨h, h', h'', -⟩; omega
  · intro h; exact ⟨by omega, by omega, by omega, h1, h2⟩

section Cuts
variable (c : Dev nD) [∀ e, Nonempty (Elt F e)]

theorem comm_cut : iprop(∃ X, owns (c : Thread nD τ) commB fullShare X) = (bigSep Finset.univ fun s : Fin 7 => iprop(∃ X, owns (c : Thread nD τ) (commV s) fullShare X) : sProp 𝕄) :=
  (blocks_eq c commB fullShare commR (fun _ _ => rfl) _ mem_comm).trans (bigSep_congr fun s _ => (owns_squeeze_ex c (commB.slice (commR s) (fun _ => rfl)) fullShare squeezes_S1x256x1024_S256x1024).symm)
theorem ag_cut : iprop(∃ X, owns (c : Thread nD τ) agB fullShare X) = (bigSep Finset.univ fun k : Fin 8 => iprop(∃ X, owns (c : Thread nD τ) (agV k) fullShare X) : sProp 𝕄) :=
  (blocks_eq c agB fullShare agR (fun _ _ => rfl) _ mem_ag).trans (bigSep_congr fun s _ => (owns_squeeze_ex c (agB.slice (agR s) (fun _ => rfl)) fullShare squeezes_S1x256x1024_S256x1024).symm)
theorem kv_cut : iprop(∃ X, owns (c : Thread nD τ) kvB fullShare X) = (bigSep Finset.univ fun k : Fin 2 × Fin 2 × Fin 8 => iprop(∃ X, owns (c : Thread nD τ) (kvV k.1 k.2.1 k.2.2) fullShare X) : sProp 𝕄) := by
  have h := blocks_eq (F := F) (T := Fin 2 × Fin 2 × Fin 8) c kvB fullShare (fun k => kvR k.1 k.2.1 k.2.2) (fun _ _ => rfl) _ mem_kv
  rw [h]
  refine bigSep_congr fun k _ => ?_
  rw [owns_squeeze_ex c (kvB.slice (kvR k.1 k.2.1 k.2.2) (fun _ => rfl)) fullShare squeezes_S1x1x1x512x128_S512x128]
theorem part_cut : iprop(∃ X, owns (c : Thread nD τ) partB fullShare X) = (bigSep Finset.univ fun k : Fin 8 => iprop(∃ X, owns (c : Thread nD τ) (rowV k) fullShare X) : sProp 𝕄) :=
  blocks_eq c partB fullShare rowK (fun _ _ => rfl) _ mem_row
theorem out_cut : iprop(∃ X, owns (c : Thread nD τ) outB fullShare X) = (bigSep Finset.univ fun k : Fin 8 => iprop(∃ X, owns (c : Thread nD τ) (outV k) fullShare X) : sProp 𝕄) :=
  blocks_eq c outB fullShare outR (fun _ _ => rfl) _ mem_out
theorem ctx_cut : iprop(∃ X, owns (c : Thread nD τ) ctxB fullShare X) = (bigSep Finset.univ fun k : Fin 8 => iprop(∃ X, owns (c : Thread nD τ) (ctxV k) fullShare X) : sProp 𝕄) :=
  blocks_eq c ctxB fullShare ctxR (fun _ _ => rfl) _ mem_ctx

variable (m : (ℓ : Loc nD τ sig) → Buf (Elt F) ℓ)

/-- The eight heads' contexts written are the chunk's context. -/
theorem ctx_at (j : Fin 8) : owns (c : Thread nD τ) ctxB fullShare (ctxC m c j) = (bigSep Finset.univ fun h : Fin 8 => owns (c : Thread nD τ) (ctxV h) fullShare (hdC m c j h) : sProp 𝕄) := by
  rw [blocks_at c ctxB fullShare ctxR (fun _ _ => rfl) _ mem_ctx (ctxC m c j)]
  refine bigSep_congr fun h _ => congrArg _ (funext fun i => ?_)
  have h0 : (i 0).val < 256 := (i 0).isLt
  have h1 : (i 1).val < 128 := (i 1).isLt
  have e0 : ((ctxR h).emb i 0).val = (i 0).val := by simp [Rect.emb, Rect.unit]
  have e1 : ((ctxR h).emb i 1).val = 128 * h.val + (i 1).val := by simp [Rect.emb, Rect.unit]
  unfold ctxC
  have hh : (⟨((ctxR h).emb i 1).val / 128, by omega⟩ : Fin 8) = h := Fin.ext (by dsimp only; omega)
  rw [hh]
  refine congrArg _ (funext fun a => ?_)
  match a with
  | 0 => exact Fin.ext e0
  | 1 => exact Fin.ext (by show ((ctxR h).emb i 1).val % 128 = _; omega)

/-- What the copy into the result leaves in its rows of chunk `k`. -/
def outRow (k : Fin 8) : Vec F S1x256x1024 .f32 := shapeCast S1x256x1024 (extf .f32 (tot m k : FVec F S256x1024 .bf16) bitsLt_bf16_f32 : FVec F S256x1024 .f32) shapeCasts_S256x1024_S1x256x1024

theorem out_at : owns (c : Thread nD τ) outB fullShare (outC m) = (bigSep Finset.univ fun k : Fin 8 => owns (c : Thread nD τ) (outV k) fullShare (outRow m k) : sProp 𝕄) := by
  rw [blocks_at c outB fullShare outR (fun _ _ => rfl) _ mem_out (outC m)]
  refine bigSep_congr fun k _ => congrArg _ (funext fun i => ?_)
  have h0 : (i 0).val < 1 := (i 0).isLt
  have h1 : (i 1).val < 256 := (i 1).isLt
  have e1 : ((outR k).emb i 1).val = 256 * k.val + (i 1).val := by simp [Rect.emb, Rect.unit]
  have e2 : ((outR k).emb i 2).val = (i 2).val := by simp [Rect.emb, Rect.unit]
  have hi : i = ix3 (0 : Fin 1) (i 1) (i 2) := by
    funext a
    match a with
    | 0 => exact Fin.ext (by show (i 0).val = 0; omega)
    | 1 => rfl
    | 2 => rfl
  have hk : (⟨((outR k).emb i 1).val / 256, by omega⟩ : Fin 8) = k := Fin.ext (by dsimp only; omega)
  rw [show outRow m k i = _ from (congrArg (outRow m k) hi).trans (shapeCast_ab_1ab_apply _ _ (0 : Fin 1) (i 1) (i 2))]
  unfold outC
  rw [hk]
  refine congrArg _ (funext fun a => ?_)
  match a with
  | 0 => exact Fin.ext (show ((outR k).emb i 1).val % 256 = (i 1).val by omega)
  | 1 => exact Fin.ext e2
end Cuts

end Cert.KernelIdeal.Ring

end
-- ==== Proof.Chunk.lean ====
/-
  A chunk of queries: the copies of its key and value windows started and awaited, one head, the eight heads, and the
  chunk's rows of the partial product.
-/
module

public import proofs.«01_k».proof.Proof.Blocks

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.ShloMosaic.Transfers (Flight Flight_mono wp_dmaLocal wp_waitLocalO)
open Idealize.ShloMosaic.Ring (rangeSet rangeSet_univ bigSep_rangeSet_empty bigSep_rangeSet_last)
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ) (K : Dev nD × CK → ℕ)

/-! ## One window -/

/-- The share of a key or value array that the copies into buffer `d`'s window `h` read it at. -/
def qK (d : Fin 2) (h : Fin 8) : PosShare TreeShare := ShareLeaves.leaf 4 fullShare.left ⟨8 * d.val + h.val, by omega⟩

/-- The credit of one window. -/
abbrev NK : ℕ := (kvV 0 0 0).view.dmaCredit
theorem NK_pos : 0 < NK := View.dmaCredit_pos _ (by decide)
theorem credit_kv (d e : Fin 2) (h : Fin 8) : (kvV d e h).view.dmaCredit = NK := rfl
theorem kvS_none (d e : Fin 2) (h : Fin 8) : cellOfSem (.dma (kvS d e h)) = none :=
  cellOfSem_none (by revert d e h; decide +kernel)

def srcPts (c : Dev nD) (d e : Fin 2) (h : Fin 8) (S : Finset (Idx ((srcB e).view.loc (c : Thread nD τ)))) : sProp 𝕄 :=
  (srcB e).view.loc (c : Thread nD τ) ↦[S]{qK d h} m ((srcB e).view.loc (c : Thread nD τ))

/-- A window at rest, and on its way with the contents of chunk `j`. -/
def kvIdle1 (c : Dev nD) (d e : Fin 2) (h : Fin 8) : sProp 𝕄 :=
  iprop((∃ X, owns (c : Thread nD τ) (kvV d e h) fullShare X) ∗ semVal ((c : Thread nD τ), .dma (kvS d e h)) 0 ∗ srcPts m c d e h Finset.univ)
def kvFly1 (c : Dev nD) (j : Fin 8) (d e : Fin 2) (h : Fin 8) : sProp 𝕄 :=
  iprop(Flight EC (c : Thread nD τ) (.dma (kvS d e h)) () NK
      iprop(owns (c : Thread nD τ) (kvV d e h) fullShare (winC m e c j h) ∗ srcPts m c d e h (srcV e c j h).view.set)
    ∗ srcPts m c d e h (Finset.univ \ (srcV e c j h).view.set))

theorem owns_open (c : Dev nD) {sp : Space} {s : Shape} {e : EltTy} (M : Memref sig .tc sp s e) (q : PosShare TreeShare) (X : Vec F s e) :
    owns (c : Thread nD τ) M q X ⊢ (iprop(∃ g, ⌜View.read (Elt F) M.view g = X⌝ ∗ (M.view.loc (c : Thread nD τ) ↦[M.view.set]{q} g)) : sProp 𝕄) :=
  BI.Entails.refl _

theorem wp_issue1 (c : Dev nD) (j h : Fin 8) (d e : Fin 2) (Q : PUnit → sProp 𝕄) :
    iprop(kvIdle1 m c d e h ∗ (kvFly1 m c j d e h -∗ Q ⟨⟩)) ⊢ WP c (issue1 c j h d e) Q := by
  unfold kvIdle1 kvFly1 issue1 WP srcPts
  simp only [Prog.lift]
  iintro ⟨⟨⟨%X, Hd⟩, Hv, Hs⟩, Hk⟩
  ihave Hd2 := (owns_open c (kvV d e h) fullShare X) $$ Hd
  icases Hd2 with ⟨%g, %hg, Hd⟩
  ihave Hs2 := (pointsTo_split_subset (q := qK d h) (f := m ((srcB e).view.loc (c : Thread nD τ))) (Finset.subset_univ ((srcV e c j h).view.set))).1 $$ Hs
  icases Hs2 with ⟨Hs, Hr⟩
  iapply (wp_dmaLocal EC 𝒱₀ (c : Thread nD τ) none (src := srcV e c j h) (dst := kvV d e h) (sm := .dma (kvS d e h))
    (q := qK d h) (fs := m ((srcB e).view.loc (c : Thread nD τ))) (Sd := (kvV d e h).view.set) (fd := g) () NK (credit_kv d e h) NK_pos (Finset.Subset.refl _)) $$ [Hd Hs Hv]
  · isplitl [Hs]; · iexact Hs
    isplitl [Hd]; · iexact Hd
    iexact Hv
  iintro HF
  rw [wp_ret]; imodintro
  iapply Hk
  isplitr [Hr]
  · iapply (Flight_mono EC (c : Thread nD τ) ?_) $$ HF
    iintro ⟨Hd, Hs⟩
    isplitr [Hs]
    · iapply (owns_intro _ _ _ _ |>.trans (Entails.of_eq (by rw [View.read_write_univ]; rfl))) $$ Hd
    iexact Hs
  iexact Hr

theorem wp_await1 (c : Dev nD) (j h : Fin 8) (d e : Fin 2) (n : ℕ) (Q : PUnit → sProp 𝕄) :
    iprop(world m K ∗ kvFly1 m c j d e h ∗ Ow c n
        ∗ ((owns (c : Thread nD τ) (kvV d e h) fullShare (winC m e c j h) ∗ semVal ((c : Thread nD τ), .dma (kvS d e h)) 0 ∗ srcPts m c d e h Finset.univ ∗ Ow c n) -∗ Q ⟨⟩))
      ⊢ WP c (await1 c j h d e) Q := by
  unfold kvFly1 await1 WP Ow
  simp only [Prog.lift]
  iintro ⟨#Hw, ⟨HF, Hr⟩, ⟨%W, HO⟩, Hk⟩
  ihave #Hlev := (world_lev m K) $$ Hw
  iapply (wp_waitLocalO EC 𝒱₀ (c : Thread nD τ) none () (credit_kv d e h) (O := todo c n) (W := W)) $$ [HF HO]
  · isplitl [HF]; · iexact HF
    isplitl [HO]; · iexact HO
    iapply (mayWait c (.dma (kvS d e h)) n (by rw [kvS_none]; show 0 < 2 + n; omega)); iexact Hlev
  iintro ⟨⟨Hd, Hs⟩, Hv, HO⟩
  rw [wp_ret]; imodintro
  iapply Hk
  isplitl [Hd]; · iexact Hd
  isplitl [Hv]; · iexact Hv
  isplitl [Hs Hr]
  · unfold srcPts
    iapply (pointsTo_split_subset (Finset.subset_univ ((srcV e c j h).view.set))).2
    isplitl [Hs] <;> iassumption
  iexists _; iexact HO

/-! ## One head -/

def kvIdle (c : Dev nD) (d : Fin 2) (h : Fin 8) : sProp 𝕄 := iprop(kvIdle1 m c d 0 h ∗ kvIdle1 m c d 1 h)
def kvFly (c : Dev nD) (j : Fin 8) (d : Fin 2) (h : Fin 8) : sProp 𝕄 := iprop(kvFly1 m c j d 0 h ∗ kvFly1 m c j d 1 h)
def ctxE (c : Dev nD) (h : Fin 8) : sProp 𝕄 := iprop(∃ X, owns (c : Thread nD τ) (ctxV h) fullShare X)
def ctxO (c : Dev nD) (j h : Fin 8) : sProp 𝕄 := owns (c : Thread nD τ) (ctxV h) fullShare (hdC m c j h)

theorem wp_head (c : Dev nD) (j h : Fin 8) (d : Fin 2) (n : ℕ) (Q : PUnit → sProp 𝕄) :
    iprop(world m K ∗ kvFly m c j d h ∗ ctxE c h ∗ Ow c n ∗ ((kvIdle m c d h ∗ ctxO m c j h ∗ Ow c n) -∗ Q ⟨⟩))
      ⊢ WP c (head c j h d (qC m c j) (biasC c j)) Q := by
  unfold head kvFly kvIdle WP
  rw [wp_bind]
  iintro ⟨#Hw, ⟨HF0, HF1⟩, Hx, HO, Hk⟩
  iapply (wp_await1 m K c j h d 0 n)
  isplitr; · iexact Hw
  isplitl [HF0]; · iexact HF0
  isplitl [HO]; · iexact HO
  iintro ⟨Hd0, Hv0, Hs0, HO⟩
  rw [wp_bind]
  iapply (wp_await1 m K c j h d 1 n)
  isplitr; · iexact Hw
  isplitl [HF1]; · iexact HF1
  isplitl [HO]; · iexact HO
  iintro ⟨Hd1, Hv1, Hs1, HO⟩
  rw [wp_bind]
  iapply (wp_load_sq c kvB (kvR d 0 h) (fun _ => rfl) squeezes_S1x1x1x512x128_S512x128 shapeCasts_S1x1x1x512x128_S512x128 fullShare (winC m 0 c j h))
  isplitl [Hd0]; · iexact Hd0
  iintro %k %hk Hd0
  rw [wp_bind]
  iapply (wp_load_sq c kvB (kvR d 1 h) (fun _ => rfl) squeezes_S1x1x1x512x128_S512x128 shapeCasts_S1x1x1x512x128_S512x128 fullShare (winC m 1 c j h))
  isplitl [Hd1]; · iexact Hd1
  iintro %v %hv Hd1
  unfold ctxE
  icases Hx with ⟨%X, Hx⟩
  rw [wp_bind]
  iapply (wp_load_own c ctxB (ctxR h) (fun _ => rfl) fullShare X)
  isplitl [Hx]; · iexact Hx
  iintro Hx
  iapply (wp_store_own c ctxB (ctxR h) (fun _ => rfl))
  isplitl [Hx]; · iexists X; iexact Hx
  iintro Hx
  iapply Hk
  isplitl [Hd0 Hv0 Hs0 Hd1 Hv1 Hs1]
  · unfold kvIdle1
    isplitl [Hd0 Hv0 Hs0]
    · isplitl [Hd0]; · iexists _; iexact Hd0
      isplitl [Hv0] <;> iassumption
    · isplitl [Hd1]; · iexists _; iexact Hd1
      isplitl [Hv1] <;> iassumption
  isplitl [Hx]
  · unfold ctxO
    rw [show hdC m c j h = headOf h (qC m c j) (biasC c j) k v by unfold headOf hdC; rw [hk, hv]]
    iexact Hx
  iexact HO

/-! ## Eight heads -/

theorem run_succ (Φ : Fin 8 → sProp 𝕄) (n : ℕ) (hn : n + 1 ≤ 8) :
    bigSep (rangeSet 8 0 (n + 1)) Φ = iprop(Φ (Fin.ofNat 8 n) ∗ bigSep (rangeSet 8 0 n) Φ) := by
  rw [bigSep_rangeSet_last (by omega) hn]
  exact congrArg (fun h => iprop(Φ h ∗ bigSep (rangeSet 8 0 n) Φ)) (Fin.ext (by show n + 1 - 1 = n % 8; omega))

theorem wp_issueN (c : Dev nD) (j : Fin 8) (d : Fin 2) : ∀ (n : ℕ) (hn : n ≤ 8) (Q : PUnit → sProp 𝕄),
    iprop(bigSep (rangeSet 8 0 n) (kvIdle m c d) ∗ (bigSep (rangeSet 8 0 n) (kvFly m c j d) -∗ Q ⟨⟩)) ⊢ WP c (issue c j d n) Q
  | 0, hn, Q => by
    unfold issue WP
    rw [bigSep_rangeSet_empty le_rfl, bigSep_rangeSet_empty le_rfl]
    show _ ⊢ wp _ _ _ (Prog.ret ⟨⟩) Q
    rw [wp_ret]
    iintro ⟨He, Hk⟩
    imodintro
    iapply Hk; iexact He
  | n + 1, hn, Q => by
    unfold issue WP
    rw [wp_bind]
    simp only [run_succ _ n hn]
    iintro ⟨⟨H1, H⟩, Hk⟩
    iapply (wp_issueN c j d n (by omega))
    isplitl [H]; · iexact H
    iintro H
    unfold kvIdle
    icases H1 with ⟨H10, H11⟩
    rw [wp_bind]
    iapply (wp_issue1 m c j (Fin.ofNat 8 n) d 0)
    isplitl [H10]; · iexact H10
    iintro H10
    iapply (wp_issue1 m c j (Fin.ofNat 8 n) d 1)
    isplitl [H11]; · iexact H11
    iintro H11
    iapply Hk
    isplitr [H]
    · unfold kvFly; isplitl [H10] <;> iassumption
    iexact H

theorem wp_headsN (c : Dev nD) (j : Fin 8) (d : Fin 2) (w : ℕ) : ∀ (n : ℕ) (hn : n ≤ 8) (Q : PUnit → sProp 𝕄),
    iprop(world m K ∗ bigSep (rangeSet 8 0 n) (kvFly m c j d) ∗ bigSep (rangeSet 8 0 n) (ctxE (F := F) c) ∗ Ow c w
        ∗ ((bigSep (rangeSet 8 0 n) (kvIdle m c d) ∗ bigSep (rangeSet 8 0 n) (ctxO m c j) ∗ Ow c w) -∗ Q ⟨⟩))
      ⊢ WP c (heads c j d (qC m c j) (biasC c j) n) Q
  | 0, hn, Q => by
    unfold heads WP
    simp only [bigSep_rangeSet_empty le_rfl]
    show _ ⊢ wp _ _ _ (Prog.ret ⟨⟩) Q
    rw [wp_ret]
    iintro ⟨-, -, -, HO, Hk⟩
    imodintro
    iapply Hk
    isplitr; · iempintro
    isplitr; · iempintro
    iexact HO
  | n + 1, hn, Q => by
    unfold heads WP
    rw [wp_bind]
    simp only [run_succ _ n hn]
    iintro ⟨#Hw, ⟨H1, H⟩, ⟨Hc1, Hc⟩, HO, Hk⟩
    iapply (wp_headsN c j d w n (by omega))
    isplitr; · iexact Hw
    isplitl [H]; · iexact H
    isplitl [Hc]; · iexact Hc
    isplitl [HO]; · iexact HO
    iintro ⟨H, Hc, HO⟩
    iapply (wp_head m K c j (Fin.ofNat 8 n) d w)
    isplitr; · iexact Hw
    isplitl [H1]; · iexact H1
    isplitl [Hc1]; · iexact Hc1
    isplitl [HO]; · iexact HO
    iintro ⟨H1, Hc1, HO⟩
    iapply Hk
    isplitl [H1 H]; · isplitl [H1] <;> iassumption
    isplitl [Hc1 Hc]; · isplitl [Hc1] <;> iassumption
    iexact HO

/-! ## The chunk -/

/-- A buffer of windows at rest; on its way. -/
def idle (c : Dev nD) (d : Fin 2) : sProp 𝕄 := bigSep Finset.univ (kvIdle m c d)
def fly (c : Dev nD) (j : Fin 8) (d : Fin 2) : sProp 𝕄 := bigSep Finset.univ (kvFly m c j d)

theorem wp_issue (c : Dev nD) (j : Fin 8) (d : Fin 2) (Q : PUnit → sProp 𝕄) :
    iprop(idle m c d ∗ (fly m c j d -∗ Q ⟨⟩)) ⊢ WP c (issue c j d 8) Q := by
  have h := wp_issueN m c j d 8 le_rfl Q
  rw [rangeSet_univ] at h; exact h

/-- What the chunks read and leave alone, and the contexts' buffer. -/
def fixed (c : Dev nD) : sProp 𝕄 :=
  iprop(owns (c : Thread nD τ) xB fullShare (xC m c) ∗ owns (c : Thread nD τ) wqbB fullShare (wqbOf (wqC m c)) ∗ owns (c : Thread nD τ) wobB fullShare (wobOf (woC m c))
    ∗ ∃ X, owns (c : Thread nD τ) ctxB fullShare X)
/-- The rows of step `j`, unwritten and written. -/
def rowE (c : Dev nD) (j : Fin 8) : sProp 𝕄 := iprop(∃ X, owns (c : Thread nD τ) (rowV (sh c (8 - j.val))) fullShare X)
def rowO (c : Dev nD) (j : Fin 8) : sProp 𝕄 := owns (c : Thread nD τ) (rowV (sh c (8 - j.val))) fullShare (partC m c j)

theorem rowR_eq (c : Dev nD) (j : Fin 8) : (partB.slice (rowR c j) (fun _ => rfl) : Memref sig .tc .vmem S256x1024 .bf16) = rowV (sh c (8 - j.val)) :=
  rowV_of _ (off3_eq c j) _

/-- A load from a whole buffer, kept whole. -/
theorem wp_load_whole (c : Dev nD) {s : Shape} {e : EltTy} (M : Memref sig .tc .vmem s e) (r : Rect s) (q : PosShare TreeShare) (X : Vec F s e)
    {hl : M.view.LoadsAt r.toLoadRect} (Q : Vec F r.shape e → sProp 𝕄) :
    iprop(owns (c : Thread nD τ) M q X ∗ (owns (c : Thread nD τ) M q X -∗ Q (fun j => X (r.emb j))))
      ⊢ WP c (Prog.lift (.load M r.toLoadRect hl)) Q := by
  unfold owns WP
  simp only [Prog.lift]
  iintro ⟨⟨%f, %hf, H⟩, Hk⟩
  iapply (wp_load_rect 𝒱₀ (c : Thread nD τ) none Set.univ (m := M) (r := r) (S := M.view.set) (f := f) (q := q) (View.set_slice_subset _ _)) $$ H
  iintro H
  rw [wp_ret]; imodintro
  have hf' : (M.access r).read (Elt F) f = fun j => X (r.emb j) := by rw [← hf]; rfl
  rw [hf']
  iapply Hk
  iexists f
  isplitr
  · ipureintro; exact hf
  iexact H

theorem emb_zero {n : ℕ × ℕ} (i : ∀ a, (![0, 0] : Fin 2 → ℕ) a + (![n.1, n.2] : Fin 2 → ℕ) a ≤ (⟨2, ![n.1, n.2]⟩ : Shape).size a) (j : (⟨2, ![n.1, n.2]⟩ : Shape).Idx) :
    (Rect.unit (s := ⟨2, ![n.1, n.2]⟩) ![0, 0] ![n.1, n.2] i).emb j = j := by
  funext a
  match a with
  | 0 => exact Fin.ext (by simp [Rect.emb, Rect.unit])
  | 1 => exact Fin.ext (by simp [Rect.emb, Rect.unit])

variable [∀ e, Nonempty (Elt F e)]

theorem wp_heads (c : Dev nD) (j : Fin 8) (d : Fin 2) (w : ℕ) (Q : PUnit → sProp 𝕄) :
    iprop(world m K ∗ fly m c j d ∗ (∃ X, owns (c : Thread nD τ) ctxB fullShare X) ∗ Ow c w
        ∗ ((idle m c d ∗ owns (c : Thread nD τ) ctxB fullShare (ctxC m c j) ∗ Ow c w) -∗ Q ⟨⟩))
      ⊢ WP c (heads c j d (qC m c j) (biasC c j) 8) Q := by
  have h := wp_headsN m K c j d w 8 le_rfl Q
  rw [rangeSet_univ] at h
  rw [ctx_cut, ctx_at]
  exact h

theorem wp_chunk (c : Dev nD) (j : Fin 8) (d : Fin 2) (w : ℕ) (Q : PUnit → sProp 𝕄) :
    iprop(world m K ∗ fixed m c ∗ fly m c j d ∗ rowE c j ∗ Ow c w ∗ ((fixed m c ∗ idle m c d ∗ rowO m c j ∗ Ow c w) -∗ Q ⟨⟩))
      ⊢ WP c (chunk c j d) Q := by
  unfold chunk fixed rowE rowO WP
  rw [wp_bind]
  iintro ⟨#Hw, ⟨Hx, Hwq, Hwo, Hc⟩, HF, ⟨%R, HR⟩, HO, Hk⟩
  iapply (wp_load_whole c xB (Rect.unit (s := S1x2048x1024) (k0_off2 c (W j.val)) S1x256x1024.size (k0_off2_inb c j)) fullShare (xC m c))
  isplitl [Hx]; · iexact Hx
  iintro Hx
  rw [wp_bind]
  iapply (wp_load_whole c wqbB (Rect.unit (s := S1024x1024) ![0, 0] S1024x1024.size inb_S1024x1024_S1024x1024_0_0) fullShare (wqbOf (wqC m c)))
  isplitl [Hwq]; · iexact Hwq
  iintro Hwq
  simp only [emb_zero (n := (1024, 1024))]
  rw [wp_bind]
  iapply (wp_heads m K c j d w)
  isplitr; · iexact Hw
  isplitl [HF]; · iexact HF
  isplitl [Hc]; · iexact Hc
  isplitl [HO]; · iexact HO
  iintro ⟨HF, Hc, HO⟩
  rw [wp_bind]
  iapply (wp_load_whole c ctxB (Rect.unit (s := S256x1024) ![0, 0] S256x1024.size inb_S256x1024_S256x1024_0_0) fullShare (ctxC m c j))
  isplitl [Hc]; · iexact Hc
  iintro Hc
  simp only [emb_zero (n := (256, 1024))]
  rw [wp_bind]
  iapply (wp_load_whole c wobB (Rect.unit (s := S1024x1024) ![0, 0] S1024x1024.size inb_S1024x1024_S1024x1024_0_0) fullShare (wobOf (woC m c)))
  isplitl [Hwo]; · iexact Hwo
  iintro Hwo
  simp only [emb_zero (n := (1024, 1024))]
  rw [wp_bind]
  iapply (wp_load_own c partB (rowR c j) (fun _ => rfl) fullShare R)
  rw [rowR_eq]
  isplitl [HR]; · iexact HR
  iintro HR
  iapply (wp_store_own c partB (rowR c j) (fun _ => rfl))
  rw [rowR_eq]
  isplitl [HR]; · iexists R; iexact HR
  iintro HR
  iapply Hk
  isplitl [Hx Hwq Hwo Hc]
  · isplitl [Hx]; · iexact Hx
    isplitl [Hwq]; · iexact Hwq
    isplitl [Hwo]; · iexact Hwo
    iexists _; iexact Hc
  isplitl [HF]; · iexact HF
  isplitl [HR]; · iexact HR
  iexact HO

end Cert.KernelIdeal.Ring

end
-- ==== Proof.Steps.lean ====
/-
  The body's steps outside the chunks: the barrier, the weights rounded, the transfers and the waits of them, the addition
  after a hop, a gathered chunk copied into the result, a step of the all-gather.
-/
module

public import proofs.«01_k».proof.Proof.Chunk
public import Idealize.ShloMosaic.Lib.Pipeline.Value

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

/-! ## The barrier -/

/-- A unit to a neighbour's barrier, with the slots of one's own that its transfers land in. -/
theorem wp_sig (c n dst : Dev nD) (hn : n = dst) (b : Bool) (O O' : CellTallies nD τ sig Unit) (hO : O' = O + tallyAt (barCell dst) () 1) (W : Waits sig Unit) (Q : PUnit → sProp 𝕄) :
    iprop(world m K ∗ owes (c : Thread nD τ) O' W ∗ dutyTok ER (barCell dst) 0 b ∗ barPay dst b ∗ (owes (c : Thread nD τ) O W -∗ Q ⟨⟩))
      ⊢ WP c (semSignalWord n barS 1#32) Q := by
  subst hn
  unfold WP semSignalWord
  iintro ⟨#Hw, HO, Ht, Hp, Hk⟩
  ihave H1 := (world_cell m K (n, none)) $$ Hw
  icases H1 with ⟨#HI, #HR⟩
  iapply (Rounds.wp_signal 𝒱₀ ER (Rd m) (c : Thread nD τ) none (dst := (n : Thread nD τ)) (κ := K (n, none))
      (d := b) (by show b ∈ (Rd m).duties (kcell (n, none)) 0; rw [duties_k]; exact Finset.mem_univ _) ((amount_k m n none b).trans (by decide)) () O hO) $$ [HO Ht Hp]
  · isplitr; · iexact HI
    isplitl [HO]; · iexact HO
    isplitl [Ht]; · iexact Ht
    isplitl [Hp]; · iapply (show barPay n b ⊢ (Rd (F := F) m).payload ((n : Thread nD τ), SemLoc.reg barS) 0 b from Entails.of_eq (payload_k m n none b).symm); iexact Hp
    iexact HR
  iintro HO
  rw [wp_ret]; imodintro
  iapply Hk; iexact HO

/-- The wait for both neighbours': every slot the device's own transfers land in. -/
theorem wp_bar (c : Dev nD) (Q : PUnit → sProp 𝕄) :
    iprop(world m K ∗ Ow c 0 ∗ atPos ER (barCell c) 0 ∅ 0 ∗ cred (tallyAt (barCell c) () 2)
        ∗ ((bigSep Finset.univ (fun x => free (F := F) (peer c x) x) ∗ semVal (barCell c) 0 ∗ Ow c 0) -∗ Q ⟨⟩))
      ⊢ WP c (semWaitWord barS 2#32) Q := by
  unfold WP semWaitWord Ow
  iintro ⟨#Hw, ⟨%W, HO⟩, Hat, Hc, Hk⟩
  ihave H1 := (world_cell m K (c, none)) $$ Hw
  icases H1 with ⟨#HI, -⟩
  ihave #Hlev := (world_lev m K) $$ Hw
  iapply (Rounds.wp_wait_rest_token 𝒱₀ ER (Rd m) (c : Thread nD τ) none (κ := K (c, none))
      (wpE_semWait_eq 𝒱₀ (c : Thread nD τ) none Set.univ) (Set.mem_univ _) () (O := todo c 0) (W := W) (R := 0) (m := 0) (T := ∅)
      ((show 0 + (2#32).toNat = 2 by decide).trans (expect_bar m c).symm)) $$ [Hc HO Hat]
  · isplitr; · iexact HI
    isplitl [Hc]; · iexact Hc
    isplitl [HO]; · iexact HO
    isplitr
    · iapply (mayWait c (csem none) 0 (by rw [cellOfSem_csem]; decide)); iexact Hlev
    iexact Hat
  iintro ⟨HO, Hat, -, Hpay⟩
  imod (Rounds.cell_close ER (Rd m) (Set.mem_univ (K (c, none))) (fun h => h) (R := 0 + 1) (duties_later m (barCell c))) $$ [Hat] with Hz
  · isplitr; · iexact HI
    iexact Hat
  ihave Hpay := (show bigSep ((Rd (F := F) m).duties ((c : Thread nD τ), SemLoc.reg barS) 0 \ ∅) (fun d => (Rd (F := F) m).payload ((c : Thread nD τ), SemLoc.reg barS) 0 d) ⊢ bigSep Finset.univ (fun x => free (F := F) (peer c x) x) from Entails.of_eq (rest_bar m c)) $$ Hpay
  rw [wp_ret]; imodintro
  iapply Hk
  isplitl [Hpay]; · iexact Hpay
  isplitl [Hz]; · iexact Hz
  iexists _; iexact HO

/-! ## The weights -/

section Full
variable [∀ e, Nonempty (Elt F e)]

/-- A matrix through the rectangle of all of it. -/
theorem owns_full (c : Dev nD) (M : Memref sig .tc .vmem S1024x1024 .bf16) (X : Vec F S1024x1024 .bf16) :
    (owns (c : Thread nD τ) (M.slice (Rect.unit (s := S1024x1024) ![0, 0] S1024x1024.size inb_S1024x1024_S1024x1024_0_0) (fun _ => rfl)) fullShare X : sProp 𝕄)
      = owns (c : Thread nD τ) M fullShare X := by
  have h := blocks_at c M fullShare (fun _ : Unit => Rect.unit (s := S1024x1024) ![0, 0] S1024x1024.size inb_S1024x1024_S1024x1024_0_0) (fun _ _ => rfl) (fun _ => ())
    (fun i t => by
      refine iff_of_true ?_ rfl
      rw [← Rect.map_emb_univ, Finset.mem_map]
      exact ⟨i, Finset.mem_univ _, emb_zero (n := (1024, 1024)) _ i⟩) X
  rw [h, bigSep_univ_of_subsingleton ()]
  simp only [emb_zero (n := (1024, 1024))]

/-- One weight matrix rounded into its scratch. -/
theorem wp_round (c : Dev nD) (A : Memref sig .tc .vmem S1024x1024 .f32) (B : Memref sig .tc .vmem S1024x1024 .bf16) (g : Vec F S1024x1024 .f32 → FVec F S1024x1024 .bf16) (X : Vec F S1024x1024 .f32)
    {hl hl' hx hm} (Q : PUnit → sProp 𝕄) :
    iprop(owns (c : Thread nD τ) A fullShare X ∗ (∃ Y, owns (c : Thread nD τ) B fullShare Y)
        ∗ ((owns (c : Thread nD τ) A fullShare X ∗ owns (c : Thread nD τ) B fullShare (g X)) -∗ Q ⟨⟩))
      ⊢ WP c (do
        let w : Vec F S1024x1024 .f32 ← Prog.lift (.load A (Rect.unit (s := S1024x1024) ![0, 0] S1024x1024.size inb_S1024x1024_S1024x1024_0_0).toLoadRect hl)
        let _ : Vec F S1024x1024 .bf16 ← Prog.lift (.load B (Rect.unit (s := S1024x1024) ![0, 0] S1024x1024.size inb_S1024x1024_S1024x1024_0_0).toLoadRect hl')
        Prog.lift (.store B (Rect.unit (s := S1024x1024) ![0, 0] S1024x1024.size inb_S1024x1024_S1024x1024_0_0) (g w) Finset.univ hx hm)) Q := by
  unfold WP
  rw [wp_bind]
  iintro ⟨HA, ⟨%Y, HB⟩, Hk⟩
  iapply (wp_load_whole c A (Rect.unit (s := S1024x1024) ![0, 0] S1024x1024.size inb_S1024x1024_S1024x1024_0_0) fullShare X)
  isplitl [HA]; · iexact HA
  iintro HA
  simp only [emb_zero (n := (1024, 1024))]
  rw [wp_bind]
  iapply (wp_load_whole c B (Rect.unit (s := S1024x1024) ![0, 0] S1024x1024.size inb_S1024x1024_S1024x1024_0_0) fullShare Y)
  isplitl [HB]; · iexact HB
  iintro HB
  iapply (wp_store_own c B (Rect.unit (s := S1024x1024) ![0, 0] S1024x1024.size inb_S1024x1024_S1024x1024_0_0) (fun _ => rfl))
  isplitl [HB]; · iexists Y; rw [owns_full]; iexact HB
  iintro HB
  iapply Hk
  isplitl [HA]; · iexact HA
  iapply (Entails.of_eq (owns_full c B (g X))); iexact HB

end Full

/-! ## The transfers -/

theorem wp_send0 (c : Dev nD) (Q : PUnit → sProp 𝕄) :
    iprop(world m K ∗ sndPay m c (.inl 0) ∗ ticket c (.inl 0) ∗ Ow c 0 ∗ ((sent c (.inl 0) ∗ Ow c 1) -∗ Q ⟨⟩)) ⊢ WP c (send0 c) Q :=
  wp_sendX m K c (hopDev c 0) (.inl 0) (hopDev_eq c 0) (mineV c) (commV 0) (mineV_eq c) rfl Q
theorem wp_sendHop (c : Dev nD) (s : Fin 6) (Q : PUnit → sProp 𝕄) :
    iprop(world m K ∗ sndPay m c (.inl s.succ) ∗ ticket c (.inl s.succ) ∗ Ow c (s.val + 1) ∗ ((sent c (.inl s.succ) ∗ Ow c (s.val + 2)) -∗ Q ⟨⟩)) ⊢ WP c (sendS' c s) Q :=
  wp_sendX m K c (hopDev c s.succ) (.inl s.succ) (hopDev_eq c s.succ) (commV s.castSucc) (commV s.succ) rfl rfl Q
theorem wp_sendCw (c : Dev nD) (t : Fin 4) (Q : PUnit → sProp 𝕄) :
    iprop(world m K ∗ sndPay m c (.inr (.inl t)) ∗ ticket c (.inr (.inl t)) ∗ Ow c (7 + 2 * t.val) ∗ ((sent c (.inr (.inl t)) ∗ Ow c (7 + 2 * t.val + 1)) -∗ Q ⟨⟩)) ⊢ WP c (sendCw c t) Q :=
  wp_sendX m K c (cwDev c t) (.inr (.inl t)) (cwDev_eq c t) (cwV c t) (cwV c t) (cwV_eq c t) ((cwV_eq c t).trans (slot_peer_cw c t).symm) Q
theorem wp_sendCcw (c : Dev nD) (t : Fin 3) (Q : PUnit → sProp 𝕄) :
    iprop(world m K ∗ sndPay m c (.inr (.inr t)) ∗ ticket c (.inr (.inr t)) ∗ Ow c (8 + 2 * t.val) ∗ ((sent c (.inr (.inr t)) ∗ Ow c (8 + 2 * t.val + 1)) -∗ Q ⟨⟩)) ⊢ WP c (sendCcw c t) Q :=
  wp_sendX m K c (ccwDev c t) (.inr (.inr t)) (ccwDev_eq c t) (ccwV c t) (ccwV c t) (ccwV_eq c t) ((ccwV_eq c t).trans (slot_peer_ccw c t).symm) Q

/-- What a wait brings. -/
def back3 (c : Dev nD) (x : Xf) (n : ℕ) : sProp 𝕄 := iprop(sndPay m c x ∗ rcvPay m c x ∗ done c x ∗ Ow c n)

theorem wp_wait0 (c : Dev nD) (n : ℕ) (hn : 0 < n) (Q : PUnit → sProp 𝕄) :
    iprop(world m K ∗ stub c (.inl 0) ∗ sent c (.inl 0) ∗ Ow c n ∗ (back3 m c (.inl 0) n -∗ Q ⟨⟩)) ⊢ WP c (wait0 c) Q :=
  wp_waitX m K c (.inl 0) n hn (commV 0) (mineV c) (mineV c) (commV 0) rfl rfl Q
theorem wp_waitHop (c : Dev nD) (s : Fin 6) (n : ℕ) (hn : s.val + 1 < n) (Q : PUnit → sProp 𝕄) :
    iprop(world m K ∗ stub c (.inl s.succ) ∗ sent c (.inl s.succ) ∗ Ow c n ∗ (back3 m c (.inl s.succ) n -∗ Q ⟨⟩)) ⊢ WP c (waitS' s) Q :=
  wp_waitX m K c (.inl s.succ) n hn (commV s.succ) (commV s.castSucc) (commV s.castSucc) (commV s.succ) rfl rfl Q
theorem wp_waitCw (c : Dev nD) (t : Fin 4) (n : ℕ) (hn : 7 + 2 * t.val < n) (Q : PUnit → sProp 𝕄) :
    iprop(world m K ∗ stub c (.inr (.inl t)) ∗ sent c (.inr (.inl t)) ∗ Ow c n ∗ (back3 m c (.inr (.inl t)) n -∗ Q ⟨⟩)) ⊢ WP c (waitCw c t) Q :=
  wp_waitX m K c (.inr (.inl t)) n hn (cwV c t) (cwV c t) (cwV c t) (cwV c t) rfl rfl Q
theorem wp_waitCcw (c : Dev nD) (t : Fin 3) (n : ℕ) (hn : 8 + 2 * t.val < n) (Q : PUnit → sProp 𝕄) :
    iprop(world m K ∗ stub c (.inr (.inr t)) ∗ sent c (.inr (.inr t)) ∗ Ow c n ∗ (back3 m c (.inr (.inr t)) n -∗ Q ⟨⟩)) ⊢ WP c (waitCcw c t) Q :=
  wp_waitX m K c (.inr (.inr t)) n hn (ccwV c t) (ccwV c t) (ccwV c t) (ccwV c t) rfl rfl Q

/-! ## A hop -/

theorem addR_eq (c : Dev nD) (s : Fin 7) : (partB.slice (addR c s) (fun _ => rfl) : Memref sig .tc .vmem S256x1024 .bf16) = rowV (sh c (8 - (Fin.ofNat 8 (s.val + 1)).val)) := by
  rw [show 8 - (Fin.ofNat 8 (s.val + 1)).val = 7 - s.val by show 8 - (s.val + 1) % 8 = 7 - s.val; omega]
  exact rowV_of _ (off5_eq c s) _

/-- The device's own rows added to the sum that has landed. -/
theorem wp_addHop (c : Dev nD) (s : Fin 7) (Q : PUnit → sProp 𝕄) :
    iprop(owns (c : Thread nD τ) (commV s) fullShare (acc m s.val (prv c)) ∗ rowO m c (Fin.ofNat 8 (s.val + 1))
        ∗ ((owns (c : Thread nD τ) (commV s) fullShare (acc m (s.val + 1) c) ∗ rowO m c (Fin.ofNat 8 (s.val + 1))) -∗ Q ⟨⟩))
      ⊢ WP c (addHop c s) Q := by
  unfold addHop rowO WP
  rw [wp_bind]
  iintro ⟨Hs, HR, Hk⟩
  iapply (wp_load_sq c commB (commR s) (fun _ => rfl) squeezes_S1x256x1024_S256x1024 shapeCasts_S1x256x1024_S256x1024 fullShare (acc m s.val (prv c)))
  isplitl [Hs]; · iexact Hs
  iintro %r %hr Hs
  rw [wp_bind]
  iapply (wp_load_own c partB (addR c s) (fun _ => rfl) fullShare (partC m c (Fin.ofNat 8 (s.val + 1))))
  rw [addR_eq]
  isplitl [HR]; · iexact HR
  iintro HR
  rw [wp_bind]
  iapply (wp_load_sq c commB (commR s) (fun _ => rfl) squeezes_S1x256x1024_S256x1024 shapeCasts_S1x256x1024_S256x1024 fullShare (acc m s.val (prv c)))
  isplitl [Hs]; · iexact Hs
  iintro %r' - Hs
  iapply (wp_store_sq c commB (commR s) (fun _ => rfl) squeezes_S1x256x1024_S256x1024 shapeCasts_S1x256x1024_S256x1024)
  isplitl [Hs]; · iexists _; iexact Hs
  iintro Hs
  iapply Hk
  isplitl [Hs]
  · rw [show acc m (s.val + 1) c = shapeCast S256x1024 (addOf r (partC m c (Fin.ofNat 8 (s.val + 1)))) shapeCasts_S1x256x1024_S256x1024 by
      unfold addOf; rw [shapeCast_shapeCast, hr]; rfl]
    iexact Hs
  iexact HR

theorem sndPay_hop (c : Dev nD) (s : Fin 6) : sndPay m c (.inl s.succ) = (owns (c : Thread nD τ) (commV s.castSucc) fullShare (acc m (s.val + 1) c) : sProp 𝕄) := rfl

/-- The windows after next, started unless there are none left. -/
def nextK (c : Dev nD) (s : Fin 6) : sProp 𝕄 :=
  if s.val = 5 then idle m c (par (s.val + 3)) else fly m c (Fin.ofNat 8 (s.val + 3)) (par (s.val + 3))
theorem wp_issueNext (c : Dev nD) (s : Fin 6) (Q : PUnit → sProp 𝕄) :
    iprop(idle m c (par (s.val + 3)) ∗ (nextK m c s -∗ Q ⟨⟩))
      ⊢ WP c (issue c (Fin.ofNat 8 (s.val + 3)) (par (s.val + 3)) (if s.val = 5 then 0 else 8)) Q := by
  unfold nextK
  by_cases h : s.val = 5
  · rw [if_pos h, if_pos h]
    unfold issue WP
    show _ ⊢ wp _ _ _ (Prog.ret ⟨⟩) Q
    rw [wp_ret]
    iintro ⟨H, Hk⟩
    imodintro
    iapply Hk; iexact H
  · rw [if_neg h, if_neg h]
    exact wp_issue m c _ _ Q

variable [∀ e, Nonempty (Elt F e)]

theorem wp_hop (c : Dev nD) (s : Fin 6) (Q : PUnit → sProp 𝕄) :
    iprop(world m K ∗ fixed m c ∗ owns (c : Thread nD τ) (commV s.castSucc) fullShare (acc m (s.val + 1) c) ∗ ticket c (.inl s.succ) ∗ stub c (.inl s.succ)
        ∗ fly m c (Fin.ofNat 8 (s.val + 2)) (par (s.val + 2)) ∗ idle m c (par (s.val + 3)) ∗ rowE c (Fin.ofNat 8 (s.val + 2)) ∗ Ow c (s.val + 1)
        ∗ ((fixed m c ∗ free (F := F) c (.inl s.castSucc) ∗ owns (c : Thread nD τ) (commV s.succ) fullShare (acc m (s.val + 2) c) ∗ done c (.inl s.succ)
            ∗ nextK m c s ∗ idle m c (par (s.val + 2)) ∗ rowO m c (Fin.ofNat 8 (s.val + 2)) ∗ Ow c (s.val + 2)) -∗ Q ⟨⟩))
      ⊢ WP c (hop c s) Q := by
  unfold hop WP
  rw [wp_bind]
  iintro ⟨#Hw, Hf, Hs, Ht, Hb, HF, HI, HR, HO, Hk⟩
  iapply (wp_sendHop m K c s)
  isplitr; · iexact Hw
  isplitl [Hs]; · iapply (Entails.of_eq (sndPay_hop m c s).symm); iexact Hs
  isplitl [Ht]; · iexact Ht
  isplitl [HO]; · iexact HO
  iintro ⟨Hc, HO⟩
  rw [wp_bind]
  iapply (wp_issueNext m c s)
  isplitl [HI]; · iexact HI
  iintro HI
  rw [wp_bind]
  iapply (wp_chunk m K c (Fin.ofNat 8 (s.val + 2)) (par (s.val + 2)) (s.val + 2))
  isplitr; · iexact Hw
  isplitl [Hf]; · iexact Hf
  isplitl [HF]; · iexact HF
  isplitl [HR]; · iexact HR
  isplitl [HO]; · iexact HO
  iintro ⟨Hf, HF, HR, HO⟩
  rw [wp_bind]
  iapply (wp_waitHop m K c s (s.val + 2) (by omega))
  isplitr; · iexact Hw
  isplitl [Hb]; · iexact Hb
  isplitl [Hc]; · iexact Hc
  isplitl [HO]; · iexact HO
  unfold back3
  iintro ⟨Hs, Hr, Hd, HO⟩
  iapply (wp_addHop m c s.succ)
  isplitl [Hr]; · unfold rcvPay; iexact Hr
  isplitl [HR]; · iexact HR
  iintro ⟨Hr, HR⟩
  iapply Hk
  isplitl [Hf]; · iexact Hf
  isplitl [Hs]; · unfold free; iexists _; iapply (Entails.of_eq (sndPay_hop m c s)); iexact Hs
  isplitl [Hr]; · iexact Hr
  isplitl [Hd]; · iexact Hd
  isplitl [HI]; · iexact HI
  isplitl [HF]; · iexact HF
  isplitl [HR]; · iexact HR
  iexact HO

/-! ## The all-gather -/

def got (c : Dev nD) (k : Fin 8) : sProp 𝕄 := owns (c : Thread nD τ) (agV k) fullShare (tot m k)
def outE (c : Dev nD) (k : Fin 8) : sProp 𝕄 := iprop(∃ X, owns (c : Thread nD τ) (outV k) fullShare X)
def outO (c : Dev nD) (k : Fin 8) : sProp 𝕄 := owns (c : Thread nD τ) (outV k) fullShare (outRow m k)
/-- A chunk gathered and copied into the result. -/
def fin (c : Dev nD) (k : Fin 8) : sProp 𝕄 := iprop(got m c k ∗ outO m c k)

/-- A chunk's share in three: for the transfer one way, for the other, for the copy. -/
theorem got_split (c : Dev nD) (k : Fin 8) : got m c k ⊢ iprop(owns (c : Thread nD τ) (agV k) fullShare.left (tot m k)
    ∗ owns (c : Thread nD τ) (agV k) fullShare.right.left (tot m k) ∗ owns (c : Thread nD τ) (agV k) fullShare.right.right (tot m k)) := by
  unfold got
  iintro H
  ihave H := (owns_halves (c : Thread nD τ) (agV k) fullShare (tot m k)).1 $$ H
  icases H with ⟨H1, H⟩
  isplitl [H1]; · iexact H1
  iapply (owns_halves (c : Thread nD τ) (agV k) fullShare.right (tot m k)).1
  iexact H
theorem got_join (c : Dev nD) (k : Fin 8) : iprop(owns (c : Thread nD τ) (agV k) fullShare.left (tot m k)
    ∗ owns (c : Thread nD τ) (agV k) fullShare.right.left (tot m k) ∗ owns (c : Thread nD τ) (agV k) fullShare.right.right (tot m k)) ⊢ got m c k := by
  unfold got
  iintro ⟨H1, H⟩
  iapply (owns_halves (c : Thread nD τ) (agV k) fullShare (tot m k)).2
  isplitl [H1]; · iexact H1
  iapply (owns_halves (c : Thread nD τ) (agV k) fullShare.right (tot m k)).2
  iexact H

theorem snd_cw (c : Dev nD) (t : Fin 4) (k : Fin 8) (h : sh c (9 - t.val) = k) :
    sndPay m c (.inr (.inl t)) = (owns (c : Thread nD τ) (agV k) fullShare.left (tot m k) : sProp 𝕄) := by subst h; rfl
theorem snd_ccw (c : Dev nD) (t : Fin 3) (k : Fin 8) (h : sh c (1 + t.val) = k) :
    sndPay m c (.inr (.inr t)) = (owns (c : Thread nD τ) (agV k) fullShare.right.left (tot m k) : sProp 𝕄) := by subst h; rfl
theorem rcv_cw (c : Dev nD) (t : Fin 4) (k : Fin 8) (h : sh c (8 - t.val) = k) : rcvPay m c (.inr (.inl t)) = got m c k := by subst h; rfl
theorem rcv_ccw (c : Dev nD) (t : Fin 3) (k : Fin 8) (h : sh c (2 + t.val) = k) : rcvPay m c (.inr (.inr t)) = got m c k := by subst h; rfl

/-- The device's own summed chunk put in its slot. -/
theorem wp_ownSlot (c : Dev nD) (Q : PUnit → sProp 𝕄) :
    iprop(owns (c : Thread nD τ) (commV 6) fullShare (acc m 7 c) ∗ (∃ X, owns (c : Thread nD τ) (agV (sh c 1)) fullShare X)
        ∗ ((owns (c : Thread nD τ) (commV 6) fullShare (acc m 7 c) ∗ got m c (sh c 1)) -∗ Q ⟨⟩))
      ⊢ WP c (ownSlot c) Q := by
  have e : (agB.slice (Rect.unit (s := S8x256x1024) (k0_off6 c) S1x256x1024.size (k0_off6_inb c)) (fun _ => rfl)).squeeze S256x1024 squeezes_S1x256x1024_S256x1024 = agV (sh c 1) := agV_of _ (off6_eq c) _
  unfold ownSlot WP
  rw [wp_bind]
  iintro ⟨Hs, ⟨%X, Ha⟩, Hk⟩
  iapply (wp_load_sq c commB (commR 6) (fun _ => rfl) squeezes_S1x256x1024_S256x1024 shapeCasts_S1x256x1024_S256x1024 fullShare (acc m 7 c))
  isplitl [Hs]; · iexact Hs
  iintro %v %hv Hs
  rw [wp_bind]
  iapply (wp_load_sq c agB (Rect.unit (s := S8x256x1024) (k0_off6 c) S1x256x1024.size (k0_off6_inb c)) (fun _ => rfl) squeezes_S1x256x1024_S256x1024 shapeCasts_S1x256x1024_S256x1024 fullShare X)
  rw [e]
  isplitl [Ha]; · iexact Ha
  iintro %v' - Ha
  iapply (wp_store_sq c agB (Rect.unit (s := S8x256x1024) (k0_off6 c) S1x256x1024.size (k0_off6_inb c)) (fun _ => rfl) squeezes_S1x256x1024_S256x1024 shapeCasts_S1x256x1024_S256x1024)
  rw [e]
  isplitl [Ha]; · iexists X; iexact Ha
  iintro Ha
  iapply Hk
  isplitl [Hs]; · iexact Hs
  unfold got
  rw [show tot m (sh c 1) = shapeCast S256x1024 (shapeCast S1x256x1024 (shapeCast S256x1024 v shapeCasts_S1x256x1024_S256x1024) shapeCasts_S256x1024_S1x256x1024) shapeCasts_S1x256x1024_S256x1024 by
    rw [shapeCast_shapeCast, hv]; show acc m 7 (prv (nxt c)) = _; rw [prv_nxt]]
  iexact Ha

/-- A gathered chunk copied into the result. -/
theorem wp_toOut (c : Dev nD) (k : Fin 8) (q : PosShare TreeShare) (o : Fin 3 → ℕ) (ho) (o' : Fin 3 → ℕ) (ho') (e : o = ![k.val, 0, 0]) (e' : o' = ![0, 256 * k.val, 0]) (Q : PUnit → sProp 𝕄) :
    iprop(owns (c : Thread nD τ) (agV k) q (tot m k) ∗ outE c k ∗ ((owns (c : Thread nD τ) (agV k) q (tot m k) ∗ outO m c k) -∗ Q ⟨⟩))
      ⊢ WP c (toOut o ho o' ho') Q := by
  subst e e'
  unfold toOut outE outO WP
  rw [wp_bind]
  iintro ⟨Ha, ⟨%X, Ho⟩, Hk⟩
  iapply (wp_load_sq c agB (agR k) (fun _ => rfl) squeezes_S1x256x1024_S256x1024 shapeCasts_S1x256x1024_S256x1024 q (tot m k))
  isplitl [Ha]; · iexact Ha
  iintro %v %hv Ha
  rw [wp_bind]
  iapply (wp_load_own c outB (outR k) (fun _ => rfl) fullShare X)
  isplitl [Ho]; · iexact Ho
  iintro Ho
  iapply (wp_store_own c outB (outR k) (fun _ => rfl))
  isplitl [Ho]; · iexists X; iexact Ho
  iintro Ho
  iapply Hk
  isplitl [Ha]; · iexact Ha
  rw [show outRow m k = outOf v by unfold outRow outOf; rw [hv]]
  iexact Ho

/-- The first step: the device's own chunk sent both ways and copied. -/
theorem wp_first (c : Dev nD) (Q : PUnit → sProp 𝕄) :
    iprop(world m K ∗ got m c (sh c 1) ∗ outE c (sh c 1) ∗ ticket c (.inr (.inl 0)) ∗ stub c (.inr (.inl 0)) ∗ ticket c (.inr (.inr 0)) ∗ stub c (.inr (.inr 0)) ∗ Ow c 7
        ∗ ((fin m c (sh c 1) ∗ got m c (sh c 8) ∗ got m c (sh c 2) ∗ done c (.inr (.inl 0)) ∗ done c (.inr (.inr 0)) ∗ Ow c 9) -∗ Q ⟨⟩))
      ⊢ WP c (first c) Q := by
  unfold first WP
  rw [wp_bind]
  iintro ⟨#Hw, Hg, Ho, Ht1, Hb1, Ht2, Hb2, HO, Hk⟩
  ihave Hg := (got_split m c (sh c 1)) $$ Hg
  icases Hg with ⟨Hg1, Hg2, Hg3⟩
  iapply (wp_sendCw m K c 0)
  isplitr; · iexact Hw
  isplitl [Hg1]; · iapply (Entails.of_eq (snd_cw m c 0 (sh c 1) (by revert c; decide)).symm); iexact Hg1
  isplitl [Ht1]; · iexact Ht1
  isplitl [HO]; · iexact HO
  iintro ⟨Hc1, HO⟩
  rw [wp_bind]
  iapply (wp_sendCcw m K c 0)
  isplitr; · iexact Hw
  isplitl [Hg2]; · iapply (Entails.of_eq (snd_ccw m c 0 (sh c 1) rfl).symm); iexact Hg2
  isplitl [Ht2]; · iexact Ht2
  isplitl [HO]; · iexact HO
  iintro ⟨Hc2, HO⟩
  rw [wp_bind]
  iapply (wp_toOut m c (sh c 1) fullShare.right.right _ _ _ _ (off9_eq c) (off10_eq c))
  isplitl [Hg3]; · iexact Hg3
  isplitl [Ho]; · iexact Ho
  iintro ⟨Hg3, Ho⟩
  rw [wp_bind]
  iapply (wp_waitCw m K c 0 9 (by decide))
  isplitr; · iexact Hw
  isplitl [Hb1]; · iexact Hb1
  isplitl [Hc1]; · iexact Hc1
  isplitl [HO]; · iexact HO
  unfold back3
  iintro ⟨Hg1, Hr1, Hd1, HO⟩
  iapply (wp_waitCcw m K c 0 9 (by decide))
  isplitr; · iexact Hw
  isplitl [Hb2]; · iexact Hb2
  isplitl [Hc2]; · iexact Hc2
  isplitl [HO]; · iexact HO
  unfold back3
  iintro ⟨Hg2, Hr2, Hd2, HO⟩
  iapply Hk
  isplitl [Hg1 Hg2 Hg3 Ho]
  · unfold fin
    isplitr [Ho]
    · iapply (got_join m c (sh c 1))
      isplitl [Hg1]; · iapply (Entails.of_eq (snd_cw m c 0 (sh c 1) (by revert c; decide))); iexact Hg1
      isplitl [Hg2]; · iapply (Entails.of_eq (snd_ccw m c 0 (sh c 1) rfl)); iexact Hg2
      iexact Hg3
    iexact Ho
  isplitl [Hr1]; · iapply (Entails.of_eq (rcv_cw m c 0 (sh c 8) rfl)); iexact Hr1
  isplitl [Hr2]; · iapply (Entails.of_eq (rcv_ccw m c 0 (sh c 2) rfl)); iexact Hr2
  isplitl [Hd1]; · iexact Hd1
  isplitl [Hd2]; · iexact Hd2
  iexact HO

/-- The next steps: what has landed sent on and copied. -/
theorem wp_both (c : Dev nD) (t : Fin 2) (Q : PUnit → sProp 𝕄) :
    iprop(world m K ∗ got m c (sh c (8 - t.val)) ∗ outE c (sh c (8 - t.val)) ∗ got m c (sh c (2 + t.val)) ∗ outE c (sh c (2 + t.val))
        ∗ ticket c (.inr (.inl ⟨t.val + 1, by omega⟩)) ∗ stub c (.inr (.inl ⟨t.val + 1, by omega⟩))
        ∗ ticket c (.inr (.inr ⟨t.val + 1, by omega⟩)) ∗ stub c (.inr (.inr ⟨t.val + 1, by omega⟩)) ∗ Ow c (9 + 2 * t.val)
        ∗ ((fin m c (sh c (8 - t.val)) ∗ fin m c (sh c (2 + t.val)) ∗ got m c (sh c (7 - t.val)) ∗ got m c (sh c (3 + t.val))
            ∗ done c (.inr (.inl ⟨t.val + 1, by omega⟩)) ∗ done c (.inr (.inr ⟨t.val + 1, by omega⟩)) ∗ Ow c (11 + 2 * t.val)) -∗ Q ⟨⟩))
      ⊢ WP c (both c t) Q := by
  have h2 := t.isLt
  have h3 : t.val + 1 < 3 := by omega
  have h4 : t.val + 1 < 4 := by omega
  have g3 : t.val < 3 := by omega
  have g4 : t.val < 4 := by omega
  unfold both WP
  rw [wp_bind]
  iintro ⟨#Hw, Hg, Ho, Hh, Hu, Ht1, Hb1, Ht2, Hb2, HO, Hk⟩
  ihave Hg := (got_split m c (sh c (8 - t.val))) $$ Hg
  icases Hg with ⟨Hg1, Hg2, Hg3⟩
  ihave Hh := (got_split m c (sh c (2 + t.val))) $$ Hh
  icases Hh with ⟨Hh1, Hh2, Hh3⟩
  have e1 : sh c (9 - (t.val + 1)) = sh c (8 - t.val) := by congr 1; omega
  have e2 : sh c (1 + (t.val + 1)) = sh c (2 + t.val) := by congr 1; omega
  iapply (wp_sendCw m K c ⟨t.val + 1, h4⟩)
  isplitr; · iexact Hw
  isplitl [Hg1]; · iapply (Entails.of_eq (snd_cw m c ⟨t.val + 1, h4⟩ (sh c (8 - t.val)) e1).symm); iexact Hg1
  isplitl [Ht1]; · iexact Ht1
  isplitl [HO]; · rw [show 7 + 2 * (⟨t.val + 1, h4⟩ : Fin 4).val = 9 + 2 * t.val by show 7 + 2 * (t.val + 1) = _; omega]; iexact HO
  iintro ⟨Hc1, HO⟩
  rw [wp_bind]
  iapply (wp_sendCcw m K c ⟨t.val + 1, h3⟩)
  isplitr; · iexact Hw
  isplitl [Hh2]; · iapply (Entails.of_eq (snd_ccw m c ⟨t.val + 1, h3⟩ (sh c (2 + t.val)) e2).symm); iexact Hh2
  isplitl [Ht2]; · iexact Ht2
  isplitl [HO]; · rw [show 8 + 2 * (⟨t.val + 1, h3⟩ : Fin 3).val = 7 + 2 * (⟨t.val + 1, h4⟩ : Fin 4).val + 1 by show 8 + 2 * (t.val + 1) = 7 + 2 * (t.val + 1) + 1; omega]; iexact HO
  iintro ⟨Hc2, HO⟩
  rw [show 8 + 2 * (⟨t.val + 1, h3⟩ : Fin 3).val + 1 = 11 + 2 * t.val by show 8 + 2 * (t.val + 1) + 1 = _; omega]
  rw [wp_bind]
  iapply (wp_toOut m c (sh c (8 - t.val)) fullShare.right.right _ _ _ _ (off11_eq c ⟨t.val, g4⟩) (off12_eq c ⟨t.val, g4⟩))
  isplitl [Hg3]; · iexact Hg3
  isplitl [Ho]; · iexact Ho
  iintro ⟨Hg3, Ho⟩
  rw [wp_bind]
  iapply (wp_toOut m c (sh c (2 + t.val)) fullShare.right.right _ _ _ _ (off13_eq c ⟨t.val, g3⟩) (off14_eq c ⟨t.val, g3⟩))
  isplitl [Hh3]; · iexact Hh3
  isplitl [Hu]; · iexact Hu
  iintro ⟨Hh3, Hu⟩
  rw [wp_bind]
  iapply (wp_waitCw m K c ⟨t.val + 1, h4⟩ (11 + 2 * t.val) (by show 7 + 2 * (t.val + 1) < _; omega))
  isplitr; · iexact Hw
  isplitl [Hb1]; · iexact Hb1
  isplitl [Hc1]; · iexact Hc1
  isplitl [HO]; · iexact HO
  unfold back3
  iintro ⟨Hg1, Hr1, Hd1, HO⟩
  iapply (wp_waitCcw m K c ⟨t.val + 1, h3⟩ (11 + 2 * t.val) (by show 8 + 2 * (t.val + 1) < _; omega))
  isplitr; · iexact Hw
  isplitl [Hb2]; · iexact Hb2
  isplitl [Hc2]; · iexact Hc2
  isplitl [HO]; · iexact HO
  unfold back3
  iintro ⟨Hh2, Hr2, Hd2, HO⟩
  iapply Hk
  isplitl [Hg1 Hg2 Hg3 Ho]
  · unfold fin
    isplitr [Ho]
    · iapply (got_join m c (sh c (8 - t.val)))
      isplitl [Hg1]; · iapply (Entails.of_eq (snd_cw m c ⟨t.val + 1, h4⟩ (sh c (8 - t.val)) e1)); iexact Hg1
      isplitl [Hg2]; · iexact Hg2
      iexact Hg3
    iexact Ho
  isplitl [Hh1 Hh2 Hh3 Hu]
  · unfold fin
    isplitr [Hu]
    · iapply (got_join m c (sh c (2 + t.val)))
      isplitl [Hh1]; · iexact Hh1
      isplitl [Hh2]; · iapply (Entails.of_eq (snd_ccw m c ⟨t.val + 1, h3⟩ (sh c (2 + t.val)) e2)); iexact Hh2
      iexact Hh3
    iexact Hu
  isplitl [Hr1]; · iapply (Entails.of_eq (rcv_cw m c ⟨t.val + 1, h4⟩ (sh c (7 - t.val)) (by congr 1; show 8 - (t.val + 1) = _; omega))); iexact Hr1
  isplitl [Hr2]; · iapply (Entails.of_eq (rcv_ccw m c ⟨t.val + 1, h3⟩ (sh c (3 + t.val)) (by congr 1; show 2 + (t.val + 1) = _; omega))); iexact Hr2
  isplitl [Hd1]; · iexact Hd1
  isplitl [Hd2]; · iexact Hd2
  iexact HO

/-- The last step: one way only, and the last copies. -/
theorem wp_last (c : Dev nD) (Q : PUnit → sProp 𝕄) :
    iprop(world m K ∗ got m c (sh c 6) ∗ outE c (sh c 6) ∗ got m c (sh c 4) ∗ outE c (sh c 4) ∗ outE c (sh c 5)
        ∗ ticket c (.inr (.inl 3)) ∗ stub c (.inr (.inl 3)) ∗ Ow c 13
        ∗ ((fin m c (sh c 6) ∗ fin m c (sh c 4) ∗ fin m c (sh c 5) ∗ done c (.inr (.inl 3)) ∗ Ow c 14) -∗ Q ⟨⟩))
      ⊢ WP c (last c) Q := by
  unfold last WP
  rw [wp_bind]
  iintro ⟨#Hw, Hg, Ho, Hh, Hu, Hv, Ht, Hb, HO, Hk⟩
  ihave Hg := (got_split m c (sh c 6)) $$ Hg
  icases Hg with ⟨Hg1, Hg2, Hg3⟩
  iapply (wp_sendCw m K c 3)
  isplitr; · iexact Hw
  isplitl [Hg1]; · iapply (Entails.of_eq (snd_cw m c 3 (sh c 6) rfl).symm); iexact Hg1
  isplitl [Ht]; · iexact Ht
  isplitl [HO]; · iexact HO
  iintro ⟨Hc, HO⟩
  rw [wp_bind]
  iapply (wp_toOut m c (sh c 6) fullShare.right.right _ _ _ _ (off11_eq c 2) (off12_eq c 2))
  isplitl [Hg3]; · iexact Hg3
  isplitl [Ho]; · iexact Ho
  iintro ⟨Hg3, Ho⟩
  rw [wp_bind]
  iapply (wp_toOut m c (sh c 4) fullShare _ _ _ _ (off13_eq c 2) (off14_eq c 2))
  isplitl [Hh]; · unfold got; iexact Hh
  isplitl [Hu]; · iexact Hu
  iintro ⟨Hh, Hu⟩
  rw [wp_bind]
  iapply (wp_waitCw m K c 3 14 (by decide))
  isplitr; · iexact Hw
  isplitl [Hb]; · iexact Hb
  isplitl [Hc]; · iexact Hc
  isplitl [HO]; · iexact HO
  unfold back3
  iintro ⟨Hg1, Hr, Hd, HO⟩
  iapply (wp_toOut m c (sh c 5) fullShare _ _ _ _ (off11_eq c 3) (off12_eq c 3))
  isplitl [Hr]; · iapply (show rcvPay m c (.inr (.inl 3)) ⊢ owns (c : Thread nD τ) (agV (sh c 5)) fullShare (tot m (sh c 5)) from Entails.of_eq (rcv_cw m c 3 (sh c 5) rfl)); iexact Hr
  isplitl [Hv]; · iexact Hv
  iintro ⟨Hr, Hv⟩
  iapply Hk
  unfold fin
  isplitl [Hg1 Hg2 Hg3 Ho]
  · isplitr [Ho]
    · iapply (got_join m c (sh c 6))
      isplitl [Hg1]; · iapply (Entails.of_eq (snd_cw m c 3 (sh c 6) rfl)); iexact Hg1
      isplitl [Hg2]; · iexact Hg2
      iexact Hg3
    iexact Ho
  isplitl [Hh Hu]
  · isplitl [Hh]; · unfold got; iexact Hh
    iexact Hu
  isplitl [Hr Hv]
  · isplitl [Hr]; · unfold got; iexact Hr
    iexact Hv
  isplitl [Hd]; · iexact Hd
  iexact HO

end Cert.KernelIdeal.Ring

end
-- ==== Proof.Body.lean ====
/-
  The whole body: what it starts from, what it leaves, and the steps put together.
-/
module

public import proofs.«01_k».proof.Proof.Steps

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

/-! ## The chunks and the transfers one by one -/

/-- The chunk a part of the gather brings: four one way, three the other, the device's own. -/
def chunkOf (c : Dev nD) : (Fin 4 ⊕ Fin 3) ⊕ Unit → Fin 8
  | .inl (.inl t) => sh c (8 - t.val)
  | .inl (.inr t) => sh c (2 + t.val)
  | .inr _ => sh c 1
theorem chunkOf_bij (c : Dev nD) : Function.Bijective (chunkOf c) := by
  rw [Fintype.bijective_iff_injective_and_card]
  exact ⟨by revert c; decide +kernel, by decide⟩

theorem chunks (c : Dev nD) (P : Fin 8 → sProp 𝕄) : bigSep Finset.univ P
    = iprop(((bigSep Finset.univ fun t : Fin 4 => P (sh c (8 - t.val))) ∗ (bigSep Finset.univ fun t : Fin 3 => P (sh c (2 + t.val)))) ∗ P (sh c 1)) := by
  rw [bigSep_univ_equiv (Equiv.ofBijective (chunkOf c) (chunkOf_bij c)) P, bigSep_univ_sum, bigSep_univ_sum, bigSep_univ_of_subsingleton ()]
  rfl
theorem chunkList (c : Dev nD) (P : Fin 8 → sProp 𝕄) : bigSep Finset.univ P
    = iprop(((P (sh c 8) ∗ P (sh c 7) ∗ P (sh c 6) ∗ P (sh c 5)) ∗ (P (sh c 2) ∗ P (sh c 3) ∗ P (sh c 4))) ∗ P (sh c 1)) := by
  rw [chunks c, bigSep_univ_eq_bigSepL [(0 : Fin 4), 1, 2, 3] (by decide) (by decide), bigSep_univ_eq_bigSepL [(0 : Fin 3), 1, 2] (by decide) (by decide)]
  simp only [bigSepL_cons_cons, bigSepL_singleton]
  rfl
theorem hopList (P : Fin 7 → sProp 𝕄) : bigSep Finset.univ P = iprop(P 0 ∗ P 1 ∗ P 2 ∗ P 3 ∗ P 4 ∗ P 5 ∗ P 6) := by
  rw [bigSep_univ_eq_bigSepL [(0 : Fin 7), 1, 2, 3, 4, 5, 6] (by decide) (by decide)]
  simp only [bigSepL_cons_cons, bigSepL_singleton]
  rfl
theorem xfList (P : Xf → sProp 𝕄) : bigSep Finset.univ P
    = iprop((P (.inl 0) ∗ P (.inl 1) ∗ P (.inl 2) ∗ P (.inl 3) ∗ P (.inl 4) ∗ P (.inl 5) ∗ P (.inl 6))
      ∗ (P (.inr (.inl 0)) ∗ P (.inr (.inl 1)) ∗ P (.inr (.inl 2)) ∗ P (.inr (.inl 3))) ∗ (P (.inr (.inr 0)) ∗ P (.inr (.inr 1)) ∗ P (.inr (.inr 2)))) := by
  rw [bigSep_univ_sum, bigSep_univ_sum, hopList, bigSep_univ_eq_bigSepL [(0 : Fin 4), 1, 2, 3] (by decide) (by decide), bigSep_univ_eq_bigSepL [(0 : Fin 3), 1, 2] (by decide) (by decide)]
  simp only [bigSepL_cons_cons, bigSepL_singleton]
  rfl

/-! ## What the body starts from and what it leaves -/

/-- The device's part of the protocol at launch. -/
def start (c : Dev nD) : sProp 𝕄 :=
  iprop((∃ W, owes (c : Thread nD τ) (O₀ c) W) ∗ (dutyTok ER (barCell (prv c)) 0 false ∗ dutyTok ER (barCell (nxt c)) 0 true)
    ∗ (atPos ER (barCell c) 0 ∅ 0 ∗ cred (tallyAt (barCell c) () 2)) ∗ bigSep Finset.univ (tok (F := F) c) ∗ bigSep Finset.univ (stub (F := F) c))
/-- The operands' staging buffers. -/
def ins (c : Dev nD) : sProp 𝕄 :=
  iprop(owns (c : Thread nD τ) xB fullShare (xC m c) ∗ owns (c : Thread nD τ) wqB fullShare (wqC m c) ∗ owns (c : Thread nD τ) woB fullShare (woC m c))
/-- The scratch buffers but the windows, at whatever contents. -/
def scr (c : Dev nD) : sProp 𝕄 :=
  iprop((∃ X, owns (c : Thread nD τ) ctxB fullShare X) ∗ (∃ X, owns (c : Thread nD τ) partB fullShare X) ∗ (∃ X, owns (c : Thread nD τ) commB fullShare X)
    ∗ (∃ X, owns (c : Thread nD τ) agB fullShare X) ∗ (∃ X, owns (c : Thread nD τ) wqbB fullShare X) ∗ (∃ X, owns (c : Thread nD τ) wobB fullShare X))
/-- Every cell of the protocol closed and nothing owed. -/
def finish (c : Dev nD) : sProp 𝕄 := iprop(semVal (barCell c) 0 ∗ bigSep Finset.univ (done (F := F) c) ∗ Ow (F := F) c 14)

/-! ## The opening -/

theorem barPay_prv (c : Dev nD) : barPay (F := F) (prv c) false = bigSep (Finset.univ.filter fun x => ¬ back x = true) fun x => free (F := F) c x := by
  unfold barPay
  have h : (Finset.univ.filter fun x : Xf => back x = false) = Finset.univ.filter fun x => ¬ back x = true := by decide
  rw [h]
  refine bigSep_congr fun x hx => ?_
  have hb := (Finset.mem_filter.mp hx).2
  unfold peer; rw [if_neg hb, nxt_prv]
theorem barPay_nxt (c : Dev nD) : barPay (F := F) (nxt c) true = bigSep (Finset.univ.filter fun x => back x = true) fun x => free (F := F) c x := by
  unfold barPay
  refine bigSep_congr fun x hx => ?_
  have hb := (Finset.mem_filter.mp hx).2
  unfold peer; rw [if_pos hb, prv_nxt]

/-- The device's landing slots, by the neighbour whose transfers land in them. -/
theorem free_bar (c : Dev nD) : bigSep Finset.univ (free (F := F) c) ⊢ (iprop(barPay (prv c) false ∗ barPay (nxt c) true) : sProp 𝕄) := by
  rw [bigSep_filter_split Finset.univ (fun x : Xf => back x = true), barPay_prv, barPay_nxt]
  show iprop(bigSep (Finset.univ.filter fun x => back x = true) (free (F := F) c) ∗ bigSep (Finset.univ.filter fun x => ¬ back x = true) (free (F := F) c)) ⊢ _
  iintro ⟨H1, H2⟩
  isplitl [H2]; · iexact H2
  iexact H1

section Slots
variable [∀ e, Nonempty (Elt F e)]

theorem slots_free (c : Dev nD) : iprop((∃ X, owns (c : Thread nD τ) commB fullShare X) ∗ (∃ X, owns (c : Thread nD τ) agB fullShare X))
    ⊢ (iprop(bigSep Finset.univ (free (F := F) c) ∗ ∃ X, owns (c : Thread nD τ) (agV (sh c 1)) fullShare X) : sProp 𝕄) := by
  rw [comm_cut, ag_cut, chunks c, bigSep_univ_sum, bigSep_univ_sum]
  show _ ⊢ iprop(((bigSep Finset.univ fun s : Fin 7 => free (F := F) c (.inl s)) ∗ (bigSep Finset.univ fun t : Fin 4 => free (F := F) c (.inr (.inl t))) ∗ (bigSep Finset.univ fun t : Fin 3 => free (F := F) c (.inr (.inr t)))) ∗ _)
  iintro ⟨H1, ⟨H2, H3⟩, H4⟩
  isplitr [H4]
  · isplitl [H1]; · iexact H1
    isplitl [H2]; · iexact H2
    iexact H3
  iexact H4

theorem wp_opening (c : Dev nD) (Q : PUnit → sProp 𝕄) :
    iprop(world m K ∗ start c ∗ ins m c ∗ (∃ X, owns (c : Thread nD τ) ctxB fullShare X) ∗ (∃ X, owns (c : Thread nD τ) commB fullShare X)
        ∗ (∃ X, owns (c : Thread nD τ) agB fullShare X) ∗ (∃ X, owns (c : Thread nD τ) wqbB fullShare X) ∗ (∃ X, owns (c : Thread nD τ) wobB fullShare X)
        ∗ ((bigSep Finset.univ (ticket (F := F) c) ∗ bigSep Finset.univ (stub (F := F) c) ∗ (∃ X, owns (c : Thread nD τ) (agV (sh c 1)) fullShare X) ∗ fixed m c
            ∗ owns (c : Thread nD τ) wqB fullShare (wqC m c) ∗ owns (c : Thread nD τ) woB fullShare (woC m c) ∗ semVal (barCell c) 0 ∗ Ow c 0) -∗ Q ⟨⟩))
      ⊢ WP c (opening c) Q := by
  unfold opening start ins WP
  rw [wp_bind]
  iintro ⟨#Hw, ⟨⟨%W, HO⟩, ⟨Ht1, Ht2⟩, ⟨Hat, Hc⟩, Htok, Hstub⟩, ⟨Hx, Hq, Ho⟩, Hctx, Hcomm, Hag, Hqb, Hob, Hk⟩
  ihave Hs := (show iprop((∃ X, owns (c : Thread nD τ) commB fullShare X) ∗ (∃ X, owns (c : Thread nD τ) agB fullShare X)) ⊢ _ from slots_free (F := F) c) $$ [Hcomm Hag]
  · isplitl [Hcomm]; · iexact Hcomm
    iexact Hag
  icases Hs with ⟨Hs, Hown⟩
  ihave Hs := (free_bar (F := F) c) $$ Hs
  icases Hs with ⟨Hs1, Hs2⟩
  iapply (wp_sig m K c _ (prv c) (dev1_eq c) false (O₁ c) (O₀ c) rfl W)
  isplitr; · iexact Hw
  isplitl [HO]; · iexact HO
  isplitl [Ht1]; · iexact Ht1
  isplitl [Hs1]; · iexact Hs1
  iintro HO
  rw [wp_bind]
  iapply (wp_sig m K c _ (nxt c) (dev2_eq c) true (todo c 0) (O₁ c) rfl W)
  isplitr; · iexact Hw
  isplitl [HO]; · iexact HO
  isplitl [Ht2]; · iexact Ht2
  isplitl [Hs2]; · iexact Hs2
  iintro HO
  rw [wp_bind]
  iapply (wp_round c wqB wqbB wqbOf (wqC m c))
  isplitl [Hq]; · iexact Hq
  isplitl [Hqb]; · iexact Hqb
  iintro ⟨Hq, Hqb⟩
  rw [wp_bind]
  iapply (wp_round c woB wobB wobOf (woC m c))
  isplitl [Ho]; · iexact Ho
  isplitl [Hob]; · iexact Hob
  iintro ⟨Ho, Hob⟩
  iapply (wp_bar m K c)
  isplitr; · iexact Hw
  isplitl [HO]; · unfold Ow; iexists W; iexact HO
  isplitl [Hat]; · iexact Hat
  isplitl [Hc]; · iexact Hc
  iintro ⟨Hfree, Hz, HO⟩
  iapply Hk
  isplitl [Hfree Htok]
  · iapply (show iprop(bigSep Finset.univ (fun x => free (F := F) (peer c x) x) ∗ bigSep Finset.univ (tok (F := F) c)) ⊢ bigSep Finset.univ (ticket (F := F) c) from
      Entails.of_eq (bigSep_sep Finset.univ (fun x => free (F := F) (peer c x) x) (tok (F := F) c)).symm)
    isplitl [Hfree]; · iexact Hfree
    iexact Htok
  isplitl [Hstub]; · iexact Hstub
  isplitl [Hown]; · iexact Hown
  isplitl [Hx Hqb Hob Hctx]
  · unfold fixed
    isplitl [Hx]; · iexact Hx
    isplitl [Hqb]; · iexact Hqb
    isplitl [Hob]; · iexact Hob
    iexact Hctx
  isplitl [Hq]; · iexact Hq
  isplitl [Ho]; · iexact Ho
  isplitl [Hz]; · iexact Hz
  iexact HO

/-! ## The rounds -/

/-- Between the hops: hop `s` has landed and been added to; the windows of the next chunks are on their way. -/
def mid (c : Dev nD) (s : Fin 7) : sProp 𝕄 :=
  iprop(fixed m c ∗ owns (c : Thread nD τ) (commV s) fullShare (acc m (s.val + 1) c) ∗ Ow c (s.val + 1) ∗ idle m c (par (s.val + 3))
    ∗ if s = 6 then idle m c (par (s.val + 2)) else fly m c (Fin.ofNat 8 (s.val + 2)) (par (s.val + 2)))

theorem mid_start (c : Dev nD) : iprop(fixed m c ∗ owns (c : Thread nD τ) (commV 0) fullShare (acc m 1 c) ∗ Ow c 1 ∗ idle m c 1 ∗ fly m c 2 0) ⊢ mid m c 0 := Entails.of_eq rfl

theorem mid_hop (c : Dev nD) (s : Fin 6) (a b : Fin 7) (j : Fin 8) (ha : s.castSucc = a) (hb : s.succ = b) (hj : Fin.ofNat 8 (s.val + 2) = j) (Q : PUnit → sProp 𝕄) :
    iprop(world m K ∗ mid m c a ∗ ticket c (.inl b) ∗ stub c (.inl b) ∗ rowE c j
        ∗ ((mid m c b ∗ free (F := F) c (.inl a) ∗ done c (.inl b) ∗ rowO m c j) -∗ Q ⟨⟩))
      ⊢ WP c (hop c s) Q := by
  subst ha hb hj
  have hs := s.isLt
  unfold mid
  rw [if_neg (show ¬ s.castSucc = 6 by rw [Fin.ext_iff]; show ¬ s.val = 6; omega)]
  iintro ⟨#Hw, ⟨Hf, Hs, HO, HI, HF⟩, Ht, Hb, HR, Hk⟩
  iapply (wp_hop m K c s)
  isplitr; · iexact Hw
  isplitl [Hf]; · iexact Hf
  isplitl [Hs]; · iexact Hs
  isplitl [Ht]; · iexact Ht
  isplitl [Hb]; · iexact Hb
  isplitl [HF]; · iexact HF
  isplitl [HI]; · iexact HI
  isplitl [HR]; · iexact HR
  isplitl [HO]; · iexact HO
  iintro ⟨Hf, Hfree, Hs, Hd, HN, HI, HR, HO⟩
  iapply Hk
  isplitr [Hfree Hd HR]
  · isplitl [Hf]; · iexact Hf
    isplitl [Hs]; · iexact Hs
    isplitl [HO]; · iexact HO
    isplitl [HI]
    · iapply (show idle m c (par (s.val + 2)) ⊢ idle m c (par (s.succ.val + 3)) from Entails.of_eq (congrArg _ (Fin.ext (by
        show (s.val + 2) % 2 = (s.val + 1 + 3) % 2; omega))))
      iexact HI
    iapply (show nextK m c s ⊢ (if s.succ = 6 then idle m c (par (s.succ.val + 2)) else fly m c (Fin.ofNat 8 (s.succ.val + 2)) (par (s.succ.val + 2))) from Entails.of_eq (by
      unfold nextK
      by_cases h : s.val = 5
      · rw [if_pos h, if_pos (Fin.ext (show s.val + 1 = 6 by omega))]; rfl
      · rw [if_neg h, if_neg (fun h' => h (by have := congrArg Fin.val h'; simp at this; omega))]; rfl))
    iexact HN
  isplitl [Hfree]; · iexact Hfree
  isplitl [Hd]; · iexact Hd
  iexact HR

theorem row0 (c : Dev nD) : sndPay m c (.inl 0) = rowO m c 0 := by
  show owns (c : Thread nD τ) (rowV (sh c 0)) fullShare (partC m c 0) = owns (c : Thread nD τ) (rowV (sh c 8)) fullShare (partC m c 0)
  rw [show sh c 0 = sh c 8 by revert c; decide]

theorem wp_rounds (c : Dev nD) (Q : PUnit → sProp 𝕄) :
    iprop(world m K ∗ fixed m c ∗ idle m c 0 ∗ idle m c 1 ∗ (∃ X, owns (c : Thread nD τ) partB fullShare X) ∗ Ow c 0
        ∗ (bigSep Finset.univ fun s : Fin 7 => ticket (F := F) c (.inl s)) ∗ (bigSep Finset.univ fun s : Fin 7 => stub (F := F) c (.inl s))
        ∗ ((mid m c 6 ∗ (free (F := F) c (.inl 0) ∗ free (F := F) c (.inl 1) ∗ free (F := F) c (.inl 2) ∗ free (F := F) c (.inl 3) ∗ free (F := F) c (.inl 4) ∗ free (F := F) c (.inl 5))
            ∗ (bigSep Finset.univ fun s : Fin 7 => done (F := F) c (.inl s)) ∗ (∃ X, owns (c : Thread nD τ) partB fullShare X)) -∗ Q ⟨⟩))
      ⊢ WP c (rounds c) Q := by
  have eR : iprop(∃ X, owns (c : Thread nD τ) partB fullShare X) = iprop(((rowE (F := F) c 0 ∗ rowE (F := F) c 1 ∗ rowE (F := F) c 2 ∗ rowE (F := F) c 3) ∗ (rowE (F := F) c 6 ∗ rowE (F := F) c 5 ∗ rowE (F := F) c 4)) ∗ rowE (F := F) c 7) :=
    (part_cut (F := F) c).trans (chunkList c fun k => iprop(∃ X, owns (c : Thread nD τ) (rowV k) fullShare X))
  have eO : ∀ j, rowO m c j ⊢ rowE (F := F) c j := fun j => by
    unfold rowO rowE
    iintro H; iexists _; iexact H
  rw [eR]
  simp only [hopList]
  unfold rounds WP
  rw [wp_bind]
  iintro ⟨#Hw, Hf, HI0, HI1, ⟨⟨⟨R0, R1, R2, R3⟩, R6, R5, R4⟩, R7⟩, HO, ⟨T0, T1, T2, T3, T4, T5, T6⟩, ⟨S0, S1, S2, S3, S4, S5, S6⟩, Hk⟩
  iapply (wp_issue m c 0 0)
  isplitl [HI0]; · iexact HI0
  iintro HF0
  rw [wp_bind]
  iapply (wp_issue m c 1 1)
  isplitl [HI1]; · iexact HI1
  iintro HF1
  rw [wp_bind]
  iapply (wp_chunk m K c 0 0 0)
  isplitr; · iexact Hw
  isplitl [Hf]; · iexact Hf
  isplitl [HF0]; · iexact HF0
  isplitl [R0]; · iexact R0
  isplitl [HO]; · iexact HO
  iintro ⟨Hf, HI0, R0, HO⟩
  rw [wp_bind]
  iapply (wp_send0 m K c)
  isplitr; · iexact Hw
  isplitl [R0]; · iapply (show rowO m c 0 ⊢ sndPay m c (.inl 0) from Entails.of_eq (row0 m c).symm); iexact R0
  isplitl [T0]; · iexact T0
  isplitl [HO]; · iexact HO
  iintro ⟨Hs, HO⟩
  rw [wp_bind]
  iapply (wp_issue m c 2 0)
  isplitl [HI0]; · iexact HI0
  iintro HF0
  rw [wp_bind]
  iapply (wp_chunk m K c 1 1 1)
  isplitr; · iexact Hw
  isplitl [Hf]; · iexact Hf
  isplitl [HF1]; · iexact HF1
  isplitl [R1]; · iexact R1
  isplitl [HO]; · iexact HO
  iintro ⟨Hf, HI1, R1, HO⟩
  rw [wp_bind]
  iapply (wp_wait0 m K c 1 (by decide))
  isplitr; · iexact Hw
  isplitl [S0]; · iexact S0
  isplitl [Hs]; · iexact Hs
  isplitl [HO]; · iexact HO
  unfold back3
  iintro ⟨R0, Hr, D0, HO⟩
  rw [wp_bind]
  iapply (wp_addHop m c 0)
  isplitl [Hr]; · unfold rcvPay; iexact Hr
  isplitl [R1]; · iexact R1
  iintro ⟨Hr, R1⟩
  ihave HM := (mid_start m c) $$ [Hf Hr HO HI1 HF0]
  · isplitl [Hf]; · iexact Hf
    isplitl [Hr]; · iexact Hr
    isplitl [HO]; · iexact HO
    isplitl [HI1]; · iexact HI1
    iexact HF0
  rw [wp_bind]
  iapply (mid_hop m K c 0 0 1 2 rfl rfl rfl)
  isplitr; · iexact Hw
  isplitl [HM]; · iexact HM
  isplitl [T1]; · iexact T1
  isplitl [S1]; · iexact S1
  isplitl [R2]; · iexact R2
  iintro ⟨HM, A0, D1, R2⟩
  rw [wp_bind]
  iapply (mid_hop m K c 1 1 2 3 rfl rfl rfl)
  isplitr; · iexact Hw
  isplitl [HM]; · iexact HM
  isplitl [T2]; · iexact T2
  isplitl [S2]; · iexact S2
  isplitl [R3]; · iexact R3
  iintro ⟨HM, A1, D2, R3⟩
  rw [wp_bind]
  iapply (mid_hop m K c 2 2 3 4 rfl rfl rfl)
  isplitr; · iexact Hw
  isplitl [HM]; · iexact HM
  isplitl [T3]; · iexact T3
  isplitl [S3]; · iexact S3
  isplitl [R4]; · iexact R4
  iintro ⟨HM, A2, D3, R4⟩
  rw [wp_bind]
  iapply (mid_hop m K c 3 3 4 5 rfl rfl rfl)
  isplitr; · iexact Hw
  isplitl [HM]; · iexact HM
  isplitl [T4]; · iexact T4
  isplitl [S4]; · iexact S4
  isplitl [R5]; · iexact R5
  iintro ⟨HM, A3, D4, R5⟩
  rw [wp_bind]
  iapply (mid_hop m K c 4 4 5 6 rfl rfl rfl)
  isplitr; · iexact Hw
  isplitl [HM]; · iexact HM
  isplitl [T5]; · iexact T5
  isplitl [S5]; · iexact S5
  isplitl [R6]; · iexact R6
  iintro ⟨HM, A4, D5, R6⟩
  iapply (mid_hop m K c 5 5 6 7 rfl rfl rfl)
  isplitr; · iexact Hw
  isplitl [HM]; · iexact HM
  isplitl [T6]; · iexact T6
  isplitl [S6]; · iexact S6
  isplitl [R7]; · iexact R7
  iintro ⟨HM, A5, D6, R7⟩
  iapply Hk
  isplitl [HM]; · iexact HM
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [D0 D1 D2 D3 D4 D5 D6]
  · isplitl [D0]; · iexact D0
    isplitl [D1]; · iexact D1
    isplitl [D2]; · iexact D2
    isplitl [D3]; · iexact D3
    isplitl [D4]; · iexact D4
    isplitl [D5]; · iexact D5
    iexact D6
  isplitr [R7]
  · isplitl [R0 R1 R2 R3]
    · isplitl [R0]; · iapply (show sndPay m c (.inl 0) ⊢ rowE (F := F) c 0 from (Entails.of_eq (row0 m c)).trans (eO 0)); iexact R0
      isplitl [R1]; · iapply (eO 1); iexact R1
      isplitl [R2]; · iapply (eO 2); iexact R2
      iapply (eO 3); iexact R3
    isplitl [R6]; · iapply (eO 6); iexact R6
    isplitl [R5]; · iapply (eO 5); iexact R5
    iapply (eO 4); iexact R4
  iapply (eO 7); iexact R7

/-! ## The gather -/

theorem got_ex (c : Dev nD) (k : Fin 8) : got m c k ⊢ (iprop(∃ X, owns (c : Thread nD τ) (agV k) fullShare X) : sProp 𝕄) := by
  unfold got
  iintro H; iexists _; iexact H

theorem wp_gather (c : Dev nD) (Q : PUnit → sProp 𝕄) :
    iprop(world m K ∗ owns (c : Thread nD τ) (commV 6) fullShare (acc m 7 c) ∗ (∃ X, owns (c : Thread nD τ) (agV (sh c 1)) fullShare X)
        ∗ (∃ X, owns (c : Thread nD τ) outB fullShare X) ∗ Ow c 7
        ∗ ((ticket (F := F) c (.inr (.inl 0)) ∗ ticket (F := F) c (.inr (.inl 1)) ∗ ticket (F := F) c (.inr (.inl 2)) ∗ ticket (F := F) c (.inr (.inl 3)))
          ∗ (ticket (F := F) c (.inr (.inr 0)) ∗ ticket (F := F) c (.inr (.inr 1)) ∗ ticket (F := F) c (.inr (.inr 2))))
        ∗ ((stub (F := F) c (.inr (.inl 0)) ∗ stub (F := F) c (.inr (.inl 1)) ∗ stub (F := F) c (.inr (.inl 2)) ∗ stub (F := F) c (.inr (.inl 3)))
          ∗ (stub (F := F) c (.inr (.inr 0)) ∗ stub (F := F) c (.inr (.inr 1)) ∗ stub (F := F) c (.inr (.inr 2))))
        ∗ ((owns (c : Thread nD τ) (commV 6) fullShare (acc m 7 c) ∗ (∃ X, owns (c : Thread nD τ) agB fullShare X) ∗ owns (c : Thread nD τ) outB fullShare (outC m) ∗ Ow c 14
            ∗ (done (F := F) c (.inr (.inl 0)) ∗ done (F := F) c (.inr (.inl 1)) ∗ done (F := F) c (.inr (.inl 2)) ∗ done (F := F) c (.inr (.inl 3)))
            ∗ (done (F := F) c (.inr (.inr 0)) ∗ done (F := F) c (.inr (.inr 1)) ∗ done (F := F) c (.inr (.inr 2)))) -∗ Q ⟨⟩))
      ⊢ WP c (gather c) Q := by
  have eE : iprop(∃ X, owns (c : Thread nD τ) outB fullShare X) = iprop(((outE (F := F) c (sh c 8) ∗ outE (F := F) c (sh c 7) ∗ outE (F := F) c (sh c 6) ∗ outE (F := F) c (sh c 5)) ∗ (outE (F := F) c (sh c 2) ∗ outE (F := F) c (sh c 3) ∗ outE (F := F) c (sh c 4))) ∗ outE (F := F) c (sh c 1)) :=
    (out_cut (F := F) c).trans (chunkList c fun k => outE (F := F) c k)
  have eF : (owns (c : Thread nD τ) outB fullShare (outC m) : sProp 𝕄) = iprop(((outO m c (sh c 8) ∗ outO m c (sh c 7) ∗ outO m c (sh c 6) ∗ outO m c (sh c 5)) ∗ (outO m c (sh c 2) ∗ outO m c (sh c 3) ∗ outO m c (sh c 4))) ∗ outO m c (sh c 1)) :=
    (out_at (F := F) c m).trans (chunkList c fun k => outO m c k)
  rw [eE, eF]
  unfold gather WP
  rw [wp_bind]
  iintro ⟨#Hw, Hs, Hag, ⟨⟨⟨E8, E7, E6, E5⟩, E2, E3, E4⟩, E1⟩, HO, ⟨⟨T0, T1, T2, T3⟩, U0, U1, U2⟩, ⟨⟨S0, S1, S2, S3⟩, V0, V1, V2⟩, Hk⟩
  iapply (wp_ownSlot m c)
  isplitl [Hs]; · iexact Hs
  isplitl [Hag]; · iexact Hag
  iintro ⟨Hs, G1⟩
  rw [wp_bind]
  iapply (wp_first m K c)
  isplitr; · iexact Hw
  isplitl [G1]; · iexact G1
  isplitl [E1]; · iexact E1
  isplitl [T0]; · iexact T0
  isplitl [S0]; · iexact S0
  isplitl [U0]; · iexact U0
  isplitl [V0]; · iexact V0
  isplitl [HO]; · iexact HO
  iintro ⟨F1, G8, G2, D0, B0, HO⟩
  rw [wp_bind]
  iapply (wp_both m K c 0)
  isplitr; · iexact Hw
  isplitl [G8]; · iexact G8
  isplitl [E8]; · iexact E8
  isplitl [G2]; · iexact G2
  isplitl [E2]; · iexact E2
  isplitl [T1]; · iexact T1
  isplitl [S1]; · iexact S1
  isplitl [U1]; · iexact U1
  isplitl [V1]; · iexact V1
  isplitl [HO]; · iexact HO
  iintro ⟨F8, F2, G7, G3, D1, B1, HO⟩
  rw [wp_bind]
  iapply (wp_both m K c 1)
  isplitr; · iexact Hw
  isplitl [G7]; · iexact G7
  isplitl [E7]; · iexact E7
  isplitl [G3]; · iexact G3
  isplitl [E3]; · iexact E3
  isplitl [T2]; · iexact T2
  isplitl [S2]; · iexact S2
  isplitl [U2]; · iexact U2
  isplitl [V2]; · iexact V2
  isplitl [HO]; · iexact HO
  iintro ⟨F7, F3, G6, G4, D2, B2, HO⟩
  iapply (wp_last m K c)
  isplitr; · iexact Hw
  isplitl [G6]; · iexact G6
  isplitl [E6]; · iexact E6
  isplitl [G4]; · iexact G4
  isplitl [E4]; · iexact E4
  isplitl [E5]; · iexact E5
  isplitl [T3]; · iexact T3
  isplitl [S3]; · iexact S3
  isplitl [HO]; · iexact HO
  iintro ⟨F6, F4, F5, D3, HO⟩
  unfold fin
  icases F1 with ⟨G1, E1⟩
  icases F8 with ⟨G8, E8⟩
  icases F7 with ⟨G7, E7⟩
  icases F6 with ⟨G6, E6⟩
  icases F5 with ⟨G5, E5⟩
  icases F2 with ⟨G2, E2⟩
  icases F3 with ⟨G3, E3⟩
  icases F4 with ⟨G4, E4⟩
  iapply Hk
  isplitl [Hs]; · iexact Hs
  isplitl [G1 G2 G3 G4 G5 G6 G7 G8]
  · iapply (show bigSep Finset.univ (got m c) ⊢ (iprop(∃ X, owns (c : Thread nD τ) agB fullShare X) : sProp 𝕄) from (bigSep_mono fun k _ => got_ex m c k).trans (Entails.of_eq (ag_cut (F := F) c).symm))
    iapply (Entails.of_eq (chunkList c (got m c)).symm)
    isplitr [G1]
    · isplitl [G8 G7 G6 G5]
      · isplitl [G8]; · iexact G8
        isplitl [G7]; · iexact G7
        isplitl [G6]; · iexact G6
        iexact G5
      isplitl [G2]; · iexact G2
      isplitl [G3]; · iexact G3
      iexact G4
    iexact G1
  isplitl [E1 E2 E3 E4 E5 E6 E7 E8]
  · isplitr [E1]
    · isplitl [E8 E7 E6 E5]
      · isplitl [E8]; · iexact E8
        isplitl [E7]; · iexact E7
        isplitl [E6]; · iexact E6
        iexact E5
      isplitl [E2]; · iexact E2
      isplitl [E3]; · iexact E3
      iexact E4
    iexact E1
  isplitl [HO]; · iexact HO
  isplitl [D0 D1 D2 D3]
  · isplitl [D0]; · iexact D0
    isplitl [D1]; · iexact D1
    isplitl [D2]; · iexact D2
    iexact D3
  isplitl [B0]; · iexact B0
  isplitl [B1]; · iexact B1
  iexact B2

/-! ## All of it -/

theorem wp_body (c : Dev nD) (Q : PUnit → sProp 𝕄) :
    iprop(world m K ∗ start c ∗ ins m c ∗ (∃ X, owns (c : Thread nD τ) outB fullShare X) ∗ scr c ∗ (idle m c 0 ∗ idle m c 1)
        ∗ ((finish c ∗ ins m c ∗ owns (c : Thread nD τ) outB fullShare (outC m) ∗ scr c ∗ (idle m c 0 ∗ idle m c 1)) -∗ Q ⟨⟩))
      ⊢ WP c body Q := by
  unfold body WP
  simp only [Prog.lift, Prog.bind_op, Prog.bind_ret, wp_deviceId]
  rw [wp_bind]
  unfold scr finish
  iintro ⟨#Hw, Hst, Hin, Hout, ⟨Hctx, Hpart, Hcomm, Hag, Hqb, Hob⟩, ⟨HI0, HI1⟩, Hk⟩
  iapply (wp_opening m K c)
  isplitr; · iexact Hw
  isplitl [Hst]; · iexact Hst
  isplitl [Hin]; · iexact Hin
  isplitl [Hctx]; · iexact Hctx
  isplitl [Hcomm]; · iexact Hcomm
  isplitl [Hag]; · iexact Hag
  isplitl [Hqb]; · iexact Hqb
  isplitl [Hob]; · iexact Hob
  iintro ⟨HT, HS, Hown, Hf, Hq, Ho, Hz, HO⟩
  ihave HT := (show bigSep Finset.univ (ticket (F := F) c) ⊢ _ from Entails.of_eq (xfList (ticket (F := F) c))) $$ HT
  icases HT with ⟨HT, HTg⟩
  ihave HS := (show bigSep Finset.univ (stub (F := F) c) ⊢ _ from Entails.of_eq (xfList (stub (F := F) c))) $$ HS
  icases HS with ⟨HS, HSg⟩
  rw [wp_bind]
  iapply (wp_rounds m K c)
  isplitr; · iexact Hw
  isplitl [Hf]; · iexact Hf
  isplitl [HI0]; · iexact HI0
  isplitl [HI1]; · iexact HI1
  isplitl [Hpart]; · iexact Hpart
  isplitl [HO]; · iexact HO
  isplitl [HT]; · iapply (Entails.of_eq (hopList fun s => ticket (F := F) c (.inl s)).symm); iexact HT
  isplitl [HS]; · iapply (Entails.of_eq (hopList fun s => stub (F := F) c (.inl s)).symm); iexact HS
  iintro ⟨HM, ⟨A0, A1, A2, A3, A4, A5⟩, HD, Hpart⟩
  unfold mid
  rw [if_pos rfl]
  icases HM with ⟨Hf, Hs, HO, HI1, HI0⟩
  iapply (wp_gather m K c)
  isplitr; · iexact Hw
  isplitl [Hs]; · iexact Hs
  isplitl [Hown]; · iexact Hown
  isplitl [Hout]; · iexact Hout
  isplitl [HO]; · iexact HO
  isplitl [HTg]; · iexact HTg
  isplitl [HSg]; · iexact HSg
  iintro ⟨Hs, Hag, Hout, HO, Hd⟩
  unfold fixed
  icases Hf with ⟨Hx, Hqb, Hob, Hctx⟩
  iapply Hk
  isplitl [Hz HD Hd HO]
  · isplitl [Hz]; · iexact Hz
    isplitr [HO]
    · iapply (Entails.of_eq (xfList (done (F := F) c)).symm)
      isplitl [HD]; · iapply (Entails.of_eq (hopList fun s => done (F := F) c (.inl s))); iexact HD
      iexact Hd
    iexact HO
  isplitl [Hx Hq Ho]
  · unfold ins
    isplitl [Hx]; · iexact Hx
    isplitl [Hq]; · iexact Hq
    iexact Ho
  isplitl [Hout]; · iexact Hout
  isplitr [HI0 HI1]
  · isplitl [Hctx]; · iexact Hctx
    isplitl [Hpart]; · iexact Hpart
    isplitl [Hs A0 A1 A2 A3 A4 A5]
    · iapply (Entails.of_eq (comm_cut (F := F) c).symm)
      iapply (Entails.of_eq (hopList fun s => iprop(∃ X, owns (c : Thread nD τ) (commV s) fullShare X)).symm)
      unfold free
      isplitl [A0]; · iexact A0
      isplitl [A1]; · iexact A1
      isplitl [A2]; · iexact A2
      isplitl [A3]; · iexact A3
      isplitl [A4]; · iexact A4
      isplitl [A5]; · iexact A5
      iexists _; iexact Hs
    isplitl [Hag]; · iexact Hag
    isplitl [Hqb]; · iexists _; iexact Hqb
    iexists _; iexact Hob
  isplitl [HI0]; · iexact HI0
  iexact HI1

end Slots

end Cert.KernelIdeal.Ring

end
-- ==== Proof.Ghost.lean ====
/-
  What the launch deals out: the key and value arrays in shares, the cells' invariants, the tokens to the devices that
  use them, and the credits.
-/
module

public import proofs.«01_k».proof.Proof.Body
public import proofs.«01_k».proof.Proof.Gen.KernelIdeal.Launch

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The windows at rest, together -/

abbrev KV : Type := Fin 2 × Fin 2 × Fin 8

/-- A window's number among the sixteen of an array. -/
def leafOf (p : Fin 2 × Fin 8) : Fin (2 ^ 4) := ⟨8 * p.1.val + p.2.val, by have := p.1.isLt; have := p.2.isLt; omega⟩
theorem leafOf_bij : Function.Bijective leafOf := by decide +kernel

/-- Buffer, array, window listed with the array first. -/
def arrayFirst : Fin 2 × Fin 2 × Fin 8 ≃ Fin 2 × Fin 2 × Fin 8 :=
  ⟨fun k => (k.2.1, k.1, k.2.2), fun k => (k.2.1, k.1, k.2.2), fun _ => rfl, fun _ => rfl⟩

/-- An array at the share the copies read it at. -/
def src (c : Dev nD) (e : Fin 2) : sProp 𝕄 := (srcB e).view.loc (c : Thread nD τ) ↦{fullShare.left} m ((srcB e).view.loc (c : Thread nD τ))

theorem src_eq (c : Dev nD) (e : Fin 2) : src m c e = bigSep Finset.univ fun p : Fin 2 × Fin 8 => srcPts m c p.1 e p.2 Finset.univ := by
  unfold src
  rw [ShareLeaves.pointsTo_leaves Finset.univ (m ((srcB e).view.loc (c : Thread nD τ))) 4 fullShare.left,
    bigSep_univ_equiv (Equiv.ofBijective leafOf leafOf_bij)]
  exact bigSep_congr fun p _ => rfl

theorem srcs_eq (c : Dev nD) : (bigSep Finset.univ fun k : KV => srcPts m c k.1 k.2.1 k.2.2 Finset.univ) = iprop(src m c 0 ∗ src m c 1) := by
  rw [bigSep_univ_equiv arrayFirst, bigSep_univ_prod, bigSep_univ_two, src_eq, src_eq]
  rfl

def kvSem (c : Dev nD) : sProp 𝕄 := bigSep Finset.univ fun k : KV => semVal ((c : Thread nD τ), SemLoc.dma (kvS k.1 k.2.1 k.2.2)) 0

/-- All windows at rest: the buffer, the semaphores at zero, the two arrays. -/
theorem idles (c : Dev nD) : iprop(idle m c 0 ∗ idle m c 1)
    = iprop((∃ X, owns (c : Thread nD τ) kvB fullShare X) ∗ kvSem c ∗ src m c 0 ∗ src m c 1) := by
  have h : (bigSep Finset.univ fun k : KV => kvIdle1 m c k.1 k.2.1 k.2.2) = iprop(idle m c 0 ∗ idle m c 1) := by
    rw [bigSep_univ_prod, bigSep_univ_two]
    have hd (d : Fin 2) : (bigSep Finset.univ fun b : Fin 2 × Fin 8 => kvIdle1 m c (d, b).1 (d, b).2.1 (d, b).2.2) = idle m c d := by
      rw [bigSep_univ_prod, bigSep_univ_two]
      exact (bigSep_sep' _ _ _).symm
    rw [hd, hd]
  rw [← h, ← srcs_eq, kv_cut, kvSem, ← bigSep_sep', ← bigSep_sep']
  rfl

/-! ## The cells and the tokens -/

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_inj⟩

/-- A device's duties: its barrier's two, and each transfer cell's one. -/
abbrev TK : Type := Bool ⊕ (Bool × Xf)
def tokOf : Dev nD × TK → GSem nD τ sig × ℕ × Bool
  | (c, .inl b) => (barCell c, 0, b)
  | (c, .inr y) => (kcell (c, some y), 0, false)
theorem tokOf_inj : Function.Injective tokOf := by
  rintro ⟨c, b | y⟩ ⟨c', b' | y'⟩ h
  · have h1 := congrArg Prod.fst (kcell_inj (congrArg Prod.fst h))
    have h2 : b = b' := congrArg (fun x : GSem nD τ sig × ℕ × Bool => x.2.2) h
    rw [show c = c' from h1, h2]
  · exact absurd (congrArg Prod.snd (kcell_inj (congrArg Prod.fst h))) (by simp)
  · exact absurd (congrArg Prod.snd (kcell_inj (congrArg Prod.fst h))) (by simp)
  · have h1 := kcell_inj (congrArg Prod.fst h)
    have h2 : c = c' := congrArg Prod.fst h1
    have h3 : some y = some y' := congrArg Prod.snd h1
    rw [h2, Option.some.inj h3]
def ringToks : Finset (GSem nD τ sig × ℕ × Bool) := Finset.univ.map ⟨tokOf, tokOf_inj⟩

/-- The tokens of device `c`'s own cells, -/
def toks (c : Dev nD) : sProp 𝕄 :=
  iprop((dutyTok ER (barCell c) 0 false ∗ dutyTok ER (barCell c) 0 true)
    ∗ bigSep Finset.univ fun y : Bool × Xf => dutyTok ER (kcell (c, some y)) 0 false)
/-- and those it uses. -/
def payToks (c : Dev nD) : sProp 𝕄 :=
  iprop((dutyTok ER (barCell (prv c)) 0 false ∗ dutyTok ER (barCell (nxt c)) 0 true) ∗ bigSep Finset.univ (tok (F := F) c))

def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL [false, true] (by decide) (by decide), bigSepL_cons_cons, bigSepL_singleton]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the transfers' and the windows'. -/
def osem : (Bool × Xf) ⊕ KV → SemLoc sig
  | .inl y => csem (some y)
  | .inr k => .dma (kvS k.1 k.2.1 k.2.2)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun y : Bool × Xf => semVal (kcell (c, some y)) 0) ∗ kvSem c) := by
  unfold Pipeline.ownSems0
  rw [bigSep_univ_sum]
  rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells: the barrier and the others. -/
def cellSum : Unit ⊕ (Bool × Xf) ≃ CK :=
  ⟨fun | .inl _ => none | .inr y => some y, fun | none => .inl () | some y => .inr y, fun x => by rcases x with _ | _ <;> rfl, fun x => by rcases x with _ | _ <;> rfl⟩
theorem cells_eq (Φ : CK → sProp 𝕄) : bigSep Finset.univ Φ = iprop(Φ none ∗ bigSep Finset.univ fun y : Bool × Xf => Φ (some y)) := by
  rw [bigSep_univ_equiv cellSum, bigSep_univ_sum, bigSep_univ_of_subsingleton ()]
  rfl
/-- Sending and landing cells. -/
theorem ways_eq (Φ : Bool × Xf → sProp 𝕄) : bigSep Finset.univ Φ = iprop(bigSep Finset.univ fun x : Xf => iprop(Φ (false, x) ∗ Φ (true, x))) := by
  rw [bigSep_univ_prod, bigSep_univ_eq_bigSepL [false, true] (by decide) (by decide), bigSepL_cons_cons, bigSepL_singleton, bigSep_sep']
  rfl

/-! ## The invariants, and the tokens dealt -/

def facts (K : Dev nD × CK → ℕ) : sProp 𝕄 :=
  bigSep Finset.univ fun p : Dev nD × CK => iprop(cellInv ER (Rd m) (K p) (kcell p) ∗ reached ER (kcell p) 0)
instance facts_persistent (K : Dev nD × CK → ℕ) : BI.Persistent (facts (F := F) m K) := by unfold facts; infer_instance

def linear (c : Dev nD) : sProp 𝕄 := iprop((bigSep Finset.univ fun k : CK => atPos ER (kcell (c, k)) 0 ∅ 0) ∗ payToks c)
def G' (c : Dev nD) : sProp 𝕄 := iprop((∃ K, facts m K) ∗ linear c ∗ kvSem c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ kvSem c) := by
  rw [ownSems0_eq, unscopedSems0_eq]
  unfold G
  iintro ⟨⟨Hy, Hkv⟩, Hb, Hst, Hat, Htok⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hy Hb Hst] with Hinv
  · isplitr [Hst]
    · iapply (Entails.of_eq (cells_eq (F := F) fun k => semVal (kcell (c, k)) 0).symm)
      isplitl [Hb]; · iexact Hb
      iexact Hy
    iexact Hst
  imodintro
  isplitl [Hinv]; · iexact Hinv
  isplitl [Hat]; · iexact Hat
  isplitl [Htok]; · iexact Htok
  iexact Hkv

/-- A transfer and the device it goes to. -/
def dest : Dev nD × Xf ≃ Dev nD × Xf :=
  ⟨fun p => (peer p.1 p.2, p.2), fun p => (from_ p.1 p.2, p.2), fun p => Prod.ext (from_peer p.1 p.2) rfl, fun p => Prod.ext (peer_from p.1 p.2) rfl⟩

theorem toks_around : (bigSep Finset.univ fun c : Dev nD => (toks c : sProp 𝕄)) ⊢ bigSep Finset.univ fun c : Dev nD => payToks c := by
  have hx : (bigSep Finset.univ fun c : Dev nD => bigSep Finset.univ fun y : Bool × Xf => (dutyTok ER (kcell (c, some y)) 0 false : sProp 𝕄))
      = bigSep Finset.univ fun c : Dev nD => bigSep Finset.univ (tok (F := F) c) := by
    rw [bigSep_congr (s := Finset.univ) (fun (c : Dev nD) _ => ways_eq (F := F) fun y => dutyTok ER (kcell (c, some y)) 0 false),
      ← bigSep_univ_prod (fun p : Dev nD × Xf => (iprop(dutyTok ER (sndCell p.1 p.2) 0 false ∗ dutyTok ER (rcvCell p.1 p.2) 0 false) : sProp 𝕄)),
      ← bigSep_univ_prod (fun p : Dev nD × Xf => tok (F := F) p.1 p.2), bigSep_sep',
      bigSep_univ_equiv dest (fun p : Dev nD × Xf => (dutyTok ER (rcvCell p.1 p.2) 0 false : sProp 𝕄)), ← bigSep_sep']
    rfl
  unfold toks payToks
  rw [bigSep_sep', bigSep_sep', bigSep_sep', bigSep_sep', hx,
    bigSep_univ_equiv ring.symm (fun c : Dev nD => (dutyTok ER (barCell c) 0 false : sProp 𝕄)),
    bigSep_univ_equiv ring (fun c : Dev nD => (dutyTok ER (barCell c) 0 true : sProp 𝕄))]
  iintro ⟨⟨H1, H2⟩, H3⟩
  isplitr [H3]
  · isplitl [H1]; · iexact H1
    iexact H2
  iexact H3

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ kvSem c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hkv⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_persistent (R := facts m K) (Φ := fun c => iprop(linear c ∗ kvSem c)) fun c _ => by
    unfold G'; iintro ⟨H, Hl⟩
    isplitl [H]; · (iexists K; iexact H)
    iexact Hl)
  isplitr
  · unfold facts; rw [bigSep_sep']
    isplitl; · iexact HI
    iexact HR
  · rw [bigSep_sep']
    unfold linear; rw [bigSep_sep']
    isplitr [Hkv]
    · isplitl [Hat] <;> iassumption
    iexact Hkv

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem owed_bar (d c : Dev nD) : O₀ d (barCell c) () = (if d = prv c then 1 else 0) + (if d = nxt c then 1 else 0) := by
  have h0 : todo d 0 (barCell c) () = 0 := by
    by_contra h
    obtain ⟨x, -, e⟩ := todo_pos (Nat.pos_of_ne_zero h)
    exact absurd (congrArg Prod.snd (kcell_inj e)) (by simp)
  unfold O₀ O₁
  rw [Pi.add_apply, Finsupp.add_apply, Pi.add_apply, Finsupp.add_apply, h0, tallyAt_apply, tallyAt_apply, Nat.zero_add]
  refine congrArg₂ Nat.add ?_ ?_
  · by_cases h : d = prv c
    · subst h; rw [nxt_prv, if_pos ⟨rfl, rfl⟩, if_pos rfl]
    · rw [if_neg (fun ⟨h1, _⟩ => h (by rw [← prv_nxt d]; exact congrArg prv (congrArg Prod.fst (kcell_inj h1)).symm)), if_neg h]
  · by_cases h : d = nxt c
    · subst h; rw [prv_nxt, if_pos ⟨rfl, rfl⟩, if_pos rfl]
    · rw [if_neg (fun ⟨h1, _⟩ => h (by rw [← nxt_prv d]; exact congrArg nxt (congrArg Prod.fst (kcell_inj h1)).symm)), if_neg h]

theorem owed_rcv (d c : Dev nD) (x : Xf) : O₀ d (rcvCell c x) () = if d = from_ c x then N else 0 := by
  have hb (a : Dev nD) : ¬ (rcvCell c x = barCell a ∧ () = ()) := fun h => absurd (congrArg Prod.snd (kcell_inj h.1)) (by simp)
  unfold O₀ O₁
  rw [Pi.add_apply, Finsupp.add_apply, Pi.add_apply, Finsupp.add_apply, tallyAt_apply, tallyAt_apply, if_neg (hb _), if_neg (hb _), Nat.add_zero]
  unfold todo
  rw [Finset.sum_apply, Finsupp.finset_sum_apply, Finset.filter_true_of_mem (fun y _ => Nat.zero_le _)]
  have hy : ∀ y ∈ Finset.univ, y ≠ x → tallyAt (rcvCell (peer d y) y) () N (rcvCell c x) () = 0 := fun y _ hne => by
    rw [tallyAt_apply]
    exact if_neg fun h => hne (by
      have h2 : some (true, x) = some (true, y) := congrArg Prod.snd (kcell_inj h.1)
      exact (congrArg Prod.snd (Option.some.inj h2)).symm)
  rw [Finset.sum_eq_single x hy (fun h => absurd (Finset.mem_univ x) h), tallyAt_apply]
  by_cases h : d = from_ c x
  · subst h; rw [peer_from, if_pos ⟨rfl, rfl⟩, if_pos rfl]
  · rw [if_neg (fun ⟨h1, _⟩ => h (by rw [← from_peer d x]; exact congrArg (from_ · x) (congrArg Prod.fst (kcell_inj h1)).symm)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rcv (c : Dev nD) (x : Xf) :
    tallyOn (rcvCell c x) (launchCredit (Pipeline.owing O₀) 0 (rcvCell c x)) = (tallyAt (rcvCell c x) () N : CellTallies nD τ sig Unit) := by
  unfold tallyAt; refine congrArg _ (Finsupp.ext fun u => ?_); cases u
  rw [Pipeline.launchCredit_owing, Finsupp.single_eq_same, Finset.sum_congr rfl fun d _ => owed_rcv d c x, Finset.sum_ite_eq' Finset.univ (from_ c x) fun _ => N,
    if_pos (Finset.mem_univ _)]

/-- The cells that others pay. -/
def paid : Unit ⊕ Xf → SemLoc sig
  | .inl _ => csem none
  | .inr x => csem (some (true, x))
theorem paid_inj : Function.Injective paid := by decide +kernel

theorem creds (c : Dev nD) :
    (Pipeline.launchCred O₀ c : sProp 𝕄) ⊢ iprop(cred (tallyAt (barCell c) () 2) ∗ bigSep Finset.univ fun x : Xf => cred (tallyAt (rcvCell c x) () N)) := by
  unfold Pipeline.launchCred
  have h : (bigSep (Finset.univ.map ⟨paid, paid_inj⟩) fun sm => (cred (tallyOn ((c : Thread nD τ), sm) (launchCredit (Pipeline.owing O₀) 0 ((c : Thread nD τ), sm))) : sProp 𝕄))
      = iprop(cred (tallyAt (barCell c) () 2) ∗ bigSep Finset.univ fun x : Xf => cred (tallyAt (rcvCell c x) () N)) := by
    rw [bigSep_map, bigSep_univ_sum, bigSep_univ_of_subsingleton ()]
    exact congrArg₂ BI.sep (congrArg cred (launch_bar c)) (bigSep_congr fun x _ => congrArg cred (launch_rcv c x))
  rw [← h]
  exact bigSep_subset (Finset.subset_univ _)

end Cert.KernelIdeal.Ring

end
-- ==== Proof.Launch.lean ====
/-
  The launch: the kernel run on all eight devices from any memory.
-/
module

public import proofs.«01_k».proof.Proof.Ghost
public import Idealize.ShloMosaic.Lib.Pipeline.CollectiveSegs

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable [∀ e, Nonempty (Elt F e)]

/-! ## The invariant of the one point, and the buffers -/

theorem ex_whole (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

/-- The scratch buffers. -/
def scratch (c : Dev nD) : sProp 𝕄 := iprop(scr c ∗ ∃ X, owns (c : Thread nD τ) kvB fullShare X)

theorem scratch_eq (c : Dev nD) : (Pipeline.scopedRest (Ix := Unit) (Name := ℕ) (U := UU) (Lvl := ℕ) (Val := Elt F) cfg0.spec c : sProp 𝕄) = scratch c := by
  rw [show (Pipeline.scopedRest (Ix := Unit) (Name := ℕ) (U := UU) (Lvl := ℕ) (Val := Elt F) cfg0.spec c : sProp 𝕄) = _ from scopedRest0_eq c]
  simp only [ex_whole]
  unfold scratch scr
  refine BI.equiv_iff.mp ⟨?_, ?_⟩
  · show (_ : sProp 𝕄) ⊢ _
    iintro ⟨H0, H1, H2, H3, H4, H5, H6⟩
    isplitr [H6]
    · isplitl [H0]; · iexact H0
      isplitl [H1]; · iexact H1
      isplitl [H2]; · iexact H2
      isplitl [H3]; · iexact H3
      isplitl [H4]; · iexact H4
      iexact H5
    iexact H6
  · show (_ : sProp 𝕄) ⊢ _
    iintro ⟨⟨H0, H1, H2, H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

/-- What the launch hands a device besides the scratch: the protocol's part, the windows' semaphores, the shares of the arrays. -/
def entry (c : Dev nD) : sProp 𝕄 :=
  iprop((∃ K, world m K)
    ∗ ((dutyTok ER (barCell (prv c)) 0 false ∗ dutyTok ER (barCell (nxt c)) 0 true)
      ∗ (atPos ER (barCell c) 0 ∅ 0 ∗ cred (tallyAt (barCell c) () 2)) ∗ bigSep Finset.univ (tok (F := F) c) ∗ bigSep Finset.univ (stub (F := F) c))
    ∗ kvSem c ∗ src m c 0 ∗ src m c 1)
def Φ₀ (c : Dev nD) : sProp 𝕄 := iprop(entry m c ∗ scratch c)
def Φ₁ (c : Dev nD) : sProp 𝕄 := iprop(semVal (barCell c) 0 ∗ (bigSep Finset.univ (done (F := F) c) ∗ kvSem c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => woC m c
    | ⟨3, _⟩ => outC m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

def bodyPre (c : Dev nD) : sProp 𝕄 :=
  iprop(Φ₀ m c ∗ (dats m ρ 0 c).owesAt () t0_0.castSucc
    ∗ (∃ d, owns (c : Thread nD τ) xB fullShare ((dats m ρ 0 c).before (0 : Fin 4) t0_0 d))
    ∗ (∃ d, owns (c : Thread nD τ) wqB fullShare ((dats m ρ 0 c).before (1 : Fin 4) t0_0 d))
    ∗ (∃ d, owns (c : Thread nD τ) woB fullShare ((dats m ρ 0 c).before (2 : Fin 4) t0_0 d))
    ∗ (∃ d, owns (c : Thread nD τ) outB fullShare ((dats m ρ 0 c).before (3 : Fin 4) t0_0 d)))
def bodyPost (c : Dev nD) : sProp 𝕄 :=
  iprop(Φ₁ (F := F) c ∗ (dats m ρ 0 c).owesAt () t0_0.succ
    ∗ owns (c : Thread nD τ) xB fullShare (xC m c) ∗ owns (c : Thread nD τ) wqB fullShare (wqC m c)
    ∗ owns (c : Thread nD τ) woB fullShare (woC m c) ∗ owns (c : Thread nD τ) outB fullShare (outC m))

theorem before_0 (c : Dev nD) (d) : (dats m ρ 0 c).before (0 : Fin 4) t0_0 d = xC m c := by
  rw [(dats m ρ 0 c).before_fetched (0 : Fin 4) t0_0 (fetch0_0 t0_0)]; rfl
theorem before_1 (c : Dev nD) (d) : (dats m ρ 0 c).before (1 : Fin 4) t0_0 d = wqC m c := by
  rw [(dats m ρ 0 c).before_fetched (1 : Fin 4) t0_0 (fetch0_1 t0_0)]; rfl
theorem before_2 (c : Dev nD) (d) : (dats m ρ 0 c).before (2 : Fin 4) t0_0 d = woC m c := by
  rw [(dats m ρ 0 c).before_fetched (2 : Fin 4) t0_0 (fetch0_2 t0_0)]; rfl

theorem wp_point (c : Dev nD) : bodyPre m ρ c ⊢ WP c body (fun _ => bodyPost m ρ c) := by
  unfold bodyPre Φ₀ entry scratch
  simp only [before_0, before_1, before_2]
  iintro ⟨⟨⟨⟨%K, #Hw⟩, Hst, Hkv, Hs0, Hs1⟩, Hscr, Hbuf⟩, Ho, ⟨%d0, Hx⟩, ⟨%d1, Hq⟩, ⟨%d2, Hwo⟩, ⟨%d3, Hout⟩⟩
  unfold Dat.owesAt Pipeline.owesWithin
  icases Ho with ⟨%W, -, HO⟩
  ihave HI := (Entails.of_eq (idles m c).symm) $$ [Hbuf Hkv Hs0 Hs1]
  · isplitl [Hbuf]; · iexact Hbuf
    isplitl [Hkv]; · iexact Hkv
    isplitl [Hs0] <;> iassumption
  iapply (wp_body m K c)
  isplitr; · iexact Hw
  isplitl [Hst HO]
  · unfold start
    isplitl [HO]; · (iexists W; iexact HO)
    iexact Hst
  isplitl [Hx Hq Hwo]
  · unfold ins
    isplitl [Hx]; · iexact Hx
    isplitl [Hq] <;> iassumption
  isplitl [Hout]; · (iexists _; iexact Hout)
  isplitl [Hscr]; · iexact Hscr
  isplitl [HI]; · iexact HI
  iintro ⟨Hfin, Hin, Hout, Hscr, HI⟩
  unfold finish ins
  icases Hfin with ⟨Hb, Hd, HO⟩
  icases Hin with ⟨Hx, Hq, Hwo⟩
  ihave HI := (Entails.of_eq (idles m c)) $$ HI
  icases HI with ⟨Hbuf, Hkv, -⟩
  unfold bodyPost Φ₁ scratch
  isplitr [HO Hx Hq Hwo Hout]
  · isplitl [Hb]; · iexact Hb
    isplitl [Hd Hkv]
    · isplitl [Hd] <;> iassumption
    isplitl [Hscr] <;> iassumption
  isplitl [HO]
  · unfold Ow Dat.owesAt Pipeline.owesWithin
    rw [todo_end, show (dats m ρ 0 c).owed t0_0.succ = 0 from rfl]
    icases HO with ⟨%W', HO⟩
    iexists W'
    isplitr; · (ipureintro; exact fun _ _ => Or.inl trivial)
    iexact HO
  isplitl [Hx]; · iexact Hx
  isplitl [Hq]; · iexact Hq
  isplitl [Hwo]; · iexact Hwo
  iexact Hout

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 40000 in
theorem body_obligation (c : Dev nD) : BodyObligation (dats (F := F) m ρ 0 c) (defs₀ (F := F)) 𝒱₀ () Set.univ := fun t => by
  rw [fin_N0 t]
  rw [bigSep_W, bigSep_W]
  have h := wp_point m ρ c
  rw [← body_eq t0_0] at h
  show bodyPre m ρ c ⊢ wp frame (wpE (defs₀ (F := F)) 𝒱₀ c none) Set.univ (bodyAt0 t0_0) (fun _ => bodyPost m ρ c)
  exact h

/-! ## The launch theorem's side conditions -/

theorem share_eq (c : Dev nD) (w : Fin cfg0.W) : (dats m ρ 0 c).share w = fullShare := by unfold Dat.share; split <;> rfl

/-- The half of the arrays the body does not need. -/
def kept (c : Dev nD) : sProp 𝕄 :=
  iprop((((c : Thread nD τ).loc main_arg2) ↦{fullShare.right} m ((c : Thread nD τ).loc main_arg2)) ∗ (((c : Thread nD τ).loc main_arg3) ↦{fullShare.right} m ((c : Thread nD τ).loc main_arg3)))

theorem stubs (c : Dev nD) : iprop((bigSep Finset.univ fun k : CK => atPos ER (kcell (c, k)) 0 ∅ 0) ∗ bigSep Finset.univ fun x : Xf => cred (tallyAt (rcvCell c x) () N))
    ⊢ (iprop(atPos ER (barCell c) 0 ∅ 0 ∗ bigSep Finset.univ (stub (F := F) c)) : sProp 𝕄) := by
  rw [cells_eq, ways_eq]
  iintro ⟨⟨Hb, Hy⟩, Hc⟩
  isplitl [Hb]; · iexact Hb
  iapply (show iprop((bigSep Finset.univ fun x : Xf => iprop(atPos ER (sndCell c x) 0 ∅ 0 ∗ atPos ER (rcvCell c x) 0 ∅ 0)) ∗ bigSep Finset.univ fun x : Xf => cred (tallyAt (rcvCell c x) () N))
      ⊢ (bigSep Finset.univ (stub (F := F) c) : sProp 𝕄) from by
    rw [← bigSep_sep']
    refine bigSep_mono fun x _ => ?_
    unfold stub
    show (_ : sProp 𝕄) ⊢ _
    iintro ⟨⟨H1, H2⟩, H3⟩
    isplitl [H1]; · iexact H1
    isplitl [H2] <;> iassumption)
  isplitl [Hy] <;> iassumption

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ kept m c) := by
  rw [Pipeline.unscopedRestP_none, show (Pipeline.unscopedRest cfg0.spec c (fun b => m ((c : Thread nD τ).loc b)) : sProp 𝕄) = _ from unscopedRest0_eq c _]
  unfold G' linear payToks
  iintro ⟨⟨H2, H3⟩, #Hlev, Hcr, -, ⟨%K, #HK⟩, ⟨Hat, Hbt, Htok⟩, Hkv⟩
  ihave Hc := (creds (F := F) c) $$ Hcr
  icases Hc with ⟨Hcb, Hcx⟩
  ihave Hs := (stubs (F := F) c) $$ [Hat Hcx]
  · isplitl [Hat] <;> iassumption
  icases Hs with ⟨Hab, Hstub⟩
  ihave H2 := (pointsTo_share (PosShare.mem_left_op_right fullShare)).1 $$ H2
  icases H2 with ⟨L2, R2⟩
  ihave H3 := (pointsTo_share (PosShare.mem_left_op_right fullShare)).1 $$ H3
  icases H3 with ⟨L3, R3⟩
  imodintro
  unfold entry kept src
  isplitr [R2 R3]
  · isplitr
    · iexists K; unfold world facts
      isplitl; · iexact HK
      iexact Hlev
    isplitr [Hkv L2 L3]
    · isplitl [Hbt]; · iexact Hbt
      isplitl [Hab Hcb]
      · isplitl [Hab] <;> iassumption
      isplitl [Htok] <;> iassumption
    isplitl [Hkv]; · iexact Hkv
    isplitl [L2]; · iexact L2
    iexact L3
  isplitl [R2] <;> iassumption

theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq, ownSems0_eq, unscopedSems0_eq, ways_eq]
  unfold Φ₁
  iintro ⟨Hb, ⟨Hd, Hkv⟩, Hr⟩
  isplitl [Hb]; · iexact Hb
  isplitl [Hd Hkv]
  · isplitl [Hd]; · iexact Hd
    iexact Hkv
  iexact Hr

theorem stage_free : ∀ (w : Fin 4) (s : Fin (spec0 w).nbuf) (k : CK), csem k ≠ SemLoc.dma ((spec0 w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (by rw [cellOfSem_none (stage_free w s)]; rfl) _ (by
      rcases t with ⟨_ | _, ht⟩
      · exact Or.inl rfl
      · exact Or.inr rfl)

/-! ## The run -/

def u₀ : UU :=
  (initOf (Pipeline.cells cfgs cellOf_inj) (Pipeline.launchToks cfgs cellOf_inj), (initOf ringCells ringToks, (1 : Counters)))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- Read at the end: the arrays the windows are copied from, and the semaphores the launch does not reset. -/
def QY (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

theorem read_end (c : Dev nD) (s' : Phys nD τ sig (Elt F)) :
    iprop(unscopedSems0 c ∗ kept m c ∗ SI s') ⊢ (|={Set.univ}=> iprop(⌜QY m c s'.mem⌝ ∗ SI s') : sProp 𝕄) := by
  unfold kept
  iintro ⟨Hu, ⟨H2, H3⟩, HSI⟩
  icombine HSI H2 gives %h2
  icombine HSI H3 gives %h3
  imod (Pipeline.unscopedSems0_read (X := unscopedSems0 c) (c := c) fupd_intro s') $$ [Hu HSI] with ⟨%h, HSI⟩
  · isplitl [Hu] <;> iassumption
  imodintro
  isplitr
  · ipureintro; exact ⟨⟨Buf.eq_of_forall_mem_univ h2, Buf.eq_of_forall_mem_univ h3⟩, h⟩
  iexact HSI

/-- What a run ends with. -/
def Ends (r : PUnit × MemSt nD τ sig (Elt F)) : Prop :=
  ((∀ c : Dev nD, (∀ w : Fin cfg0.W, r.2.mem ((cfg0.win w).arr.view.loc (c : Thread nD τ)) = (dats m ρ 0 c).arrAt w cfg0.N)
      ∧ (r.2.mem ((c : Thread nD τ).loc main_arg2) = m ((c : Thread nD τ).loc main_arg2) ∧ r.2.mem ((c : Thread nD τ).loc main_arg3) = m ((c : Thread nD τ).loc main_arg3)))
    ∧ r.2.sem = fun _ => 0)

set_option maxRecDepth 40000 in
/-- From any memory with zero counters every weakly fair execution ends, the arrays as the windows leave them. -/
theorem run_ends : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := entry m) (Y := fun c => unscopedSems0 c) (Z := kept m)
    (hX := entry_intro m ρ) (hin := phi0_intro m ρ) (hout := phi1_exit m ρ)
    (QY := QY m)
    (hY := read_end m)
    (hQ := fun _ h hs => ⟨fun c => ⟨(h c).1, (h c).2.2.1⟩, sem_eq_zero hs fun c => (h c).2.2.2⟩)

/-! ## The arrays at the end -/

theorem emb_0 (j : S1x2048x1024.Idx) : ((cfg0.win 0).blk t0_0).view.emb j = j := by
  funext a; apply Fin.ext
  match a with
  | ⟨0, _⟩ => show 0 * 1 + 1 * (j 0).val = (j 0).val; omega
  | ⟨1, _⟩ => show 0 * 2048 + 1 * (j 1).val = (j 1).val; omega
  | ⟨2, _⟩ => show 0 * 1024 + 1 * (j 2).val = (j 2).val; omega
theorem emb_1 (j : S1024x1024.Idx) : ((cfg0.win 1).blk t0_0).view.emb j = j := by
  funext a; apply Fin.ext
  match a with
  | ⟨0, _⟩ => show 0 * 1024 + 1 * (j 0).val = (j 0).val; omega
  | ⟨1, _⟩ => show 0 * 1024 + 1 * (j 1).val = (j 1).val; omega
theorem emb_2 (j : S1024x1024.Idx) : ((cfg0.win 2).blk t0_0).view.emb j = j := by
  funext a; apply Fin.ext
  match a with
  | ⟨0, _⟩ => show 0 * 1024 + 1 * (j 0).val = (j 0).val; omega
  | ⟨1, _⟩ => show 0 * 1024 + 1 * (j 1).val = (j 1).val; omega
theorem emb_3 (j : S1x2048x1024.Idx) : ((cfg0.win 3).blk t0_0).view.emb j = j := by
  funext a; apply Fin.ext
  match a with
  | ⟨0, _⟩ => show 0 * 1 + 1 * (j 0).val = (j 0).val; omega
  | ⟨1, _⟩ => show 0 * 2048 + 1 * (j 1).val = (j 1).val; omega
  | ⟨2, _⟩ => show 0 * 1024 + 1 * (j 2).val = (j 2).val; omega

/-- The staged operands are the whole arrays. -/
theorem xC_eq (c : Dev nD) : xC m c = m ((c : Thread nD τ).loc main_arg0) := by
  funext j; show m ((c : Thread nD τ).loc main_arg0) (((cfg0.win 0).blk t0_0).view.emb j) = _; rw [emb_0]
theorem wqC_eq (c : Dev nD) : wqC m c = m ((c : Thread nD τ).loc main_arg1) := by
  funext j; show m ((c : Thread nD τ).loc main_arg1) (((cfg0.win 1).blk t0_0).view.emb j) = _; rw [emb_1]
theorem woC_eq (c : Dev nD) : woC m c = m ((c : Thread nD τ).loc main_arg4) := by
  funext j; show m ((c : Thread nD τ).loc main_arg4) (((cfg0.win 2).blk t0_0).view.emb j) = _; rw [emb_2]

theorem out_end (c : Dev nD) : (dats m ρ 0 c).arrAt (3 : Fin 4) cfg0.N = outC m := by
  refine (dats m ρ 0 c).arrAt_eq_of_cover (3 : Fin 4) (outC m) (fun t _ => ?_) (fun i => ⟨t0_0, flush0_3 t0_0, ?_⟩)
  · rw [fin_N0 t]
    funext j
    show outC m j = outC m (((cfg0.win 3).blk t0_0).view.emb j)
    rw [emb_3]
  · have h := ((cfg0.win 3).blk t0_0).view.emb_mem_set i
    rwa [emb_3] at h

/-- The run: the result as computed, the arguments unchanged, every counter at zero. -/
theorem run_main : θ_run defs (onTc (τ := τ) (main (F := F))) ⟨m, fun _ => 0, ρ⟩ fun r =>
    (∀ c : Dev nD, r.2.mem ((c.tc : Thread nD τ).loc main_v1) = outC m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun r h => ⟨fun c =>
    ⟨((h.1 c).1 (3 : Fin 4)).trans (out_end m ρ c), ((h.1 c).1 (0 : Fin 4)).trans ((dats m ρ 0 c).arrAt_in (0 : Fin 4) rfl _),
      ((h.1 c).1 (1 : Fin 4)).trans ((dats m ρ 0 c).arrAt_in (1 : Fin 4) rfl _), (h.1 c).2.1, (h.1 c).2.2,
      ((h.1 c).1 (2 : Fin 4)).trans ((dats m ρ 0 c).arrAt_in (2 : Fin 4) rfl _)⟩, h.2⟩) (run_ends m ρ)

end Cert.KernelIdeal.Ring

end
-- ==== Proof.Softmax.lean ====
module

public import Idealize.ShloMosaic.PureOps.Ideal
public import Idealize.ShloMosaic.PureOps.Ideal.Laws

@[expose] public section

/-! The mathematics of a masked softmax over the extended reals, apart from any program: a sum over a window of keys
that holds every unmasked key is the sum over all of them, the shift by the row's maximum cancels, and one division of
the weighted sum is the weighted sum of the divided weights. -/

noncomputable section

namespace Cert.Soft

open Idealize.ShloMosaic

/-- An extended real that is a real number. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (hf : ∀ i, IsReal (f i)) : IsReal (∑ i ∈ s, f i) := by
  choose g hg using hf
  exact ⟨∑ i ∈ s, g i, by rw [coe_sum]; exact Finset.sum_congr rfl fun i _ => hg i⟩

/-- A real number whose magnitude is below infinity. -/
theorem isReal_of_abs {x : EReal} (h : max x (-x) < ⊤) : IsReal x := by
  induction x with
  | bot => simp at h
  | top => simp at h
  | coe r => exact ⟨r, rfl⟩

/-- Scaling the queries' weights scales the scores. -/
theorem score_scale {K D : ℕ} (x : Fin K → EReal) (w : Fin K → Fin D → EReal) (y : Fin D → EReal) (s : EReal)
    (hx : ∀ k, IsReal (x k)) (hw : ∀ k d, IsReal (w k d)) (hy : ∀ d, IsReal (y d)) (hs : IsReal s) :
    ∑ d, (∑ k, x k * (w k d * s)) * y d = (∑ d, (∑ k, x k * w k d) * y d) * s := by
  choose x' hx using hx
  choose w' hw using hw
  choose y' hy using hy
  obtain ⟨s', rfl⟩ := hs
  have key : (∑ d, (∑ k, x' k * (w' k d * s')) * y' d : ℝ) = (∑ d, (∑ k, x' k * w' k d) * y' d) * s' := by
    rw [Finset.sum_mul]
    refine Finset.sum_congr rfl fun d _ => ?_
    rw [Finset.sum_mul, Finset.sum_mul, Finset.sum_mul]
    exact Finset.sum_congr rfl fun k _ => by ring
  have := congrArg (fun r : ℝ => (r : EReal)) key
  simpa only [hx, hw, hy, coe_sum, EReal.coe_mul] using this

/-- Multiplication by a nonnegative real passes through a sum of any extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A window of `W` places at `k0` inside `N`. -/
def wnd {N W : ℕ} (k0 : ℕ) (h : k0 + W ≤ N) (n : Fin W) : Fin N := ⟨k0 + n.val, by have := n.isLt; omega⟩

/-- A sum whose terms vanish outside a window is the window's sum. -/
theorem sum_window {N W : ℕ} (k0 : ℕ) (h : k0 + W ≤ N) (f : Fin N → EReal)
    (hf : ∀ j : Fin N, ¬(k0 ≤ j.val ∧ j.val < k0 + W) → f j = 0) : ∑ n : Fin W, f (wnd k0 h n) = ∑ j, f j := by
  have hinj : Function.Injective (wnd k0 h : Fin W → Fin N) := fun a b hab => by
    have := congrArg Fin.val hab
    simp only [wnd] at this
    exact Fin.ext (by omega)
  refine Finset.sum_of_injOn (wnd k0 h) (fun _ _ _ _ hab => hinj hab) (fun _ _ => Finset.mem_coe.mpr (Finset.mem_univ _))
    (fun j _ hj => hf j fun hw => hj ?_) (fun _ _ => rfl)
  exact ⟨⟨j.val - k0, by omega⟩, Finset.mem_coe.mpr (Finset.mem_univ _), Fin.ext (by simp only [wnd]; omega)⟩

/-- The masked score: the score at an open place, minus infinity elsewhere. -/
def masked {N : ℕ} (S : Fin N → EReal) (M : Fin N → Prop) [DecidablePred M] (j : Fin N) : EReal := if M j then S j else ⊥

/-- The weighted mean of `V` by the exponentials over a window, with one division at the end, is the sum over all places
    with each weight shifted by the row's maximum and divided by the row's sum. -/
theorem softmax_window {N W : ℕ} (k0 : ℕ) (h : k0 + W ≤ N) (S : Fin N → EReal) (hS : ∀ j, IsReal (S j))
    (M : Fin N → Prop) [DecidablePred M] (hM : ∀ j : Fin N, M j → k0 ≤ j.val ∧ j.val < k0 + W) (i : Fin N) (hi : M i)
    (V : Fin N → EReal) :
    (∑ n : Fin W, Ideal.exp (S (wnd k0 h n) + if M (wnd k0 h n) then 0 else ⊥) * V (wnd k0 h n))
        * Ideal.div 1 (∑ n : Fin W, Ideal.exp (S (wnd k0 h n) + if M (wnd k0 h n) then 0 else ⊥))
      = ∑ j, V j * Ideal.div (Ideal.exp (masked S M j - Finset.univ.fold max ⊥ (masked S M)))
          (∑ j', Ideal.exp (masked S M j' - Finset.univ.fold max ⊥ (masked S M))) := by
  choose r hr using hS
  -- the row's maximum is a real number
  obtain ⟨μ, hμ⟩ : IsReal (Finset.univ.fold max ⊥ (masked S M)) := by
    have h1 : ∀ s : Finset (Fin N), s.fold max ⊥ (masked S M) = ⊥ ∨ IsReal (s.fold max ⊥ (masked S M)) := by
      intro s
      induction s using Finset.induction_on with
      | empty => exact .inl rfl
      | insert a s ha ih =>
        rw [Finset.fold_insert ha]
        by_cases hMa : M a
        · have : masked S M a = (r a : EReal) := by rw [masked, if_pos hMa, hr]
          rw [this]
          rcases ih with ih | ⟨q, ih⟩
          · right; rw [ih]; exact ⟨r a, max_eq_left bot_le⟩
          · right; rw [ih]; exact ⟨max (r a) q, (EReal.coe_strictMono.monotone.map_max).symm⟩
        · have : masked S M a = ⊥ := by rw [masked, if_neg hMa]
          rw [this, max_eq_right bot_le]
          exact ih
    rcases h1 Finset.univ with h2 | h2
    · exfalso
      have h3 : masked S M i ≤ Finset.univ.fold max ⊥ (masked S M) :=
        (Finset.le_fold_max (masked S M i)).mpr (.inr ⟨i, Finset.mem_univ i, le_refl _⟩)
      rw [h2, masked, if_pos hi, hr, le_bot_iff] at h3
      exact EReal.coe_ne_bot _ h3
    · exact h2
  -- the real exponentials, zero at the masked places
  let e : Fin N → ℝ := fun j => if M j then Real.exp (r j) else 0
  have he0 : ∀ j, 0 ≤ e j := fun j => by
    show 0 ≤ (if M j then Real.exp (r j) else 0)
    split
    · exact (Real.exp_pos _).le
    · exact le_refl _
  have hk : ∀ j, Ideal.exp (S j + if M j then 0 else ⊥) = (e j : EReal) := fun j => by
    by_cases hj : M j
    · simp only [e, if_pos hj, add_zero, hr, Ideal.exp_coe]
    · simp only [e, if_neg hj, EReal.add_bot, Ideal.exp_bot, EReal.coe_zero]
  have hz : ∀ j, Ideal.exp (masked S M j - Finset.univ.fold max ⊥ (masked S M)) = ((e j * Real.exp (-μ) : ℝ) : EReal) := fun j => by
    rw [hμ]
    by_cases hj : M j
    · simp only [masked, e, if_pos hj, hr]
      rw [← EReal.coe_sub, Ideal.exp_coe, ← Real.exp_add, sub_eq_add_neg]
    · simp only [masked, e, if_neg hj, EReal.bot_sub, Ideal.exp_bot, zero_mul, EReal.coe_zero]
  have hout : ∀ j : Fin N, ¬(k0 ≤ j.val ∧ j.val < k0 + W) → e j = 0 := fun j hj =>
    if_neg fun hMj => hj (hM j hMj)
  have hpos : 0 < ∑ j, e j :=
    Finset.sum_pos' (fun j _ => he0 j) ⟨i, Finset.mem_univ i, by simp only [e, if_pos hi]; exact Real.exp_pos _⟩
  have hs1 : ∑ n : Fin W, (e (wnd k0 h n) : EReal) = ((∑ j, e j : ℝ) : EReal) := by
    rw [coe_sum]
    exact sum_window k0 h (fun j => (e j : EReal)) fun j hj => by rw [hout j hj, EReal.coe_zero]
  have hs2 : ∑ n : Fin W, (e (wnd k0 h n) : EReal) * V (wnd k0 h n) = ∑ j, (e j : EReal) * V j :=
    sum_window k0 h (fun j => (e j : EReal) * V j) fun j hj => by rw [hout j hj, EReal.coe_zero, zero_mul]
  have hne : (∑ j, e j * Real.exp (-μ)) ≠ 0 := by
    rw [← Finset.sum_mul]
    exact (mul_pos hpos (Real.exp_pos _)).ne'
  simp only [hk, hz]
  rw [hs1, hs2, ← coe_sum, Ideal.div_coe hpos.ne', one_mul, sum_mul_coe _ _ (by positivity)]
  refine Finset.sum_congr rfl fun j _ => ?_
  rw [Ideal.div_coe hne, mul_comm (e j : EReal) (V j), mul_assoc, ← EReal.coe_mul, ← EReal.coe_mul, ← Finset.sum_mul]
  congr 2
  have := (Real.exp_pos (-μ)).ne'
  field_simp

end Cert.Soft
-- ==== Proof.Near.lean ====
module

public import Idealize.ShloMosaic.PureOps.Ideal
public import Idealize.ShloMosaic.Lib.Affine

@[expose] public section

/-! The band mask on row and column numbers, and the words that test it. -/

namespace Cert.Soft

open Idealize.ShloMosaic

/-- Two positions at most 128 apart. -/
def near (i j : ℕ) : Prop := i ≤ j + 128 ∧ j ≤ i + 128
instance (i j : ℕ) : Decidable (near i j) := by unfold near; infer_instance

theorem near_self (i : ℕ) : near i i := ⟨by omega, by omega⟩

/-- The magnitude of the difference of two small words, compared with 128. -/
theorem absi_near (a b : BitVec 32) (ha : a.toNat < 4096) (hb : b.toNat < 4096) :
    IntOp.cmpi .sle (IntOp.absi (IntOp.subi a b)) 128#32 = 1#1 ↔ near a.toNat b.toNat := by
  have hs : (IntOp.subi a b).toNat = (2 ^ 32 - b.toNat + a.toNat) % 2 ^ 32 := BitVec.toNat_sub a b
  have habs : (IntOp.absi (IntOp.subi a b)).toNat = if b.toNat ≤ a.toNat then a.toNat - b.toNat else b.toNat - a.toNat := by
    unfold IntOp.absi
    rw [BitVec.msb_eq_decide]
    by_cases h : b.toNat ≤ a.toNat
    · rw [if_pos h, if_neg (by simp only [decide_eq_true_eq]; omega)]
      omega
    · rw [if_neg h, if_pos (by simp only [decide_eq_true_eq]; omega), BitVec.toNat_neg]
      omega
  generalize IntOp.absi (IntOp.subi a b) = d at habs
  have hd : d.toNat < 4096 := by rw [habs]; split <;> omega
  have hle : (IntOp.cmpi .sle d 128#32 = 1#1) ↔ d.toNat ≤ 128 := by
    rw [IntOp.cmpi_sle, BitVec.toInt_eq_toNat_of_lt (by omega), BitVec.toInt_eq_toNat_of_lt (by decide)]
    exact Int.ofNat_le
  rw [hle, habs]
  unfold near
  split <;> omega

end Cert.Soft
-- ==== Proof.Partial.lean ====
module

public import proofs.«01_k».proof.Proof.Launch
public import proofs.«01_k».proof.Proof.Softmax
public import proofs.«01_k».proof.Proof.Near
public import Idealize.ShloMosaic.Lib.Pointwise
public import Idealize.ShloMosaic.Lib.Tactic.CleanTypes
public import Idealize.ShloMosaic.Lib.Pipeline.Value

@[expose] public section

set_option maxRecDepth 16384

/-! What the kernel computes, entry by entry, over the extended reals: a chunk's queries, its masked weights, its head
contexts and its partial product, each read at an index of the argument arrays. -/

noncomputable section

namespace Cert.KernelIdeal.Ring

open Cert.KernelIdeal.Gen
open Idealize.ShloMosaic Idealize.ShloMosaic.TcCoe Idealize.SL.Sem
open Cert.Soft

/-! ## The operations -/

theorem wqbOf_apply (w : Vec Ideal S1024x1024 .f32) (k n : Fin 1024) : wqbOf (F := Ideal) w (ix2 k n) = w (ix2 k n) * Ideal.ofBits .f32 0x3DB504F3#32 := by
  pointwise [wqbOf]

theorem wobOf_apply (w : Vec Ideal S1024x1024 .f32) (k n : Fin 1024) : wobOf (F := Ideal) w (ix2 k n) = w (ix2 k n) := by
  pointwise [wobOf]

theorem qOf_apply (x : Vec Ideal S1x256x1024 .f32) (wq : Vec Ideal S1024x1024 .bf16) (r : Fin 256) (n : Fin 1024) :
    qOf (F := Ideal) x wq (ix2 r n) = ∑ k : Fin 1024, x (ix3 0 r k) * wq (ix2 k n) := by
  pointwise [qOf]

theorem bias_apply (q k : BitVec 32) (r : Fin 256) (n : Fin 512) (hq : q.toNat + 256 ≤ 2048) (hk : k.toNat + 512 ≤ 2048) :
    bias (F := Ideal) q k (ix2 r n) = if near (q.toNat + r.val) (k.toNat + n.val) then 0 else ⊥ := by
  pointwise [bias]
  have hx : (IntOp.addi q (BitVec.ofNat 32 r.val)).toNat = q.toNat + r.val := by
    show (q + BitVec.ofNat 32 r.val).toNat = _
    rw [BitVec.toNat_add, BitVec.toNat_ofNat]
    omega
  have hy : (IntOp.addi k (BitVec.ofNat 32 n.val)).toNat = k.toNat + n.val := by
    show (k + BitVec.ofNat 32 n.val).toNat = _
    rw [BitVec.toNat_add, BitVec.toNat_ofNat]
    omega
  have ha := absi_near (IntOp.addi q (BitVec.ofNat 32 r.val)) (IntOp.addi k (BitVec.ofNat 32 n.val)) (by omega) (by omega)
  rw [hx, hy] at ha
  have hmask : Named.named (F := Ideal) (φ := .f32) κ "mask" 0xCE6E6B28#32 = (⊥ : EReal) := IdealRules.named_const.ideal_named_scalar κ "mask" _ ⊥ rfl
  by_cases hm : near (q.toNat + r.val) (k.toNat + n.val)
  · rw [if_pos hm, ha.mpr hm]
    rfl
  · rw [if_neg hm, (BitVec.eq_zero_or_eq_one _).resolve_right (fun h1 => hm (ha.mp h1))]
    exact hmask

theorem wOf_apply (h : Fin 8) (q : FVec Ideal S256x1024 .bf16) (b : FVec Ideal S256x512 .f32) (k : Vec Ideal S512x128 .f32) (r : Fin 256) (n : Fin 512) :
    wOf h q b k (ix2 r n) = Ideal.exp ((∑ d : Fin 128, q (ix2 r ⟨128 * h.val + d.val, by omega⟩) * k (ix2 n d)) + b (ix2 r n)) := by
  pointwise [wOf]

theorem hdOf_apply (h : Fin 8) (q : FVec Ideal S256x1024 .bf16) (b : FVec Ideal S256x512 .f32) (k v : Vec Ideal S512x128 .f32) (r : Fin 256) (d : Fin 128) :
    hdOf h q b k v (ix2 r d) = (∑ n : Fin 512, wOf h q b k (ix2 r n) * v (ix2 n d)) * Ideal.div 1 (∑ n : Fin 512, wOf h q b k (ix2 r n)) := by
  unfold hdOf
  generalize wOf h q b k = w
  pointwise

theorem partOf_apply (x : Vec Ideal S256x1024 .bf16) (wo : Vec Ideal S1024x1024 .bf16) (r : Fin 256) (n : Fin 1024) :
    partOf (F := Ideal) x wo (ix2 r n) = ∑ l : Fin 1024, x (ix2 r l) * wo (ix2 l n) := by
  pointwise [partOf]

/-! ## Where a chunk reads -/

/-- The chunk a device works on at step `j`. -/
def qb (c : Dev nD) (j : Fin 8) : Fin 8 := sh c (8 - j.val)
/-- The first key of a chunk's window. -/
def k0 (b : Fin 8) : ℕ := min 1536 (256 * b.val - 128)

theorem k0_le (b : Fin 8) : k0 b + 512 ≤ 2048 := by unfold k0; omega

theorem qW_toNat : ∀ (c : Dev nD) (j : Fin 8), (qW c (W j.val)).toNat = 256 * (qb c j).val := by decide +kernel
theorem kW_toNat : ∀ (c : Dev nD) (j : Fin 8), (kW c (W j.val)).toNat = k0 (qb c j) := by decide +kernel
theorem off1_eq : ∀ (c : Dev nD) (j h : Fin 8), k0_off1 c (W j.val) (W h.val) = ![0, k0 (qb c j), 8 * c.val + h.val, 0] := by decide +kernel

variable (m : (ℓ : Loc nD τ sig) → Buf (Elt Ideal) ℓ)

theorem xRow_apply (c : Dev nD) (j : Fin 8) (r : Fin 256) (k : Fin 1024) :
    xRow m c j (ix3 0 r k) = xC m c (ix3 0 ⟨256 * (qb c j).val + r.val, by omega⟩ k) := by
  unfold xRow
  rw [View.readAt_apply]
  show xC m c _ = _
  congr 1
  funext a
  apply Fin.ext
  show k0_off2 c (W j.val) a + 1 * (ix3 (0 : Fin 1) r k a).val = _
  refine (congrArg (· + 1 * (ix3 (0 : Fin 1) r k a).val) (congrFun (off2_eq c j) a)).trans ?_
  fin_cases a
  · rfl
  · show 256 * (qb c j).val + 1 * r.val = 256 * (qb c j).val + r.val
    omega
  · show 0 + 1 * k.val = k.val
    omega

theorem cast_win (R : Vec Ideal S1x512x1x128 .f32) (hc : S1x512x1x128.ShapeCasts S512x128) (n : Fin 512) (d : Fin 128) :
    shapeCast S512x128 R hc (ix2 n d) = R (ix4 0 n 0 d) := by
  pointwise

/-- Where a window reads its array. -/
def winIx (c : Dev nD) (j h : Fin 8) (n : Fin 512) (d : Fin 128) : S1x2048x64x128.Idx :=
  ix4 0 ⟨k0 (qb c j) + n.val, by have := k0_le (qb c j); omega⟩ ⟨8 * c.val + h.val, by have : c.val < 8 := c.isLt; omega⟩ d

theorem src_idx (c : Dev nD) (j h : Fin 8) (n : Fin 512) (d : Fin 128) :
    (srcR c j h).idx (ix4 (0 : Fin 1) n (0 : Fin 1) d) = winIx c j h n d := by
  funext a
  apply Fin.ext
  show k0_off1 c (W j.val) (W h.val) a + 1 * (ix4 (0 : Fin 1) n (0 : Fin 1) d a).val = _
  refine (congrArg (· + 1 * (ix4 (0 : Fin 1) n (0 : Fin 1) d a).val) (congrFun (off1_eq c j h) a)).trans ?_
  fin_cases a
  · rfl
  · show k0 (qb c j) + 1 * n.val = k0 (qb c j) + n.val
    omega
  · rfl
  · show 0 + 1 * d.val = d.val
    omega

theorem winK_apply (c : Dev nD) (j h : Fin 8) (n : Fin 512) (d : Fin 128) :
    winC m 0 c j h (ix2 n d) = (show FVec Ideal S1x2048x64x128 .f32 from m ((c : Thread nD τ).loc main_arg2)) (winIx c j h n d) :=
  (cast_win (kB.view.readAt (Elt Ideal) (srcR c j h).toLoadRect (m ((c : Thread nD τ).loc main_arg2))) (by decide) n d).trans
    (congrArg (m ((c : Thread nD τ).loc main_arg2)) (src_idx c j h n d))

theorem winV_apply (c : Dev nD) (j h : Fin 8) (n : Fin 512) (d : Fin 128) :
    winC m 1 c j h (ix2 n d) = (show FVec Ideal S1x2048x64x128 .f32 from m ((c : Thread nD τ).loc main_arg3)) (winIx c j h n d) :=
  (cast_win (vB.view.readAt (Elt Ideal) (srcR c j h).toLoadRect (m ((c : Thread nD τ).loc main_arg3))) (by decide) n d).trans
    (congrArg (m ((c : Thread nD τ).loc main_arg3)) (src_idx c j h n d))

end Cert.KernelIdeal.Ring
-- ==== Proof.Reference.lean ====
module

public import proofs.«01_k».proof.Proof.Gen.ReferenceIdeal.Run
public import proofs.«01_k».proof.Proof.Softmax
public import proofs.«01_k».proof.Proof.Near
public import Idealize.ShloMosaic.Lib.Pointwise
public import Idealize.ShloMosaic.Lib.Tactic.CleanTypes
public import Idealize.ShloMosaic.Lib.Routing.OpsOrder

@[expose] public section

set_option maxRecDepth 16384

/-! What the reference computes, entry by entry, over the extended reals: its result is cut into the mask, the scores,
the weights and the contexts, and each is read at an index. -/

noncomputable section

namespace Cert.ReferenceIdeal.Value

open Cert.ReferenceIdeal Cert.ReferenceIdeal.Gen Idealize.ShloMosaic Idealize.ShloMosaic.TcCoe Idealize.SL.Sem
open Cert.Soft

/-- Which keys each query sees. -/
def maskT : IVec S2048x2048 1 :=
  cmpi .sle (absi (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))

/-- Which queries see any key. -/
def keepT : IVec S2048 1 := Host.reduce IntOp.ori maskT (constantI S_ 1 0#1) reducesTo_S2048x2048_S2048_d1 h_S_

/-- The scaled scores, minus infinity where masked. -/
def scT (x : FVec Ideal S1x2048x1024 .f32) (wq : FVec Ideal S1024x8192 .f32) (k : FVec Ideal S1x2048x64x128 .f32) : FVec Ideal S1x64x2048x2048 .f32 :=
  select (broadcastInDim S1x64x2048x2048 ![0, 1, 2, 3] bcast_S1x1x2048x2048_S1x64x2048x2048_0_1_2_3
      (broadcastInDim S1x1x2048x2048 ![2, 3] bcast_S2048x2048_S1x1x2048x2048_2_3 maskT))
    (mulf (Host.dotGeneral dot_S1x2048x64x128_S1x2048x64x128_S1x64x2048x2048_3_3_1_1_02_02 none
        (shapeCast _ (Host.dotGeneral dot_S1x2048x1024_S1024x8192_S1x2048x8192_2_0_01_1_n_n none x wq) shapeCasts_S1x2048x8192_S1x2048x64x128) k)
      (broadcastInDim S1x64x2048x2048 ![] bcast_S_S1x64x2048x2048 (constant S_ .f32 0x3DB504F3#32)))
    (broadcastInDim S1x64x2048x2048 ![] bcast_S_S1x64x2048x2048 (id (constant S_ .f32 0xFF800000#32)))

/-- The exponentials of the scores less their row's maximum. -/
def expT (z : FVec Ideal S1x64x2048x2048 .f32) : FVec Ideal S1x64x2048x2048 .f32 :=
  Host.exp (subf z (broadcastInDim S1x64x2048x2048 ![0, 1, 2, 3] bcast_S1x64x2048x1_S1x64x2048x2048_0_1_2_3
    (broadcastInDim S1x64x2048x1 ![0, 1, 2] bcast_S1x64x2048_S1x64x2048x1_0_1_2
      (Host.reduce FloatOps.maximumf z (constant S_ .f32 0xFF800000#32) reducesTo_S1x64x2048x2048_S1x64x2048_d3 h_S_))))

/-- The sum of a row's exponentials. -/
def sumT (e : FVec Ideal S1x64x2048x2048 .f32) : FVec Ideal S1x64x2048 .f32 :=
  Host.reduceAdd e (constant S_ .f32 0x00000000#32) reducesTo_S1x64x2048x2048_S1x64x2048_d3 h_S_

/-- The divisors: a row's sum, or one for a query that sees no key. -/
def denT (keep : IVec S2048 1) (t : FVec Ideal S1x64x2048 .f32) : FVec Ideal S1x64x2048x1 .f32 :=
  select (broadcastInDim S1x64x2048x1 ![0, 1, 2, 3] bcast_S1x1x2048x1_S1x64x2048x1_0_1_2_3 (broadcastInDim S1x1x2048x1 ![2] bcast_S2048_S1x1x2048x1_2 keep))
    (broadcastInDim S1x64x2048x1 ![0, 1, 2] bcast_S1x64x2048_S1x64x2048x1_0_1_2 t)
    (broadcastInDim S1x64x2048x1 ![] bcast_S_S1x64x2048x1 (id (constant S_ .f32 0x3F800000#32)))

/-- The weights: the exponentials over the divisors, zero for a query that sees no key. -/
def wtT (keep : IVec S2048 1) (e : FVec Ideal S1x64x2048x2048 .f32) (d : FVec Ideal S1x64x2048x1 .f32) : FVec Ideal S1x64x2048x2048 .f32 :=
  select (broadcastInDim S1x64x2048x2048 ![0, 1, 2, 3] bcast_S1x1x2048x1_S1x64x2048x2048_0_1_2_3 (broadcastInDim S1x1x2048x1 ![2] bcast_S2048_S1x1x2048x1_2 keep))
    (Host.divf e (broadcastInDim S1x64x2048x2048 ![0, 1, 2, 3] bcast_S1x64x2048x1_S1x64x2048x2048_0_1_2_3 d))
    (broadcastInDim S1x64x2048x2048 ![] bcast_S_S1x64x2048x2048 (id (constant S_ .f32 0x00000000#32)))

/-- The weights of scores. -/
def softT (z : FVec Ideal S1x64x2048x2048 .f32) : FVec Ideal S1x64x2048x2048 .f32 :=
  wtT keepT (expT z) (denT keepT (sumT (expT z)))

/-- The product of the contexts with the output matrix. -/
def outT (v : FVec Ideal S1x2048x64x128 .f32) (p : FVec Ideal S1x64x2048x2048 .f32) (wo : FVec Ideal S8192x1024 .f32) : FVec Ideal S1x2048x1024 .f32 :=
  Host.dotGeneral dot_S1x2048x8192_S8192x1024_S1x2048x1024_2_0_01_1_n_n none
    (shapeCast _ (transpose S1x2048x64x128 [0, 3, 1, 2] (Host.dotGeneral dot_S1x2048x64x128_S1x64x2048x2048_S1x64x128x2048_1_3_3_2_02_01 none v p)
      transposes_S1x64x128x2048_S1x2048x64x128_0_3_1_2) shapeCasts_S1x2048x64x128_S1x2048x8192) wo

theorem res_eq (m : (ℓ : Loc nD τ sig) → Buf (Elt Ideal) ℓ) (c : Dev nD) :
    res_main_v34 m c = outT (m ((c.tc : Thread nD τ).loc main_arg3))
      (softT (scT (m ((c.tc : Thread nD τ).loc main_arg0)) (m ((c.tc : Thread nD τ).loc main_arg1)) (m ((c.tc : Thread nD τ).loc main_arg2))))
      (m ((c.tc : Thread nD τ).loc main_arg4)) := rfl

theorem sumT_apply (e : FVec Ideal S1x64x2048x2048 .f32) (h : Fin 64) (i : Fin 2048) :
    sumT e (ix3 0 h i) = ∑ j' : Fin 2048, e (ix4 0 h i j') := by
  pointwise [sumT]

theorem denT_apply (keep : IVec S2048 1) (t : FVec Ideal S1x64x2048 .f32) (h : Fin 64) (i : Fin 2048) (hk : keep (ix1 i) = 1#1) :
    denT keep t (ix4 0 h i 0) = t (ix3 0 h i) := by
  pointwise [denT]
  rw [hk]
  rfl

theorem wtT_apply (keep : IVec S2048 1) (e : FVec Ideal S1x64x2048x2048 .f32) (d : FVec Ideal S1x64x2048x1 .f32) (h : Fin 64) (i j : Fin 2048)
    (hk : keep (ix1 i) = 1#1) : wtT keep e d (ix4 0 h i j) = Ideal.div (e (ix4 0 h i j)) (d (ix4 0 h i 0)) := by
  pointwise [wtT]
  rw [hk]
  rfl

theorem maskT_apply (i j : Fin 2048) : maskT (ix2 i j) = 1#1 ↔ near i.val j.val := by
  pointwise [maskT]
  have hi : (BitVec.ofNat 32 i.val).toNat = i.val := by rw [BitVec.toNat_ofNat]; exact Nat.mod_eq_of_lt (by omega)
  have hj : (BitVec.ofNat 32 j.val).toNat = j.val := by rw [BitVec.toNat_ofNat]; exact Nat.mod_eq_of_lt (by omega)
  rw [absi_near _ _ (by omega) (by omega), hi, hj]

theorem keepT_apply (i : Fin 2048) : keepT (ix1 i) = 1#1 := by
  pointwise [keepT]
  rw [Routing.fold_ori]
  exact ⟨i, Finset.mem_univ i, (maskT_apply i i).mpr (near_self _)⟩

theorem negInf : Ideal.ofBits .f32 0xFF800000#32 = ⊥ := by simp [Ideal.ofBits, Ideal.ieee]

/-- A score before the mask. -/
def rawScore (x : FVec Ideal S1x2048x1024 .f32) (wq : FVec Ideal S1024x8192 .f32) (k : FVec Ideal S1x2048x64x128 .f32) (h : Fin 64) (i j : Fin 2048) : EReal :=
  (∑ d : Fin 128, (∑ n : Fin 1024, x (ix3 0 i n) * wq (ix2 n ⟨h.val * 128 + d.val, by omega⟩)) * k (ix4 0 j h d)) * Ideal.ofBits .f32 0x3DB504F3#32

theorem scT_apply (x : FVec Ideal S1x2048x1024 .f32) (wq : FVec Ideal S1024x8192 .f32) (k : FVec Ideal S1x2048x64x128 .f32) (h : Fin 64) (i j : Fin 2048) :
    scT x wq k (ix4 0 h i j) = masked (rawScore x wq k h i) (fun j => near i.val j.val) j := by
  unfold masked rawScore
  pointwise [scT]
  by_cases hm : near i.val j.val
  · rw [if_pos hm, (maskT_apply i j).mpr hm]
    rfl
  · rw [if_neg hm, (BitVec.eq_zero_or_eq_one _).resolve_right (fun h1 => hm ((maskT_apply i j).mp h1)), ← negInf]
    rfl

theorem expT_apply (z : FVec Ideal S1x64x2048x2048 .f32) (h : Fin 64) (i j : Fin 2048) :
    expT z (ix4 0 h i j) = Ideal.exp (z (ix4 0 h i j) - Finset.univ.fold max ⊥ (fun j' => z (ix4 0 h i j'))) := by
  pointwise [expT]
  rw [negInf]

theorem softT_apply (z : FVec Ideal S1x64x2048x2048 .f32) (h : Fin 64) (i j : Fin 2048) :
    softT z (ix4 0 h i j) = Ideal.div (Ideal.exp (z (ix4 0 h i j) - Finset.univ.fold max ⊥ (fun j' => z (ix4 0 h i j'))))
      (∑ j'' : Fin 2048, Ideal.exp (z (ix4 0 h i j'') - Finset.univ.fold max ⊥ (fun j' => z (ix4 0 h i j')))) := by
  rw [softT, wtT_apply _ _ _ _ _ _ (keepT_apply i), denT_apply _ _ _ _ (keepT_apply i), sumT_apply, expT_apply]
  simp only [expT_apply]

theorem outT_apply (v : FVec Ideal S1x2048x64x128 .f32) (p : FVec Ideal S1x64x2048x2048 .f32) (wo : FVec Ideal S8192x1024 .f32) (i : Fin 2048) (n : Fin 1024) :
    outT v p wo (ix3 0 i n) = ∑ l : Fin 8192, (∑ j : Fin 2048, v (ix4 0 j ⟨l.val / 128, by omega⟩ ⟨l.val % 128, by omega⟩) * p (ix4 0 ⟨l.val / 128, by omega⟩ i j)) * wo (ix2 l n) := by
  pointwise [outT]

/-- A query's context in one head, at one coordinate. -/
def ctxRef (x : FVec Ideal S1x2048x1024 .f32) (wq : FVec Ideal S1024x8192 .f32) (k v : FVec Ideal S1x2048x64x128 .f32) (h : Fin 64) (i : Fin 2048) (d : Fin 128) : EReal :=
  ∑ j : Fin 2048, v (ix4 0 j h d) * Ideal.div
    (Ideal.exp (masked (rawScore x wq k h i) (fun j => near i.val j.val) j - Finset.univ.fold max ⊥ (masked (rawScore x wq k h i) fun j => near i.val j.val)))
    (∑ j' : Fin 2048, Ideal.exp (masked (rawScore x wq k h i) (fun j => near i.val j.val) j' - Finset.univ.fold max ⊥ (masked (rawScore x wq k h i) fun j => near i.val j.val)))

/-- The result at an index. -/
theorem ref_apply (m : (ℓ : Loc nD τ sig) → Buf (Elt Ideal) ℓ) (c : Dev nD) (i : Fin 2048) (n : Fin 1024) :
    res_main_v34 m c (ix3 0 i n) = ∑ l : Fin 8192,
      ctxRef (m ((c.tc : Thread nD τ).loc main_arg0)) (m ((c.tc : Thread nD τ).loc main_arg1)) (m ((c.tc : Thread nD τ).loc main_arg2))
        (m ((c.tc : Thread nD τ).loc main_arg3)) ⟨l.val / 128, by omega⟩ i ⟨l.val % 128, by omega⟩
      * (show FVec Ideal S8192x1024 .f32 from m ((c.tc : Thread nD τ).loc main_arg4)) (ix2 l n) := by
  rw [res_eq, outT_apply]
  simp only [softT_apply, scT_apply]
  rfl

end Cert.ReferenceIdeal.Value
-- ==== Proof.Value.lean ====
module

public import proofs.«01_k».proof.Proof.Partial
public import proofs.«01_k».proof.Proof.Reference

@[expose] public section

set_option maxRecDepth 16384

/-! The kernel's result is the reference's, when the queries, their weights and the keys are real numbers: each device's
head contexts are the reference's for its heads, its partial products are the reference's last product cut to its rows
of the output matrix, and the ring sums them over the devices. -/

noncomputable section

namespace Cert.KernelIdeal.Ring

open Cert.KernelIdeal.Gen
open Idealize.ShloMosaic Idealize.ShloMosaic.TcCoe Idealize.SL.Sem
open Cert.Soft Cert.ReferenceIdeal.Value

theorem scale_real : IsReal (Ideal.ofBits .f32 0x3DB504F3#32) := by
  simp only [Ideal.ofBits, Ideal.ieee]
  rw [if_neg (by decide), if_neg (by decide)]
  exact ⟨_, rfl⟩

variable (m : (ℓ : Loc nD τ sig) → Buf (Elt Ideal) ℓ)
  (X : FVec Ideal S1x2048x1024 .f32) (Wq : FVec Ideal Cert.ReferenceIdeal.S1024x8192 .f32) (K V : FVec Ideal S1x2048x64x128 .f32)
  (Wo : FVec Ideal Cert.ReferenceIdeal.S8192x1024 .f32)

/-- The arrays are `m`'s arguments: whole on every device, except that the two weight matrices are cut into its block. -/
structure Reads : Prop where
  x : ∀ c : Dev nD, xC m c = X
  wq : ∀ (c : Dev nD) (k n : Fin 1024), wqC m c (ix2 k n) = Wq (ix2 k ⟨c.val * 1024 + n.val, by have : c.val < 8 := c.isLt; omega⟩)
  k : ∀ c : Dev nD, (show FVec Ideal S1x2048x64x128 .f32 from m ((c : Thread nD τ).loc main_arg2)) = K
  v : ∀ c : Dev nD, (show FVec Ideal S1x2048x64x128 .f32 from m ((c : Thread nD τ).loc main_arg3)) = V
  wo : ∀ (c : Dev nD) (l n : Fin 1024), woC m c (ix2 l n) = Wo (ix2 ⟨c.val * 1024 + l.val, by have : c.val < 8 := c.isLt; omega⟩ n)

/-- The arguments that enter the scores are real numbers. -/
structure Reals : Prop where
  x : ∀ (i : Fin 2048) (n : Fin 1024), IsReal (X (ix3 0 i n))
  wq : ∀ (n : Fin 1024) (l : Fin 8192), IsReal (Wq (ix2 n l))
  k : ∀ (j : Fin 2048) (h : Fin 64) (d : Fin 128), IsReal (K (ix4 0 j h d))

variable {m X Wq K V Wo} (hm : Reads m X Wq K V Wo) (hr : Reals X Wq K)

/-- The head of the whole model that is head `h` of device `c`. -/
def gh (c : Dev nD) (h : Fin 8) : Fin 64 := ⟨8 * c.val + h.val, by have : c.val < 8 := c.isLt; omega⟩
/-- The query that is row `r` of a chunk. -/
def gi (b : Fin 8) (r : Fin 256) : Fin 2048 := ⟨256 * b.val + r.val, by omega⟩

include hm in
theorem qC_apply (c : Dev nD) (j h : Fin 8) (r : Fin 256) (d : Fin 128) :
    qC m c j (ix2 r ⟨128 * h.val + d.val, by omega⟩)
      = ∑ k : Fin 1024, X (ix3 0 (gi (qb c j) r) k) * (Wq (ix2 k ⟨(gh c h).val * 128 + d.val, by omega⟩) * Ideal.ofBits .f32 0x3DB504F3#32) := by
  rw [qC, qOf_apply]
  refine Finset.sum_congr rfl fun k _ => ?_
  rw [xRow_apply, hm.x, wqbOf_apply, hm.wq]
  refine congrArg (fun a => X (ix3 0 (gi (qb c j) r) k) * (Wq (ix2 k a) * Ideal.ofBits .f32 0x3DB504F3#32)) (Fin.ext ?_)
  show c.val * 1024 + (128 * h.val + d.val) = (8 * c.val + h.val) * 128 + d.val
  omega

include hr in
theorem rawScore_real (h : Fin 64) (i j : Fin 2048) : IsReal (rawScore X Wq K h i j) :=
  (IsReal.sum _ fun d => (IsReal.sum _ fun n => (hr.x i n).mul (hr.wq n _)).mul (hr.k j h d)).mul scale_real

include hm hr in
theorem wOf_window (c : Dev nD) (j h : Fin 8) (r : Fin 256) (n : Fin 512) :
    wOf h (qC m c j) (biasC c j) (winC m 0 c j h) (ix2 r n)
      = Ideal.exp (rawScore X Wq K (gh c h) (gi (qb c j) r) (wnd (k0 (qb c j)) (k0_le _) n)
          + if near (gi (qb c j) r).val (wnd (k0 (qb c j)) (k0_le _) n).val then 0 else ⊥) := by
  rw [wOf_apply, biasC, bias_apply _ _ _ _ (by rw [qW_toNat]; omega) (by rw [kW_toNat]; exact k0_le _), qW_toNat, kW_toNat]
  refine congrArg (fun a => Ideal.exp (a + _)) ?_
  rw [rawScore, ← score_scale _ (fun k d => Wq (ix2 k ⟨(gh c h).val * 128 + d.val, by omega⟩)) _ _ (hr.x _) (fun k d => hr.wq k _) (hr.k _ _) scale_real]
  refine Finset.sum_congr rfl fun d _ => ?_
  rw [qC_apply hm, winK_apply, hm.k]
  rfl

/-- Every key a query of the chunk sees is in the chunk's window. -/
theorem near_window (b : Fin 8) (r : Fin 256) (j : Fin 2048) (hj : near (gi b r).val j.val) : k0 b ≤ j.val ∧ j.val < k0 b + 512 := by
  obtain ⟨h1, h2⟩ := hj
  simp only [gi] at h1 h2
  unfold k0
  omega

include hm hr in
theorem hdC_apply (c : Dev nD) (j h : Fin 8) (r : Fin 256) (d : Fin 128) :
    hdC m c j h (ix2 r d) = ctxRef X Wq K V (gh c h) (gi (qb c j) r) d := by
  rw [hdC, hdOf_apply]
  simp only [wOf_window hm hr, winV_apply, hm.v]
  exact softmax_window (k0 (qb c j)) (k0_le _) (rawScore X Wq K (gh c h) (gi (qb c j) r)) (rawScore_real hr _ _)
    (fun j' => near (gi (qb c j) r).val j'.val) (near_window _ _) (gi (qb c j) r) (near_self _) (fun j' => V (ix4 0 j' (gh c h) d))

/-- Device `c`'s share of the result at row `i`, column `n`. -/
def share (X : FVec Ideal S1x2048x1024 .f32) (Wq : FVec Ideal Cert.ReferenceIdeal.S1024x8192 .f32) (K V : FVec Ideal S1x2048x64x128 .f32)
    (Wo : FVec Ideal Cert.ReferenceIdeal.S8192x1024 .f32) (i : Fin 2048) (n : Fin 1024) (c : Fin 8) : EReal :=
  ∑ l : Fin 1024, ctxRef X Wq K V ⟨(c.val * 1024 + l.val) / 128, by omega⟩ i ⟨(c.val * 1024 + l.val) % 128, by omega⟩
    * Wo (ix2 ⟨c.val * 1024 + l.val, by omega⟩ n)

include hm hr in
theorem partC_apply (c : Dev nD) (j : Fin 8) (r : Fin 256) (n : Fin 1024) :
    partC m c j (ix2 r n) = share X Wq K V Wo (gi (qb c j) r) n c := by
  rw [partC, partOf_apply]
  refine Finset.sum_congr rfl fun l _ => ?_
  rw [wobOf_apply, hm.wo]
  refine congrArg (· * _) ?_
  show hdC m c j ⟨l.val / 128, _⟩ (ix2 r ⟨l.val % 128, _⟩) = _
  rw [hdC_apply hm hr]
  have hc : c.val < 8 := c.isLt
  refine congrArg₂ (fun a b => ctxRef X Wq K V a (gi (qb c j) r) b) (Fin.ext ?_) (Fin.ext ?_)
  · show 8 * c.val + l.val / 128 = (c.val * 1024 + l.val) / 128
    omega
  · show l.val % 128 = (c.val * 1024 + l.val) % 128
    omega

theorem qb_sh : ∀ (k t : Fin 8), qb (sh k t.val) t = k := by decide
theorem ring_back : ∀ k : Fin 8, prv k = sh k 7 ∧ prv (sh k 7) = sh k 6 ∧ prv (sh k 6) = sh k 5 ∧ prv (sh k 5) = sh k 4 ∧ prv (sh k 4) = sh k 3
    ∧ prv (sh k 3) = sh k 2 ∧ prv (sh k 2) = sh k 1 ∧ prv (sh k 1) = sh k 0 := by decide
theorem sh_eq : ∀ k t : Fin 8, sh k t.val = k + t := by decide

include hm hr in
/-- The ring's sum over its steps is the sum over the devices. -/
theorem tot_apply (k : Fin 8) (r : Fin 256) (n : Fin 1024) :
    tot m k (ix2 r n) = ∑ c : Fin 8, share X Wq K V Wo (gi k r) n c := by
  have e : ∀ t : Fin 8, partC m (sh k t.val) t (ix2 r n) = share X Wq K V Wo (gi k r) n (k + t) := fun t => by
    rw [partC_apply hm hr, qb_sh, sh_eq]
  have h1 : tot m k (ix2 r n) = ∑ t : Fin 8, partC m (sh k t.val) t (ix2 r n) := by
    obtain ⟨b7, b6, b5, b4, b3, b2, b1, b0⟩ := ring_back k
    rw [Fin.sum_univ_eight]
    unfold tot
    rw [b7]
    simp only [acc, b6, b5, b4, b3, b2, b1, b0]
    rfl
  rw [h1]
  simp only [e]
  exact Fintype.sum_equiv (Equiv.addLeft k) _ _ fun _ => rfl

/-- A sum over all the heads' coordinates, device by device. -/
theorem sum_devices (f : Fin 8192 → EReal) : ∑ l, f l = ∑ c : Fin 8, ∑ l : Fin 1024, f ⟨c.val * 1024 + l.val, by omega⟩ := by
  rw [← Fintype.sum_prod_type']
  refine (Fintype.sum_equiv (finProdFinEquiv (m := 8) (n := 1024)) _ _ fun p => congrArg f (Fin.ext ?_)).symm
  show p.1.val * 1024 + p.2.val = p.2.val + 1024 * p.1.val
  omega

include hm hr in
theorem outC_apply (i : Fin 2048) (n : Fin 1024) :
    outC m (ix3 0 i n) = ∑ l : Fin 8192, ctxRef X Wq K V ⟨l.val / 128, by omega⟩ i ⟨l.val % 128, by omega⟩ * Wo (ix2 l n) := by
  rw [sum_devices]
  refine (tot_apply hm hr ⟨i.val / 256, by omega⟩ ⟨i.val % 256, by omega⟩ n).trans ?_
  have hi : gi ⟨i.val / 256, by omega⟩ ⟨i.val % 256, by omega⟩ = i := Fin.ext (Nat.div_add_mod i.val 256)
  rw [hi]
  rfl

include hm hr in
/-- The two results agree. -/
theorem out_eq (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = X)
    (h1 : m' ((c.tc : Thread Cert.ReferenceIdeal.nD Cert.ReferenceIdeal.τ).loc Cert.ReferenceIdeal.main_arg1) = Wq)
    (h2 : m' ((c.tc : Thread Cert.ReferenceIdeal.nD Cert.ReferenceIdeal.τ).loc Cert.ReferenceIdeal.main_arg2) = K)
    (h3 : m' ((c.tc : Thread Cert.ReferenceIdeal.nD Cert.ReferenceIdeal.τ).loc Cert.ReferenceIdeal.main_arg3) = V)
    (h4 : m' ((c.tc : Thread Cert.ReferenceIdeal.nD Cert.ReferenceIdeal.τ).loc Cert.ReferenceIdeal.main_arg4) = Wo) :
    outC m = res_main_v34 m' c := by
  funext (j : S1x2048x1024.Idx)
  have hj : j = ix3 (0 : Fin 1) (j 1 : Fin 2048) (j 2 : Fin 1024) := by
    funext a
    fin_cases a
    · exact Subsingleton.elim (α := Fin 1) _ _
    · rfl
    · rfl
  rw [hj]
  refine (outC_apply hm hr (j 1) (j 2)).trans (Eq.trans ?_ (ref_apply m' c (j 1) (j 2)).symm)
  rw [h0, h1, h2, h3, h4]

end Cert.KernelIdeal.Ring
-- ==== Proof.Finite.lean ====
module

public import proofs.«01_k».proof.Proof.Gen.Pre_finite_inputs_KernelIdeal
public import proofs.«01_k».proof.Proof.Softmax
public import Idealize.ShloMosaic.Lib.ReduceAll
public import Idealize.ShloMosaic.Lib.Affine

@[expose] public section

/-! What the precondition says: every element of the queries, of their weights and of the keys is a real number. -/

noncomputable section

namespace Cert.Pre_finite_inputs_KernelIdeal

open Cert.Pre_finite_inputs_KernelIdeal.Gen
open Idealize.ShloMosaic Cert.Soft

/-- An extended real whose magnitude the comparison finds below plus infinity. -/
theorem real_of_cmp (x : EReal) (h : FloatOps.cmpf (F := Ideal) (φ := .f32) .olt (FloatOps.absf (F := Ideal) (φ := .f32) x) (Ideal.ofBits .f32 0x7F800000#32) = 1#1) :
    IsReal x := by
  have hinf : Ideal.ofBits .f32 0x7F800000#32 = ⊤ := by simp [Ideal.ofBits, Ideal.ieee]
  rw [hinf, Ideal.cmpf_def, Ideal.absf_def] at h
  refine isReal_of_abs ?_
  by_contra hn
  simp [Ideal.cmp, hn] at h

theorem fn_real (a0 : FVec Ideal S1x2048x1024 .f32) (a1 : FVec Ideal S1024x1024 .f32) (a2 a3 : FVec Ideal S1x2048x64x128 .f32) (a4 : FVec Ideal S1024x1024 .f32)
    (h : fn a0 a1 a2 a3 a4 = fun _ => 1#1) : (∀ i, IsReal (a0 i)) ∧ (∀ i, IsReal (a1 i)) ∧ ∀ i, IsReal (a2 i) := by
  dsimp only [fn] at h
  have hs : Subsingleton S_.Idx := ⟨fun a b => funext fun k => k.elim0⟩
  have h' := congrFun h (fun k => k.elim0)
  obtain ⟨h01, h2⟩ := IntOp.andi_eq_one.1 h'
  obtain ⟨h0, h1⟩ := IntOp.andi_eq_one.1 h01
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i)⟩

end Cert.Pre_finite_inputs_KernelIdeal
-- ==== Proof.lean ====
/-
  The claims of this certificate, proved: the frames, that the named constant is the value its table gives, and
  that over the extended reals the kernel computes what the reference does.
-/
module

public import proofs.«01_k».proof.Defs
public import proofs.«01_k».proof.Proof.Same
public import proofs.«01_k».proof.Proof.Launch
public import proofs.«01_k».proof.Proof.Gen.ReferenceIdeal.Run
public import proofs.«01_k».proof.Proof.Value
public import proofs.«01_k».proof.Proof.Finite
public import proofs.«01_k».proof.Proof.Gen.Pre_finite_inputs_KernelIdeal
public import proofs.«01_k».proof.Proof.Gen.Pre_finite_inputs_ReferenceIdeal

@[expose] public section

noncomputable section

namespace Cert.Proof

open Idealize.ShloMosaic Idealize.SL.Sem Cert.Soft

/-- The printed kernel's run ends with its arguments unchanged and every counter at zero. -/
theorem frame_kernel : Cert.quiescent_Kernel (hKernel := Cert.Kernel.Gen.facts) := by
  rw [Cert.Same.quiet_eq]
  letI := Cert.Same.lit
  exact fun m ρ _ => (θ_run Cert.KernelIdeal.defs _ _).mono (fun _ h => ⟨fun c => (h.1 c).2, h.2⟩)
    (Cert.KernelIdeal.Ring.run_main (F := Bits) m ρ)

/-- So does the idealized kernel's. -/
theorem frame_ideal : Cert.quiescent_KernelIdeal (hKernelIdeal := Cert.KernelIdeal.Gen.facts) :=
  fun m ρ _ => (θ_run Cert.KernelIdeal.defs _ _).mono (fun _ h => ⟨fun c => (h.1 c).2, h.2⟩)
    (Cert.KernelIdeal.Ring.run_main (F := Ideal) m ρ)

/-- And the reference's, which declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Over the extended reals both programs run and leave the same result, when the precondition holds. -/
theorem equal_results : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := Cert.Pre_finite_inputs_KernelIdeal.Gen.facts) := by
  intro m ρ m' ρ' hpre hargs
  have hreads : Cert.KernelIdeal.Ring.Reads m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c => (Cert.KernelIdeal.Ring.xC_eq m c).trans (hargs c).1, fun c k n => ?_, fun c => (hargs c).2.2.1, fun c => (hargs c).2.2.2.1, fun c l n => ?_⟩
    · refine (congrFun ((Cert.KernelIdeal.Ring.wqC_eq m c).trans (hargs c).2.1) _).trans ?_
      refine congrArg (m' _) (funext fun a => ?_)
      fin_cases a <;> rfl
    · refine (congrFun ((Cert.KernelIdeal.Ring.woC_eq m c).trans (hargs c).2.2.2.2) _).trans ?_
      refine congrArg (m' _) (funext fun a => ?_)
      fin_cases a <;> rfl
  have hf := fun c => Cert.Pre_finite_inputs_KernelIdeal.fn_real _ _ _ _ _ (hpre c)
  have hreals : Cert.KernelIdeal.Ring.Reals (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    refine ⟨fun i n => ?_, fun n l => ?_, fun j h d => ?_⟩
    · rw [← (hargs 0).1]
      exact (hf 0).1 _
    · let c : Dev Cert.KernelIdeal.nD := ⟨l.val / 1024, by have := l.isLt; show l.val / 1024 < 8; omega⟩
      have h1 : IsReal (Cert.KernelIdeal.Ring.wqC m c (ix2 n ⟨l.val % 1024, Nat.mod_lt _ (by decide)⟩)) := by
        rw [Cert.KernelIdeal.Ring.wqC_eq m c]
        exact (hf c).2.1 _
      rw [hreads.wq] at h1
      have hl : (⟨l.val / 1024 * 1024 + l.val % 1024, by omega⟩ : Fin 8192) = l := Fin.ext (Nat.div_add_mod' _ _)
      rw [hl] at h1
      exact h1
    · rw [← (hargs 0).2.2.1]
      exact (hf 0).2.2 _
  refine ⟨Cert.ReferenceIdeal.Value.res_main_v34 m' 0, ?_, ?_⟩
  · refine (θ_run Cert.KernelIdeal.defs _ _).mono (fun r h c => ⟨?_, (h.1 c).2⟩) (Cert.KernelIdeal.Ring.run_main (F := Ideal) m ρ)
    exact (h.1 c).1.trans (Cert.KernelIdeal.Ring.out_eq hreads hreals m' 0 rfl rfl rfl rfl rfl)
  · exact (θ_run Cert.ReferenceIdeal.defs _ _).mono (fun r h => h 0) (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts, Cert.Pre_finite_inputs_KernelIdeal.Gen.facts,
    Cert.Pre_finite_inputs_ReferenceIdeal.Gen.facts, frame_kernel, frame_ideal, fun m ρ _ => frame_ideal m ρ trivial,
    frame_reference, fun m ρ _ => frame_reference m ρ trivial,
    IdealRules.named_const.statement Cert.KernelIdeal.κ "mask" .f32 0xCE6E6B28#32 ⊥ rfl, equal_results⟩

end Cert.Proof

end
